-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_scores [hPre_finite_scores : Cert.Pre_finite_scores.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_scores.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).1 = (fun _ => 1#1)
    ∧ (Cert.Pre_finite_scores.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.1 = (fun _ => 1#1)
    ∧ (Cert.Pre_finite_scores.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_scores [hPre_finite_scores : Cert.Pre_finite_scores.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_scores.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).1 = (fun _ => 1#1)
    ∧ (Cert.Pre_finite_scores.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.1 = (fun _ => 1#1)
    ∧ (Cert.Pre_finite_scores.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_scores6 [hPre_finite_scores6 : Cert.Pre_finite_scores6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_scores6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).1 = (fun _ => 1#1)
    ∧ (Cert.Pre_finite_scores6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.1 = (fun _ => 1#1)
    ∧ (Cert.Pre_finite_scores6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_scores6 [hPre_finite_scores6 : Cert.Pre_finite_scores6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_scores6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).1 = (fun _ => 1#1)
    ∧ (Cert.Pre_finite_scores6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.1 = (fun _ => 1#1)
    ∧ (Cert.Pre_finite_scores6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_finite_scores [hKernel5Ideal : Cert.Kernel5Ideal.Facts] [hPre_finite_scores : Cert.Pre_finite_scores.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_scores m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_finite_scores [hReference5Ideal : Cert.Reference5Ideal.Facts] [hPre_finite_scores : Cert.Pre_finite_scores.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_scores m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Kernel6Ideal_pre_finite_scores6 [hKernel6Ideal : Cert.Kernel6Ideal.Facts] [hPre_finite_scores6 : Cert.Pre_finite_scores6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_scores6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Reference6Ideal_pre_finite_scores6 [hReference6Ideal : Cert.Reference6Ideal.Facts] [hPre_finite_scores6 : Cert.Pre_finite_scores6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_scores6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v40)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v40) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v80) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v50)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v50) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v84) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  IdealRules.named_const.Statement Cert.Kernel5Ideal.κ "qk_scale" .f32 0x3E0293EE#32 ((((Real.sqrt 128) * (Real.log 2))⁻¹ : ℝ) : EReal)

def algebraic_Kernel5Ideal_Reference5Ideal_pre_finite_scores [hKernel5Ideal : Cert.Kernel5Ideal.Facts] [hReference5Ideal : Cert.Reference5Ideal.Facts] [hPre_finite_scores : Cert.Pre_finite_scores.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_scores m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v70) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  IdealRules.named_const.Statement Cert.Kernel6Ideal.κ "qk_scale" .f32 0x3E0293EE#32 ((((Real.sqrt 128) * (Real.log 2))⁻¹ : ℝ) : EReal)

def algebraic_Kernel6Ideal_Reference6Ideal_pre_finite_scores6 [hKernel6Ideal : Cert.Kernel6Ideal.Facts] [hReference6Ideal : Cert.Reference6Ideal.Facts] [hPre_finite_scores6 : Cert.Pre_finite_scores6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_scores6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v71) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite_scores : Cert.Pre_finite_scores.Facts) (hPre_finite_scores6 : Cert.Pre_finite_scores6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_scores (hKernel5Ideal := hKernel5Ideal) (hPre_finite_scores := hPre_finite_scores)
    ∧ quiescent_Reference5Ideal (hReference5Ideal := hReference5Ideal)
    ∧ quiescent_Reference5Ideal_pre_finite_scores (hReference5Ideal := hReference5Ideal) (hPre_finite_scores := hPre_finite_scores)
    ∧ quiescent_Kernel6 (hKernel6 := hKernel6)
    ∧ quiescent_Kernel6Ideal (hKernel6Ideal := hKernel6Ideal)
    ∧ quiescent_Kernel6Ideal_pre_finite_scores6 (hKernel6Ideal := hKernel6Ideal) (hPre_finite_scores6 := hPre_finite_scores6)
    ∧ quiescent_Reference6Ideal (hReference6Ideal := hReference6Ideal)
    ∧ quiescent_Reference6Ideal_pre_finite_scores6 (hReference6Ideal := hReference6Ideal) (hPre_finite_scores6 := hPre_finite_scores6)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_scores (hKernel5Ideal := hKernel5Ideal) (hReference5Ideal := hReference5Ideal) (hPre_finite_scores := hPre_finite_scores)
    ∧ preserves_Kernel6_Kernel6Ideal
    ∧ algebraic_Kernel6Ideal_Reference6Ideal_pre_finite_scores6 (hKernel6Ideal := hKernel6Ideal) (hReference6Ideal := hReference6Ideal) (hPre_finite_scores6 := hPre_finite_scores6)
    ∧ preserves_Kernel7_Kernel7Ideal
    ∧ algebraic_Kernel7Ideal_Reference7Ideal (hKernel7Ideal := hKernel7Ideal) (hReference7Ideal := hReference7Ideal)
-- ==== Pre_finite.lean ====
abbrev S8192x6144 : Shape := ⟨2, ![8192, 6144]⟩
abbrev S1x128 : Shape := ⟨2, ![1, 128]⟩
abbrev S1x256 : Shape := ⟨2, ![1, 256]⟩
abbrev S8192x2048 : Shape := ⟨2, ![8192, 2048]⟩
abbrev S_ : Shape := ⟨0, ![]⟩

class Facts : Prop where
  slices_S8192x6144_S8192x2048_0_4096 : S8192x6144.Slices ![0, 4096] S8192x2048
  bcast_S_S8192x2048 : S_.BroadcastsInDim S8192x2048 (![] : Fin 0 → Fin S8192x2048.rank)
  bcast_S_S1x128 : S_.BroadcastsInDim S1x128 (![] : Fin 0 → Fin S1x128.rank)

variable [Facts]

def fn {F : FTy → Type} [FloatOps F] (main_arg0 : FVec F S8192x6144 .f32) (main_arg1 : FVec F S1x128 .f32) (main_arg2 : FVec F S1x128 .f32) (main_arg3 : FVec F S1x128 .f32) (main_arg4 : FVec F S1x128 .f32) (main_arg5 : FVec F S1x256 .f32) : IVec S8192x2048 1 × IVec S1x128 1 × IVec S1x128 1 × IVec S1x128 1 × IVec S1x128 1 :=
  let main_v0 : FVec F S8192x2048 .f32 := (extractStridedSlice S8192x2048 ![0, 4096] · slices_S8192x6144_S8192x2048_0_4096) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_v7 : FVec F S1x128 .f32 := Host.absf main_arg2
  let main_cst_1 : FVec F S_ .f32 := constant S_ .f32 0x7F800000#32
  let main_v8 : FVec F S1x128 .f32 := broadcastInDim S1x128 ![] bcast_S_S1x128 main_cst_1
  let main_v9 : IVec S1x128 1 := cmpf .olt main_v7 main_v8
  let main_v10 : FVec F S1x128 .f32 := Host.absf main_arg3
  let main_cst_2 : FVec F S_ .f32 := constant S_ .f32 0x7F800000#32
  let main_v11 : FVec F S1x128 .f32 := broadcastInDim S1x128 ![] bcast_S_S1x128 main_cst_2
  let main_v12 : IVec S1x128 1 := cmpf .olt main_v10 main_v11
  let main_v13 : FVec F S1x128 .f32 := Host.absf main_arg4
  let main_cst_3 : FVec F S_ .f32 := constant S_ .f32 0x7F800000#32
  let main_v14 : FVec F S1x128 .f32 := broadcastInDim S1x128 ![] bcast_S_S1x128 main_cst_3
  let main_v15 : IVec S1x128 1 := cmpf .olt main_v13 main_v14
  (main_v3, main_v6, main_v9, main_v12, main_v15)
-- ==== Pre_finite_scores.lean ====
abbrev S8192x2048 : Shape := ⟨2, ![8192, 2048]⟩
abbrev S1x2048 : Shape := ⟨2, ![1, 2048]⟩
abbrev S2048x2048 : Shape := ⟨2, ![2048, 2048]⟩
abbrev S2048x512 : Shape := ⟨2, ![2048, 512]⟩
abbrev S256x1024 : Shape := ⟨2, ![256, 1024]⟩
abbrev S512x2048 : Shape := ⟨2, ![512, 2048]⟩
abbrev S256x512 : Shape := ⟨2, ![256, 512]⟩
abbrev S_ : Shape := ⟨0, ![]⟩

class Facts : Prop where
  slices_S256x1024_S256x512_0_0 : S256x1024.Slices ![0, 0] S256x512
  bcast_S_S1x2048 : S_.BroadcastsInDim S1x2048 (![] : Fin 0 → Fin S1x2048.rank)
  bcast_S_S2048x512 : S_.BroadcastsInDim S2048x512 (![] : Fin 0 → Fin S2048x512.rank)
  bcast_S_S256x512 : S_.BroadcastsInDim S256x512 (![] : Fin 0 → Fin S256x512.rank)

variable [Facts]

def fn {F : FTy → Type} [FloatOps F] (main_arg0 : FVec F S8192x2048 .f32) (main_arg1 : FVec F S8192x2048 .f32) (main_arg2 : FVec F S1x2048 .f32) (main_arg3 : FVec F S1x2048 .f32) (main_arg4 : FVec F S2048x2048 .f32) (main_arg5 : FVec F S2048x512 .f32) (main_arg6 : FVec F S256x1024 .f32) (main_arg7 : FVec F S512x2048 .f32) (main_arg8 : FVec F S1x2048 .f32) : IVec S1x2048 1 × IVec S2048x512 1 × IVec S256x512 1 :=
  let main_v0 : FVec F S256x512 .f32 := (extractStridedSlice S256x512 ![0, 0] · slices_S256x1024_S256x512_0_0) main_arg6
  let main_v1 : FVec F S1x2048 .f32 := Host.absf main_arg3
  let main_cst : FVec F S_ .f32 := constant S_ .f32 0x7F800000#32
  let main_v2 : FVec F S1x2048 .f32 := broadcastInDim S1x2048 ![] bcast_S_S1x2048 main_cst
  let main_v3 : IVec S1x2048 1 := cmpf .olt main_v1 main_v2
  let main_v4 : FVec F S2048x512 .f32 := Host.absf main_arg5
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_v7 : FVec F S256x512 .f32 := Host.absf main_v0
  let main_cst_1 : FVec F S_ .f32 := constant S_ .f32 0x7F800000#32
  let main_v8 : FVec F S256x512 .f32 := broadcastInDim S256x512 ![] bcast_S_S256x512 main_cst_1
  let main_v9 : IVec S256x512 1 := cmpf .olt main_v7 main_v8
  (main_v3, main_v6, main_v9)
-- ==== Pre_finite_scores6.lean ====
abbrev S8192x1024 : Shape := ⟨2, ![8192, 1024]⟩
abbrev S8192x2048 : Shape := ⟨2, ![8192, 2048]⟩
abbrev S1x2048 : Shape := ⟨2, ![1, 2048]⟩
abbrev S2048x2048 : Shape := ⟨2, ![2048, 2048]⟩
abbrev S2048x512 : Shape := ⟨2, ![2048, 512]⟩
abbrev S256x1024 : Shape := ⟨2, ![256, 1024]⟩
abbrev S512x2048 : Shape := ⟨2, ![512, 2048]⟩
abbrev S256x512 : Shape := ⟨2, ![256, 512]⟩
abbrev S_ : Shape := ⟨0, ![]⟩

class Facts : Prop where
  slices_S256x1024_S256x512_0_0 : S256x1024.Slices ![0, 0] S256x512
  bcast_S_S1x2048 : S_.BroadcastsInDim S1x2048 (![] : Fin 0 → Fin S1x2048.rank)
  bcast_S_S2048x512 : S_.BroadcastsInDim S2048x512 (![] : Fin 0 → Fin S2048x512.rank)
  bcast_S_S256x512 : S_.BroadcastsInDim S256x512 (![] : Fin 0 → Fin S256x512.rank)

variable [Facts]

def fn {F : FTy → Type} [FloatOps F] (main_arg0 : FVec F S8192x1024 .f32) (main_arg1 : FVec F S8192x1024 .f32) (main_arg2 : FVec F S8192x2048 .f32) (main_arg3 : FVec F S1x2048 .f32) (main_arg4 : FVec F S1x2048 .f32) (main_arg5 : FVec F S2048x2048 .f32) (main_arg6 : FVec F S2048x512 .f32) (main_arg7 : FVec F S256x1024 .f32) (main_arg8 : FVec F S512x2048 .f32) (main_arg9 : FVec F S1x2048 .f32) : IVec S1x2048 1 × IVec S2048x512 1 × IVec S256x512 1 :=
  let main_v0 : FVec F S256x512 .f32 := (extractStridedSlice S256x512 ![0, 0] · slices_S256x1024_S256x512_0_0) main_arg7
  let main_v1 : FVec F S1x2048 .f32 := Host.absf main_arg4
  let main_cst : FVec F S_ .f32 := constant S_ .f32 0x7F800000#32
  let main_v2 : FVec F S1x2048 .f32 := broadcastInDim S1x2048 ![] bcast_S_S1x2048 main_cst
  let main_v3 : IVec S1x2048 1 := cmpf .olt main_v1 main_v2
  let main_v4 : FVec F S2048x512 .f32 := Host.absf main_arg6
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_v7 : FVec F S256x512 .f32 := Host.absf main_v0
  let main_cst_1 : FVec F S_ .f32 := constant S_ .f32 0x7F800000#32
  let main_v8 : FVec F S256x512 .f32 := broadcastInDim S256x512 ![] bcast_S_S256x512 main_cst_1
  let main_v9 : IVec S256x512 1 := cmpf .olt main_v7 main_v8
  (main_v3, main_v6, main_v9)
-- ==== Kernel.lean ====
abbrev S8192x6144 : Shape := ⟨2, ![8192, 6144]⟩
abbrev S1x128 : Shape := ⟨2, ![1, 128]⟩
abbrev S1x256 : Shape := ⟨2, ![1, 256]⟩
abbrev S_ : Shape := ⟨0, ![]⟩
abbrev S8192x2048 : Shape := ⟨2, ![8192, 2048]⟩
abbrev S8192x4096 : Shape := ⟨2, ![8192, 4096]⟩
abbrev S2048x8192 : Shape := ⟨2, ![2048, 8192]⟩
abbrev S1024x256 : Shape := ⟨2, ![1024, 256]⟩
abbrev S8192x256 : Shape := ⟨2, ![8192, 256]⟩
abbrev S256x8192 : Shape := ⟨2, ![256, 8192]⟩
abbrev S2x1x1024 : Shape := ⟨3, ![2, 1, 1024]⟩
abbrev S2x272x1024 : Shape := ⟨3, ![2, 272, 1024]⟩
abbrev S4x1024x1024 : Shape := ⟨3, ![4, 1024, 1024]⟩
abbrev S1024x128 : Shape := ⟨2, ![1024, 128]⟩
abbrev S1024x1024 : Shape := ⟨2, ![1024, 1024]⟩
abbrev S1x1024x1024 : Shape := ⟨3, ![1, 1024, 1024]⟩
abbrev S256x1024 : Shape := ⟨2, ![256, 1024]⟩
abbrev S16x1024 : Shape := ⟨2, ![16, 1024]⟩
abbrev S272x1024 : Shape := ⟨2, ![272, 1024]⟩
abbrev S1x1x1024 : Shape := ⟨3, ![1, 1, 1024]⟩
abbrev S1x1024 : Shape := ⟨2, ![1, 1024]⟩
abbrev S1024 : Shape := ⟨1, ![1024]⟩
abbrev S1x272x1024 : Shape := ⟨3, ![1, 272, 1024]⟩
abbrev S1 : Shape := ⟨1, ![1]⟩
abbrev S1x1 : Shape := ⟨2, ![1, 1]⟩
abbrev S1x256x1024 : Shape := ⟨3, ![1, 256, 1024]⟩
abbrev S1024x1 : Shape := ⟨2, ![1024, 1]⟩

abbrev nBuf : Space → Nat
  | .hbm => 22
  | .vmem => 16
  | .smem => 0
  | _ => 0

abbrev bufTy : (tb : Table) → Fin (tcTables nBuf tb) → BufTy
  | .hbm, ⟨0, _⟩ => ⟨S8192x6144, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x256, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x4096, .f32⟩
  | .hbm, ⟨17, _⟩ => ⟨S8192x6144, .f32⟩
  | .hbm, ⟨18, _⟩ => ⟨S8192x6144, .bf16⟩
  | .hbm, ⟨19, _⟩ => ⟨S8192x2048, .bf16⟩
  | .hbm, ⟨20, _⟩ => ⟨S2048x8192, .bf16⟩
  | .hbm, ⟨21, _⟩ => ⟨S8192x2048, .bf16⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S8192x256, .bf16⟩
  | .local _ .vmem, ⟨4, _⟩ => ⟨S256x8192, .bf16⟩
  | .local _ .vmem, ⟨5, _⟩ => ⟨S256x8192, .bf16⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x256, .f32⟩
  | .local _ .vmem, ⟨11, _⟩ => ⟨S1024x256, .bf16⟩
  | .local _ .vmem, ⟨12, _⟩ => ⟨S1024x256, .bf16⟩
  | .local _ .vmem, ⟨13, _⟩ => ⟨S2x1x1024, .f32⟩
  | .local _ .vmem, ⟨14, _⟩ => ⟨S2x272x1024, .f32⟩
  | .local _ .vmem, ⟨15, _⟩ => ⟨S4x1024x1024, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 8], ![false, false]⟩

def k0_mult1 : BitVec 32 :=
  let c0_i32 : BitVec 32 := 0#32
  c0_i32
@[reducible] def k0_t1_loop : Scf.Loop 32 :=
  let c0_i32_18 : BitVec 32 := 0#32
  let c3_i32 : BitVec 32 := 3#32
  let v27 : BitVec 32 := Scalar.addi c0_i32_18 c3_i32
  let c1_i32 : BitVec 32 := 1#32
  ⟨c0_i32_18, v27, c1_i32⟩
def k0_mult2 (k0_t1 : Fin k0_t1_loop.trips) : BitVec 32 :=
  let c2_i32 : BitVec 32 := 2#32
  let c0_i32_18 : BitVec 32 := 0#32
  let c1_i32 : BitVec 32 := 1#32
  let arg14 : BitVec 32 := Scf.iv c0_i32_18 c1_i32 k0_t1
  let v207 : BitVec 32 := Scalar.muli c2_i32 arg14
  let c1_i32_135 : BitVec 32 := 1#32
  let v208 : BitVec 32 := Scalar.addi v207 c1_i32_135
  let c1024_i32 : BitVec 32 := 1024#32
  let v209 : BitVec 32 := Scalar.muli v208 c1024_i32
  v209
def k0_off1 (k0_t1 : Fin k0_t1_loop.trips) (c1_i32_135 : BitVec 32) : Fin 2 → Nat :=
  let c2_i32 : BitVec 32 := 2#32
  let c0_i32_18 : BitVec 32 := 0#32
  let c1_i32 : BitVec 32 := 1#32
  let arg14 : BitVec 32 := Scf.iv c0_i32_18 c1_i32 k0_t1
  let v207 : BitVec 32 := Scalar.muli c2_i32 arg14
  let v208 : BitVec 32 := Scalar.addi v207 c1_i32_135
  let c1024_i32 : BitVec 32 := 1024#32
  let v209 : BitVec 32 := Scalar.muli v208 c1024_i32
  let v210 : BitVec 32 := v209
  let v211 : Index := Scalar.indexCast v210
  let c0_136 : Index := 0#32
  ![v211.toNat, 0]
def k0_off2 (k0_t1 : Fin k0_t1_loop.trips) (c1_i32_135 : BitVec 32) : Fin 2 → Nat :=
  let c2_i32 : BitVec 32 := 2#32
  let c0_i32_18 : BitVec 32 := 0#32
  let c1_i32 : BitVec 32 := 1#32
  let arg14 : BitVec 32 := Scf.iv c0_i32_18 c1_i32 k0_t1
  let v207 : BitVec 32 := Scalar.muli c2_i32 arg14
  let v208 : BitVec 32 := Scalar.addi v207 c1_i32_135
  let c1024_i32 : BitVec 32 := 1024#32
  let v209 : BitVec 32 := Scalar.muli v208 c1024_i32
  let v210 : BitVec 32 := v209
  let v220 : Index := Scalar.indexCast v210
  let c128_143 : Index := 128#32
  ![v220.toNat, 128]
def k0_mult3 (k0_t1 : Fin k0_t1_loop.trips) : BitVec 32 :=
  let c2_i32_150 : BitVec 32 := 2#32
  let c0_i32_18 : BitVec 32 := 0#32
  let c1_i32 : BitVec 32 := 1#32
  let arg14 : BitVec 32 := Scf.iv c0_i32_18 c1_i32 k0_t1
  let v229 : BitVec 32 := Scalar.muli c2_i32_150 arg14
  let c1024_i32_151 : BitVec 32 := 1024#32
  let v230 : BitVec 32 := Scalar.muli v229 c1024_i32_151
  v230
def k0_off3 (k0_t1 : Fin k0_t1_loop.trips) : Fin 2 → Nat :=
  let c0_152 : Index := 0#32
  let c2_i32_150 : BitVec 32 := 2#32
  let c0_i32_18 : BitVec 32 := 0#32
  let c1_i32 : BitVec 32 := 1#32
  let arg14 : BitVec 32 := Scf.iv c0_i32_18 c1_i32 k0_t1
  let v229 : BitVec 32 := Scalar.muli c2_i32_150 arg14
  let c1024_i32_151 : BitVec 32 := 1024#32
  let v230 : BitVec 32 := Scalar.muli v229 c1024_i32_151
  let v231 : BitVec 32 := v230
  let v232 : Index := Scalar.indexCast v231
  ![0, v232.toNat]
def k0_mult4 (k0_t1 : Fin k0_t1_loop.trips) : BitVec 32 :=
  let c2_i32_188 : BitVec 32 := 2#32
  let c0_i32_18 : BitVec 32 := 0#32
  let c1_i32 : BitVec 32 := 1#32
  let arg14 : BitVec 32 := Scf.iv c0_i32_18 c1_i32 k0_t1
  let v287 : BitVec 32 := Scalar.muli c2_i32_188 arg14
  let c2_i32_189 : BitVec 32 := 2#32
  let v288 : BitVec 32 := Scalar.addi v287 c2_i32_189
  let c1024_i32_190 : BitVec 32 := 1024#32
  let v289 : BitVec 32 := Scalar.muli v288 c1024_i32_190
  v289
def k0_mult5 (k0_t1 : Fin k0_t1_loop.trips) : BitVec 32 :=
  let c2_i32_205 : BitVec 32 := 2#32
  let c0_i32_18 : BitVec 32 := 0#32
  let c1_i32 : BitVec 32 := 1#32
  let arg14 : BitVec 32 := Scf.iv c0_i32_18 c1_i32 k0_t1
  let v309 : BitVec 32 := Scalar.muli c2_i32_205 arg14
  let c1_i32_206 : BitVec 32 := 1#32
  let v310 : BitVec 32 := Scalar.addi v309 c1_i32_206
  let c1024_i32_207 : BitVec 32 := 1024#32
  let v311 : BitVec 32 := Scalar.muli v310 c1024_i32_207
  v311
def k0_off4 (k0_t1 : Fin k0_t1_loop.trips) : Fin 2 → Nat :=
  let c0_208 : Index := 0#32
  let c2_i32_205 : BitVec 32 := 2#32
  let c0_i32_18 : BitVec 32 := 0#32
  let c1_i32 : BitVec 32 := 1#32
  let arg14 : BitVec 32 := Scf.iv c0_i32_18 c1_i32 k0_t1
  let v309 : BitVec 32 := Scalar.muli c2_i32_205 arg14
  let c1_i32_206 : BitVec 32 := 1#32
  let v310 : BitVec 32 := Scalar.addi v309 c1_i32_206
  let c1024_i32_207 : BitVec 32 := 1024#32
  let v311 : BitVec 32 := Scalar.muli v310 c1024_i32_207
  let v312 : BitVec 32 := v311
  let v313 : Index := Scalar.indexCast v312
  ![0, v313.toNat]
def k0_mult6 : BitVec 32 :=
  let c7168_i32 : BitVec 32 := 7168#32
  c7168_i32
def k0_mult7 : BitVec 32 :=
  let c6144_i32 : BitVec 32 := 6144#32
  c6144_i32
def k0_mult8 : BitVec 32 :=
  let c7168_i32_68 : BitVec 32 := 7168#32
  c7168_i32_68
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8192x6144 : Shape := ⟨2, ![8192, 6144]⟩
abbrev S1x128 : Shape := ⟨2, ![1, 128]⟩
abbrev S1x256 : Shape := ⟨2, ![1, 256]⟩
abbrev S8192x2048 : Shape := ⟨2, ![8192, 2048]⟩
abbrev S8192x8x2x128 : Shape := ⟨4, ![8192, 8, 2, 128]⟩
abbrev S8192x8x256 : Shape := ⟨3, ![8192, 8, 256]⟩
abbrev S_ : Shape := ⟨0, ![]⟩
abbrev S8x2x8192x8192 : Shape := ⟨4, ![8, 2, 8192, 8192]⟩
abbrev S8x2x8192 : Shape := ⟨3, ![8, 2, 8192]⟩
abbrev S8x2x8192x1 : Shape := ⟨4, ![8, 2, 8192, 1]⟩
abbrev S8x1x8192x8192 : Shape := ⟨4, ![8, 1, 8192, 8192]⟩
abbrev S8x8192x8192 : Shape := ⟨3, ![8, 8192, 8192]⟩
abbrev S8x256x8192 : Shape := ⟨3, ![8, 256, 8192]⟩
abbrev S256 : Shape := ⟨1, ![256]⟩
abbrev S8192x8 : Shape := ⟨2, ![8192, 8]⟩
abbrev S8192x8x1 : Shape := ⟨3, ![8192, 8, 1]⟩
abbrev S1x1x256 : Shape := ⟨3, ![1, 1, 256]⟩

abbrev nBuf : Space → Nat
  | .hbm => 75
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x256, .f32⟩
  | .hbm, ⟨6, _⟩ => ⟨S8192x2048, .f32⟩
  | .hbm, ⟨7, _⟩ => ⟨S8192x8x2x128, .f32⟩
  | .hbm, ⟨8, _⟩ => ⟨S8192x2048, .f32⟩
  | .hbm, ⟨9, _⟩ => ⟨S8192x8x2x128, .f32⟩
  | .hbm, ⟨10, _⟩ => ⟨S8192x2048, .f32⟩
  | .hbm, ⟨11, _⟩ => ⟨S8192x8x256, .f32⟩
  | .hbm, ⟨12, _⟩ => ⟨S1x128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8x2x8192x8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8x2x8192x8192, .f32⟩
  | .hbm, ⟨29, _⟩ => ⟨S8x2x8192x8192, .f32⟩
  | .hbm, ⟨30, _⟩ => ⟨S_, .f32⟩
  | .hbm, ⟨31, _⟩ => ⟨S8x2x8192, .f32⟩
  | .hbm, ⟨32, _⟩ => ⟨S_, .f32⟩
  | .hbm, ⟨33, _⟩ => ⟨S8x2x8192, .f32⟩
  | .hbm, ⟨34, _⟩ => ⟨S8x2x8192, .f32⟩
  | .hbm, ⟨35, _⟩ => ⟨S8x2x8192x1, .f32⟩
  | .hbm, ⟨36, _⟩ => ⟨S8x2x8192x8192, .f32⟩
  | .hbm, ⟨37, _⟩ => ⟨S8x2x8192x8192, .f32⟩
  | .hbm, ⟨38, _⟩ => ⟨S8x2x8192x8192, .f32⟩
  | .hbm, ⟨39, _⟩ => ⟨S_, .f32⟩
  | .hbm, ⟨40, _⟩ => ⟨S8x2x8192, .f32⟩
  | .hbm, ⟨41, _⟩ => ⟨S8x2x8192x1, .f32⟩
  | .hbm, ⟨42, _⟩ => ⟨S8x2x8192x8192, .f32⟩
  | .hbm, ⟨43, _⟩ => ⟨S8x2x8192x8192, .f32⟩
  | .hbm, ⟨44, _⟩ => ⟨S8x1x8192x8192, .f32⟩
  | .hbm, ⟨45, _⟩ => ⟨S8x8192x8192, .f32⟩
  | .hbm, ⟨46, _⟩ => ⟨S8x1x8192x8192, .f32⟩
  | .hbm, ⟨47, _⟩ => ⟨S8x8192x8192, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S8x256x8192, .f32⟩
  | .hbm, ⟨52, _⟩ => ⟨S8192x8x256, .f32⟩
  | .hbm, ⟨53, _⟩ => ⟨S256, .f32⟩
  | .hbm, ⟨54, _⟩ => ⟨S8192x8x256, .f32⟩
  | .hbm, ⟨55, _⟩ => ⟨S_, .f32⟩
  | .hbm, ⟨56, _⟩ => ⟨S8192x8, .f32⟩
  | .hbm, ⟨57, _⟩ => ⟨S8192x8x1, .f32⟩
  | .hbm, ⟨58, _⟩ => ⟨S_, .f32⟩
  | .hbm, ⟨59, _⟩ => ⟨S8192x8x1, .f32⟩
  | .hbm, ⟨60, _⟩ => ⟨S8192x8x1, .f32⟩
  | .hbm, ⟨61, _⟩ => ⟨S_, .f32⟩
  | .hbm, ⟨62, _⟩ => ⟨S8192x8x1, .f32⟩
  | .hbm, ⟨63, _⟩ => ⟨S8192x8x1, .f32⟩
  | .hbm, ⟨64, _⟩ => ⟨S8192x8x1, .f32⟩
  | .hbm, ⟨65, _⟩ => ⟨S8192x8x256, .f32⟩
  | .hbm, ⟨66, _⟩ => ⟨S8192x8x256, .f32⟩
  | .hbm, ⟨67, _⟩ => ⟨S1x1x256, .f32⟩
  | .hbm, ⟨68, _⟩ => ⟨S8192x8x256, .f32⟩
  | .hbm, ⟨69, _⟩ => ⟨S8192x8x256, .f32⟩
  | .hbm, ⟨70, _⟩ => ⟨S_, .f32⟩
  | .hbm, ⟨71, _⟩ => ⟨S8192x8x256, .f32⟩
  | .hbm, ⟨72, _⟩ => ⟨S8192x8x256, .f32⟩
  | .hbm, ⟨73, _⟩ => ⟨S8192x2048, .f32⟩
  | .hbm, ⟨74, _⟩ => ⟨S8192x2048, .bf16⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== Kernel2.lean ====
abbrev S8192x2048 : Shape := ⟨2, ![8192, 2048]⟩
abbrev S1x2048 : Shape := ⟨2, ![1, 2048]⟩
abbrev S2x2048x8192 : Shape := ⟨3, ![2, 2048, 8192]⟩
abbrev S2x8192x2048 : Shape := ⟨3, ![2, 8192, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2x2048x8192, .f32⟩
  | .hbm, ⟨3, _⟩ => ⟨S2x8192x2048, .f32⟩
  | .hbm, ⟨4, _⟩ => ⟨S1x2048, .f32⟩
  | .hbm, ⟨5, _⟩ => ⟨S2x2048x8192, .bf16⟩
  | .hbm, ⟨6, _⟩ => ⟨S2x8192x2048, .bf16⟩
  | .hbm, ⟨7, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8192x2048 : Shape := ⟨2, ![8192, 2048]⟩
abbrev S1x2048 : Shape := ⟨2, ![1, 2048]⟩
abbrev S2x2048x8192 : Shape := ⟨3, ![2, 2048, 8192]⟩
abbrev S2x8192x2048 : Shape := ⟨3, ![2, 8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x8192 : Shape := ⟨3, ![1, 2048, 8192]⟩
abbrev S2048x8192 : Shape := ⟨2, ![2048, 8192]⟩
abbrev S8192x8192 : Shape := ⟨2, ![8192, 8192]⟩
abbrev S1x8192x2048 : Shape := ⟨3, ![1, 8192, 2048]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2x2048x8192, .f32⟩
  | .hbm, ⟨3, _⟩ => ⟨S2x8192x2048, .f32⟩
  | .hbm, ⟨4, _⟩ => ⟨S1x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S1x2048x8192, .f32⟩
  | .hbm, ⟨23, _⟩ => ⟨S2048x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S1x8192x2048, .f32⟩
  | .hbm, ⟨30, _⟩ => ⟨S8192x2048, .f32⟩
  | .hbm, ⟨31, _⟩ => ⟨S8192x2048, .f32⟩
  | .hbm, ⟨32, _⟩ => ⟨S2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x2048, .f32⟩
  | .hbm, ⟨45, _⟩ => ⟨S8192x2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_cst : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel3.lean ====
abbrev S8192x2048 : Shape := ⟨2, ![8192, 2048]⟩
abbrev S1x2048 : Shape := ⟨2, ![1, 2048]⟩
abbrev S2048x6144 : Shape := ⟨2, ![2048, 6144]⟩
abbrev S6144 : Shape := ⟨1, ![6144]⟩
abbrev S1x6144 : Shape := ⟨2, ![1, 6144]⟩
abbrev S_ : Shape := ⟨0, ![]⟩
abbrev S16 : Shape := ⟨1, ![16]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S8192x96 : Shape := ⟨2, ![8192, 96]⟩
abbrev S8192x128 : Shape := ⟨2, ![8192, 128]⟩
abbrev S8192x112 : Shape := ⟨2, ![8192, 112]⟩
abbrev S8192x6144 : Shape := ⟨2, ![8192, 6144]⟩
abbrev S1024x2048 : Shape := ⟨2, ![1024, 2048]⟩
abbrev S2048x512 : Shape := ⟨2, ![2048, 512]⟩
abbrev S1x512 : Shape := ⟨2, ![1, 512]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩
abbrev S128x2048 : Shape := ⟨2, ![128, 2048]⟩
abbrev S128x512 : Shape := ⟨2, ![128, 512]⟩
abbrev S128x128 : Shape := ⟨2, ![128, 128]⟩

abbrev nBuf : Space → Nat
  | .hbm => 60
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x6144, .f32⟩
  | .hbm, ⟨3, _⟩ => ⟨S6144, .i32⟩
  | .hbm, ⟨4, _⟩ => ⟨S1x6144, .i32⟩
  | .hbm, ⟨5, _⟩ => ⟨S_, .f32⟩
  | .hbm, ⟨6, _⟩ => ⟨S1x6144, .f32⟩
  | .hbm, ⟨7, _⟩ => ⟨S_, .i32⟩
  | .hbm, ⟨8, _⟩ => ⟨S1x6144, .i32⟩
  | .hbm, ⟨9, _⟩ => ⟨S1x6144, .i1⟩
  | .hbm, ⟨10, _⟩ => ⟨S_, .i32⟩
  | .hbm, ⟨11, _⟩ => ⟨S1x6144, .i32⟩
  | .hbm, ⟨12, _⟩ => ⟨S1x6144, .i1⟩
  | .hbm, ⟨13, _⟩ => ⟨S1x6144, .i1⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x6144, .f32⟩
  | .hbm, ⟨22, _⟩ => ⟨S1x6144, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S8192, .f32⟩
  | .hbm, ⟨40, _⟩ => ⟨S8192x1, .f32⟩
  | .hbm, ⟨41, _⟩ => ⟨S1x16, .f32⟩
  | .hbm, ⟨42, _⟩ => ⟨S8192x16, .f32⟩
  | .hbm, ⟨43, _⟩ => ⟨S8192x16, .f32⟩
  | .hbm, ⟨44, _⟩ => ⟨S8192x16, .f32⟩
  | .hbm, ⟨45, _⟩ => ⟨S8192x16, .f32⟩
  | .hbm, ⟨46, _⟩ => ⟨S8192x16, .f32⟩
  | .hbm, ⟨47, _⟩ => ⟨S_, .f32⟩
  | .hbm, ⟨48, _⟩ => ⟨S8192x96, .f32⟩
  | .hbm, ⟨49, _⟩ => ⟨S8192x128, .f32⟩
  | .hbm, ⟨50, _⟩ => ⟨S8192x16, .f32⟩
  | .hbm, ⟨51, _⟩ => ⟨S_, .f32⟩
  | .hbm, ⟨52, _⟩ => ⟨S8192x112, .f32⟩
  | .hbm, ⟨53, _⟩ => ⟨S8192x128, .f32⟩
  | .hbm, ⟨54, _⟩ => ⟨S_, .f32⟩
  | .hbm, ⟨55, _⟩ => ⟨S8192x16, .f32⟩
  | .hbm, ⟨56, _⟩ => ⟨S_, .f32⟩
  | .hbm, ⟨57, _⟩ => ⟨S8192x96, .f32⟩
  | .hbm, ⟨58, _⟩ => ⟨S8192x128, .f32⟩
  | .hbm, ⟨59, _⟩ => ⟨S8192x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S1x512, .f32⟩
  | .local _ .vmem, ⟨6, _⟩ => ⟨S1x512, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x512, .bf16⟩
  | .local _ .vmem, ⟨14, _⟩ => ⟨S1024x512, .bf16⟩
  | .local _ .vmem, ⟨15, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_v21 : Ref sig .tc := ⟨.hbm, 35, rfl⟩
abbrev main_cst_8 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8192x2048 : Shape := ⟨2, ![8192, 2048]⟩
abbrev S1x2048 : Shape := ⟨2, ![1, 2048]⟩
abbrev S2048x6144 : Shape := ⟨2, ![2048, 6144]⟩
abbrev S16 : Shape := ⟨1, ![16]⟩
abbrev S_ : Shape := ⟨0, ![]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S2048 : Shape := ⟨1, ![2048]⟩
abbrev S8192x6144 : Shape := ⟨2, ![8192, 6144]⟩
abbrev S8192x16x128 : Shape := ⟨3, ![8192, 16, 128]⟩
abbrev S8192x16x16 : Shape := ⟨3, ![8192, 16, 16]⟩
abbrev S8192x1x16 : Shape := ⟨3, ![8192, 1, 16]⟩
abbrev S8192x16x96 : Shape := ⟨3, ![8192, 16, 96]⟩

abbrev nBuf : Space → Nat
  | .hbm => 95
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x6144, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S8192, .f32⟩
  | .hbm, ⟨20, _⟩ => ⟨S8192x1, .f32⟩
  | .hbm, ⟨21, _⟩ => ⟨S1x16, .f32⟩
  | .hbm, ⟨22, _⟩ => ⟨S8192x16, .f32⟩
  | .hbm, ⟨23, _⟩ => ⟨S8192x16, .f32⟩
  | .hbm, ⟨24, _⟩ => ⟨S8192x16, .f32⟩
  | .hbm, ⟨25, _⟩ => ⟨S8192x16, .f32⟩
  | .hbm, ⟨26, _⟩ => ⟨S8192x16, .f32⟩
  | .hbm, ⟨27, _⟩ => ⟨S2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S1x2048, .f32⟩
  | .hbm, ⟨42, _⟩ => ⟨S8192x2048, .f32⟩
  | .hbm, ⟨43, _⟩ => ⟨S8192x2048, .f32⟩
  | .hbm, ⟨44, _⟩ => ⟨S8192x6144, .f32⟩
  | .hbm, ⟨45, _⟩ => ⟨S8192x2048, .f32⟩
  | .hbm, ⟨46, _⟩ => ⟨S8192x16x128, .f32⟩
  | .hbm, ⟨47, _⟩ => ⟨S8192x16x16, .f32⟩
  | .hbm, ⟨48, _⟩ => ⟨S8192x16x16, .f32⟩
  | .hbm, ⟨49, _⟩ => ⟨S8192x1x16, .f32⟩
  | .hbm, ⟨50, _⟩ => ⟨S8192x1x16, .f32⟩
  | .hbm, ⟨51, _⟩ => ⟨S8192x16x16, .f32⟩
  | .hbm, ⟨52, _⟩ => ⟨S8192x16x16, .f32⟩
  | .hbm, ⟨53, _⟩ => ⟨S8192x16x16, .f32⟩
  | .hbm, ⟨54, _⟩ => ⟨S8192x16x16, .f32⟩
  | .hbm, ⟨55, _⟩ => ⟨S8192x16x16, .f32⟩
  | .hbm, ⟨56, _⟩ => ⟨S8192x16x16, .f32⟩
  | .hbm, ⟨57, _⟩ => ⟨S8192x16x16, .f32⟩
  | .hbm, ⟨58, _⟩ => ⟨S8192x16x16, .f32⟩
  | .hbm, ⟨59, _⟩ => ⟨S8192x16x16, .f32⟩
  | .hbm, ⟨60, _⟩ => ⟨S8192x16x16, .f32⟩
  | .hbm, ⟨61, _⟩ => ⟨S8192x16x96, .f32⟩
  | .hbm, ⟨62, _⟩ => ⟨S8192x16x128, .f32⟩
  | .hbm, ⟨63, _⟩ => ⟨S8192x2048, .f32⟩
  | .hbm, ⟨64, _⟩ => ⟨S8192x2048, .f32⟩
  | .hbm, ⟨65, _⟩ => ⟨S8192x16x128, .f32⟩
  | .hbm, ⟨66, _⟩ => ⟨S8192x16x16, .f32⟩
  | .hbm, ⟨67, _⟩ => ⟨S8192x16x16, .f32⟩
  | .hbm, ⟨68, _⟩ => ⟨S8192x1x16, .f32⟩
  | .hbm, ⟨69, _⟩ => ⟨S8192x1x16, .f32⟩
  | .hbm, ⟨70, _⟩ => ⟨S8192x16x16, .f32⟩
  | .hbm, ⟨71, _⟩ => ⟨S8192x16x16, .f32⟩
  | .hbm, ⟨72, _⟩ => ⟨S8192x16x16, .f32⟩
  | .hbm, ⟨73, _⟩ => ⟨S8192x16x16, .f32⟩
  | .hbm, ⟨74, _⟩ => ⟨S8192x16x16, .f32⟩
  | .hbm, ⟨75, _⟩ => ⟨S8192x16x16, .f32⟩
  | .hbm, ⟨76, _⟩ => ⟨S8192x16x16, .f32⟩
  | .hbm, ⟨77, _⟩ => ⟨S8192x16x16, .f32⟩
  | .hbm, ⟨78, _⟩ => ⟨S8192x16x16, .f32⟩
  | .hbm, ⟨79, _⟩ => ⟨S8192x16x16, .f32⟩
  | .hbm, ⟨80, _⟩ => ⟨S8192x16x96, .f32⟩
  | .hbm, ⟨81, _⟩ => ⟨S8192x16x128, .f32⟩
  | .hbm, ⟨82, _⟩ => ⟨S8192x2048, .f32⟩
  | .hbm, ⟨83, _⟩ => ⟨S8192x2048, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S8192x2048, .f32⟩
  | .hbm, ⟨92, _⟩ => ⟨S8192x2048, .f32⟩
  | .hbm, ⟨93, _⟩ => ⟨S8192x6144, .f32⟩
  | .hbm, ⟨94, _⟩ => ⟨S8192x6144, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_cst_7 : Ref sig .tc := ⟨.hbm, 84, rfl⟩
abbrev main_v73 : Ref sig .tc := ⟨.hbm, 85, rfl⟩
abbrev main_cst_8 : Ref sig .tc := ⟨.hbm, 86, rfl⟩
abbrev main_v74 : Ref sig .tc := ⟨.hbm, 87, rfl⟩
abbrev main_v75 : Ref sig .tc := ⟨.hbm, 88, rfl⟩
abbrev main_cst_9 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩

abbrev nD : Nat := 1
abbrev τ : Topo := Topo.v7x

variable {F : FTy → Type} [FloatOps F]
-- ==== Kernel4.lean ====
abbrev S8192x2048 : Shape := ⟨2, ![8192, 2048]⟩
abbrev S1x2048 : Shape := ⟨2, ![1, 2048]⟩
abbrev S2048x4608 : Shape := ⟨2, ![2048, 4608]⟩
abbrev S4608 : Shape := ⟨1, ![4608]⟩
abbrev S1x4608 : Shape := ⟨2, ![1, 4608]⟩
abbrev S_ : Shape := ⟨0, ![]⟩
abbrev S16 : Shape := ⟨1, ![16]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S8192x96 : Shape := ⟨2, ![8192, 96]⟩
abbrev S8192x128 : Shape := ⟨2, ![8192, 128]⟩
abbrev S8192x112 : Shape := ⟨2, ![8192, 112]⟩
abbrev S8192x4608 : Shape := ⟨2, ![8192, 4608]⟩
abbrev S1024x2048 : Shape := ⟨2, ![1024, 2048]⟩
abbrev S2048x512 : Shape := ⟨2, ![2048, 512]⟩
abbrev S1x512 : Shape := ⟨2, ![1, 512]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩
abbrev S128x2048 : Shape := ⟨2, ![128, 2048]⟩
abbrev S128x512 : Shape := ⟨2, ![128, 512]⟩
abbrev S128x128 : Shape := ⟨2, ![128, 128]⟩

abbrev nBuf : Space → Nat
  | .hbm => 76
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x4608, .f32⟩
  | .hbm, ⟨3, _⟩ => ⟨S4608, .i32⟩
  | .hbm, ⟨4, _⟩ => ⟨S1x4608, .i32⟩
  | .hbm, ⟨5, _⟩ => ⟨S_, .f32⟩
  | .hbm, ⟨6, _⟩ => ⟨S1x4608, .f32⟩
  | .hbm, ⟨7, _⟩ => ⟨S_, .i32⟩
  | .hbm, ⟨8, _⟩ => ⟨S1x4608, .i32⟩
  | .hbm, ⟨9, _⟩ => ⟨S1x4608, .i1⟩
  | .hbm, ⟨10, _⟩ => ⟨S_, .i32⟩
  | .hbm, ⟨11, _⟩ => ⟨S1x4608, .i32⟩
  | .hbm, ⟨12, _⟩ => ⟨S1x4608, .i1⟩
  | .hbm, ⟨13, _⟩ => ⟨S1x4608, .i1⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x4608, .f32⟩
  | .hbm, ⟨22, _⟩ => ⟨S1x4608, .f32⟩
  | .hbm, ⟨23, _⟩ => ⟨S_, .i32⟩
  | .hbm, ⟨24, _⟩ => ⟨S1x4608, .i32⟩
  | .hbm, ⟨25, _⟩ => ⟨S1x4608, .i1⟩
  | .hbm, ⟨26, _⟩ => ⟨S_, .i32⟩
  | .hbm, ⟨27, _⟩ => ⟨S1x4608, .i32⟩
  | .hbm, ⟨28, _⟩ => ⟨S1x4608, .i1⟩
  | .hbm, ⟨29, _⟩ => ⟨S1x4608, .i1⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1x4608, .f32⟩
  | .hbm, ⟨38, _⟩ => ⟨S1x4608, .f32⟩
  | .hbm, ⟨39, _⟩ => ⟨S16, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S8192, .f32⟩
  | .hbm, ⟨56, _⟩ => ⟨S8192x1, .f32⟩
  | .hbm, ⟨57, _⟩ => ⟨S1x16, .f32⟩
  | .hbm, ⟨58, _⟩ => ⟨S8192x16, .f32⟩
  | .hbm, ⟨59, _⟩ => ⟨S8192x16, .f32⟩
  | .hbm, ⟨60, _⟩ => ⟨S8192x16, .f32⟩
  | .hbm, ⟨61, _⟩ => ⟨S8192x16, .f32⟩
  | .hbm, ⟨62, _⟩ => ⟨S8192x16, .f32⟩
  | .hbm, ⟨63, _⟩ => ⟨S_, .f32⟩
  | .hbm, ⟨64, _⟩ => ⟨S8192x96, .f32⟩
  | .hbm, ⟨65, _⟩ => ⟨S8192x128, .f32⟩
  | .hbm, ⟨66, _⟩ => ⟨S8192x16, .f32⟩
  | .hbm, ⟨67, _⟩ => ⟨S_, .f32⟩
  | .hbm, ⟨68, _⟩ => ⟨S8192x112, .f32⟩
  | .hbm, ⟨69, _⟩ => ⟨S8192x128, .f32⟩
  | .hbm, ⟨70, _⟩ => ⟨S_, .f32⟩
  | .hbm, ⟨71, _⟩ => ⟨S8192x16, .f32⟩
  | .hbm, ⟨72, _⟩ => ⟨S_, .f32⟩
  | .hbm, ⟨73, _⟩ => ⟨S8192x96, .f32⟩
  | .hbm, ⟨74, _⟩ => ⟨S8192x128, .f32⟩
  | .hbm, ⟨75, _⟩ => ⟨S8192x4608, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S1x512, .f32⟩
  | .local _ .vmem, ⟨6, _⟩ => ⟨S1x512, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x512, .bf16⟩
  | .local _ .vmem, ⟨14, _⟩ => ⟨S1024x512, .bf16⟩
  | .local _ .vmem, ⟨15, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_call0_v0 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_c_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_cst_7 : Ref sig .tc := ⟨.hbm, 32, rfl⟩
abbrev main_v19 : Ref sig .tc := ⟨.hbm, 33, rfl⟩
abbrev main_v20 : Ref sig .tc := ⟨.hbm, 34, rfl⟩
abbrev main_cst_8 : Ref sig .tc := ⟨.hbm, 35, rfl⟩
abbrev main_v21 : Ref sig .tc := ⟨.hbm, 36, rfl⟩
abbrev main_call1_v0 : Ref sig .tc := ⟨.hbm, 37, rfl⟩
abbrev main_v22 : Ref sig .tc := ⟨.hbm, 38, rfl⟩
abbrev main_v23 : Ref sig .tc := ⟨.hbm, 39, rfl⟩
abbrev main_cst_9 : Ref sig .tc := ⟨.hbm, 40, rfl⟩
abbrev main_v24 : Ref sig .tc := ⟨.hbm, 41, rfl⟩
abbrev main_v25 : Ref sig .tc := ⟨.hbm, 42, rfl⟩
abbrev main_cst_10 : Ref sig .tc := ⟨.hbm, 43, rfl⟩
abbrev main_v26 : Ref sig .tc := ⟨.hbm, 44, rfl⟩
abbrev main_v27 : Ref sig .tc := ⟨.hbm, 45, rfl⟩
abbrev main_cst_11 : Ref sig .tc := ⟨.hbm, 46, rfl⟩
abbrev main_v28 : Ref sig .tc := ⟨.hbm, 47, rfl⟩
abbrev main_v29 : Ref sig .tc := ⟨.hbm, 48, rfl⟩
abbrev main_cst_12 : Ref sig .tc := ⟨.hbm, 49, rfl⟩
abbrev main_v30 : Ref sig .tc := ⟨.hbm, 50, rfl⟩
abbrev main_v31 : Ref sig .tc := ⟨.hbm, 51, rfl⟩
abbrev main_cst_13 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_14 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_15 : Ref sig .tc := ⟨.hbm, 67, rfl⟩
abbrev main_v45 : Ref sig .tc := ⟨.hbm, 68, rfl⟩
abbrev main_v46 : Ref sig .tc := ⟨.hbm, 69, rfl⟩
abbrev main_cst_16 : Ref sig .tc := ⟨.hbm, 70, rfl⟩
abbrev main_v47 : Ref sig .tc := ⟨.hbm, 71, rfl⟩
abbrev main_cst_17 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S8192x2048 : Shape := ⟨2, ![8192, 2048]⟩
abbrev S1x2048 : Shape := ⟨2, ![1, 2048]⟩
abbrev S2048x4608 : Shape := ⟨2, ![2048, 4608]⟩
abbrev S16 : Shape := ⟨1, ![16]⟩
abbrev S_ : Shape := ⟨0, ![]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S2048 : Shape := ⟨1, ![2048]⟩
abbrev S8192x4608 : Shape := ⟨2, ![8192, 4608]⟩
abbrev S8192x1024 : Shape := ⟨2, ![8192, 1024]⟩
abbrev S8192x8x128 : Shape := ⟨3, ![8192, 8, 128]⟩
abbrev S8192x8x16 : Shape := ⟨3, ![8192, 8, 16]⟩
abbrev S8192x1x16 : Shape := ⟨3, ![8192, 1, 16]⟩
abbrev S8192x8x96 : Shape := ⟨3, ![8192, 8, 96]⟩
abbrev S8192x256 : Shape := ⟨2, ![8192, 256]⟩
abbrev S8192x2x128 : Shape := ⟨3, ![8192, 2, 128]⟩
abbrev S8192x2x16 : Shape := ⟨3, ![8192, 2, 16]⟩
abbrev S8192x2x96 : Shape := ⟨3, ![8192, 2, 96]⟩

abbrev nBuf : Space → Nat
  | .hbm => 99
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x4608, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S8192, .f32⟩
  | .hbm, ⟨20, _⟩ => ⟨S8192x1, .f32⟩
  | .hbm, ⟨21, _⟩ => ⟨S1x16, .f32⟩
  | .hbm, ⟨22, _⟩ => ⟨S8192x16, .f32⟩
  | .hbm, ⟨23, _⟩ => ⟨S8192x16, .f32⟩
  | .hbm, ⟨24, _⟩ => ⟨S8192x16, .f32⟩
  | .hbm, ⟨25, _⟩ => ⟨S8192x16, .f32⟩
  | .hbm, ⟨26, _⟩ => ⟨S8192x16, .f32⟩
  | .hbm, ⟨27, _⟩ => ⟨S2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S1x2048, .f32⟩
  | .hbm, ⟨42, _⟩ => ⟨S8192x2048, .f32⟩
  | .hbm, ⟨43, _⟩ => ⟨S8192x2048, .f32⟩
  | .hbm, ⟨44, _⟩ => ⟨S8192x4608, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x2048, .f32⟩
  | .hbm, ⟨56, _⟩ => ⟨S8192x1024, .f32⟩
  | .hbm, ⟨57, _⟩ => ⟨S8192x8x128, .f32⟩
  | .hbm, ⟨58, _⟩ => ⟨S8192x8x16, .f32⟩
  | .hbm, ⟨59, _⟩ => ⟨S8192x8x16, .f32⟩
  | .hbm, ⟨60, _⟩ => ⟨S8192x1x16, .f32⟩
  | .hbm, ⟨61, _⟩ => ⟨S8192x1x16, .f32⟩
  | .hbm, ⟨62, _⟩ => ⟨S8192x8x16, .f32⟩
  | .hbm, ⟨63, _⟩ => ⟨S8192x8x16, .f32⟩
  | .hbm, ⟨64, _⟩ => ⟨S8192x8x16, .f32⟩
  | .hbm, ⟨65, _⟩ => ⟨S8192x8x16, .f32⟩
  | .hbm, ⟨66, _⟩ => ⟨S8192x8x16, .f32⟩
  | .hbm, ⟨67, _⟩ => ⟨S8192x8x16, .f32⟩
  | .hbm, ⟨68, _⟩ => ⟨S8192x8x16, .f32⟩
  | .hbm, ⟨69, _⟩ => ⟨S8192x8x16, .f32⟩
  | .hbm, ⟨70, _⟩ => ⟨S8192x8x16, .f32⟩
  | .hbm, ⟨71, _⟩ => ⟨S8192x8x16, .f32⟩
  | .hbm, ⟨72, _⟩ => ⟨S8192x8x96, .f32⟩
  | .hbm, ⟨73, _⟩ => ⟨S8192x8x128, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x256, .f32⟩
  | .hbm, ⟨78, _⟩ => ⟨S8192x2x128, .f32⟩
  | .hbm, ⟨79, _⟩ => ⟨S8192x2x16, .f32⟩
  | .hbm, ⟨80, _⟩ => ⟨S8192x2x16, .f32⟩
  | .hbm, ⟨81, _⟩ => ⟨S8192x1x16, .f32⟩
  | .hbm, ⟨82, _⟩ => ⟨S8192x1x16, .f32⟩
  | .hbm, ⟨83, _⟩ => ⟨S8192x2x16, .f32⟩
  | .hbm, ⟨84, _⟩ => ⟨S8192x2x16, .f32⟩
  | .hbm, ⟨85, _⟩ => ⟨S8192x2x16, .f32⟩
  | .hbm, ⟨86, _⟩ => ⟨S8192x2x16, .f32⟩
  | .hbm, ⟨87, _⟩ => ⟨S8192x2x16, .f32⟩
  | .hbm, ⟨88, _⟩ => ⟨S8192x2x16, .f32⟩
  | .hbm, ⟨89, _⟩ => ⟨S8192x2x16, .f32⟩
  | .hbm, ⟨90, _⟩ => ⟨S8192x2x16, .f32⟩
  | .hbm, ⟨91, _⟩ => ⟨S8192x2x16, .f32⟩
  | .hbm, ⟨92, _⟩ => ⟨S8192x2x16, .f32⟩
  | .hbm, ⟨93, _⟩ => ⟨S8192x2x96, .f32⟩
  | .hbm, ⟨94, _⟩ => ⟨S8192x2x128, .f32⟩
  | .hbm, ⟨95, _⟩ => ⟨S8192x256, .f32⟩
  | .hbm, ⟨96, _⟩ => ⟨S8192x256, .f32⟩
  | .hbm, ⟨97, _⟩ => ⟨S8192x4608, .f32⟩
  | .hbm, ⟨98, _⟩ => ⟨S8192x4608, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩

abbrev nD : Nat := 1
abbrev τ : Topo := Topo.v7x

variable {F : FTy → Type} [FloatOps F]
-- ==== Kernel5.lean ====
abbrev S8192x2048 : Shape := ⟨2, ![8192, 2048]⟩
abbrev S1x2048 : Shape := ⟨2, ![1, 2048]⟩
abbrev S2048x2048 : Shape := ⟨2, ![2048, 2048]⟩
abbrev S2048x512 : Shape := ⟨2, ![2048, 512]⟩
abbrev S256x1024 : Shape := ⟨2, ![256, 1024]⟩
abbrev S512x2048 : Shape := ⟨2, ![512, 2048]⟩
abbrev S512 : Shape := ⟨1, ![512]⟩
abbrev S512x1 : Shape := ⟨2, ![512, 1]⟩
abbrev S512x512 : Shape := ⟨2, ![512, 512]⟩
abbrev S256x128 : Shape := ⟨2, ![256, 128]⟩
abbrev S512x128 : Shape := ⟨2, ![512, 128]⟩
abbrev S512x256 : Shape := ⟨2, ![512, 256]⟩

abbrev nBuf : Space → Nat
  | .hbm => 15
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x512, .f32⟩
  | .hbm, ⟨6, _⟩ => ⟨S256x1024, .f32⟩
  | .hbm, ⟨7, _⟩ => ⟨S512x2048, .f32⟩
  | .hbm, ⟨8, _⟩ => ⟨S1x2048, .f32⟩
  | .hbm, ⟨9, _⟩ => ⟨S8192x2048, .bf16⟩
  | .hbm, ⟨10, _⟩ => ⟨S2048x2048, .bf16⟩
  | .hbm, ⟨11, _⟩ => ⟨S2048x512, .bf16⟩
  | .hbm, ⟨12, _⟩ => ⟨S256x1024, .bf16⟩
  | .hbm, ⟨13, _⟩ => ⟨S512x2048, .bf16⟩
  | .hbm, ⟨14, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S2048x512, .bf16⟩
  | .local _ .vmem, ⟨8, _⟩ => ⟨S256x1024, .bf16⟩
  | .local _ .vmem, ⟨9, _⟩ => ⟨S512x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel5Ideal.lean ====
variable {F : FTy → Type} [FloatOps F] [Named F]
def κ : String → Option EReal := fun
  | "qk_scale" => some ((((Real.sqrt 128) * (Real.log 2))⁻¹ : ℝ) : EReal)
  | _ => none
-- ==== Reference5Ideal.lean ====
abbrev S8192x2048 : Shape := ⟨2, ![8192, 2048]⟩
abbrev S1x2048 : Shape := ⟨2, ![1, 2048]⟩
abbrev S2048x2048 : Shape := ⟨2, ![2048, 2048]⟩
abbrev S2048x512 : Shape := ⟨2, ![2048, 512]⟩
abbrev S256x1024 : Shape := ⟨2, ![256, 1024]⟩
abbrev S512x2048 : Shape := ⟨2, ![512, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8192x512 : Shape := ⟨2, ![8192, 512]⟩
abbrev S8192x4x128 : Shape := ⟨3, ![8192, 4, 128]⟩
abbrev S256x512 : Shape := ⟨2, ![256, 512]⟩
abbrev S256x4x128 : Shape := ⟨3, ![256, 4, 128]⟩
abbrev S4x8192x256 : Shape := ⟨3, ![4, 8192, 256]⟩
abbrev S4x8192 : Shape := ⟨2, ![4, 8192]⟩
abbrev S4x8192x1 : Shape := ⟨3, ![4, 8192, 1]⟩
abbrev S4x128x8192 : Shape := ⟨3, ![4, 128, 8192]⟩

abbrev nBuf : Space → Nat
  | .hbm => 94
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x512, .f32⟩
  | .hbm, ⟨6, _⟩ => ⟨S256x1024, .f32⟩
  | .hbm, ⟨7, _⟩ => ⟨S512x2048, .f32⟩
  | .hbm, ⟨8, _⟩ => ⟨S1x2048, .f32⟩
  | .hbm, ⟨9, _⟩ => ⟨S8192x2048, .f32⟩
  | .hbm, ⟨10, _⟩ => ⟨S2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S8192x512, .f32⟩
  | .hbm, ⟨46, _⟩ => ⟨S8192x4x128, .f32⟩
  | .hbm, ⟨47, _⟩ => ⟨S256x512, .f32⟩
  | .hbm, ⟨48, _⟩ => ⟨S256x4x128, .f32⟩
  | .hbm, ⟨49, _⟩ => ⟨S256x512, .f32⟩
  | .hbm, ⟨50, _⟩ => ⟨S256x4x128, .f32⟩
  | .hbm, ⟨51, _⟩ => ⟨S4x8192x256, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S4x8192x256, .f32⟩
  | .hbm, ⟨57, _⟩ => ⟨S4x8192x256, .f32⟩
  | .hbm, ⟨58, _⟩ => ⟨S_, .f32⟩
  | .hbm, ⟨59, _⟩ => ⟨S4x8192, .f32⟩
  | .hbm, ⟨60, _⟩ => ⟨S_, .f32⟩
  | .hbm, ⟨61, _⟩ => ⟨S4x8192, .f32⟩
  | .hbm, ⟨62, _⟩ => ⟨S4x8192, .f32⟩
  | .hbm, ⟨63, _⟩ => ⟨S4x8192x1, .f32⟩
  | .hbm, ⟨64, _⟩ => ⟨S4x8192x256, .f32⟩
  | .hbm, ⟨65, _⟩ => ⟨S4x8192x256, .f32⟩
  | .hbm, ⟨66, _⟩ => ⟨S4x8192x256, .f32⟩
  | .hbm, ⟨67, _⟩ => ⟨S_, .f32⟩
  | .hbm, ⟨68, _⟩ => ⟨S4x8192, .f32⟩
  | .hbm, ⟨69, _⟩ => ⟨S4x8192x1, .f32⟩
  | .hbm, ⟨70, _⟩ => ⟨S4x8192x256, .f32⟩
  | .hbm, ⟨71, _⟩ => ⟨S4x8192x256, .f32⟩
  | .hbm, ⟨72, _⟩ => ⟨S4x128x8192, .f32⟩
  | .hbm, ⟨73, _⟩ => ⟨S8192x4x128, .f32⟩
  | .hbm, ⟨74, _⟩ => ⟨S8192x512, .f32⟩
  | .hbm, ⟨75, _⟩ => ⟨S8192x2048, .f32⟩
  | .hbm, ⟨76, _⟩ => ⟨S2048, .f32⟩
  | .hbm, ⟨77, _⟩ => ⟨S8192x2048, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192x1, .f32⟩
  | .hbm, ⟨86, _⟩ => ⟨S8192x1, .f32⟩
  | .hbm, ⟨87, _⟩ => ⟨S8192x1, .f32⟩
  | .hbm, ⟨88, _⟩ => ⟨S8192x2048, .f32⟩
  | .hbm, ⟨89, _⟩ => ⟨S8192x2048, .f32⟩
  | .hbm, ⟨90, _⟩ => ⟨S1x2048, .f32⟩
  | .hbm, ⟨91, _⟩ => ⟨S8192x2048, .f32⟩
  | .hbm, ⟨92, _⟩ => ⟨S8192x2048, .f32⟩
  | .hbm, ⟨93, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_cst_12 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]
-- ==== Kernel6.lean ====
abbrev S8192x1024 : Shape := ⟨2, ![8192, 1024]⟩
abbrev S8192x2048 : Shape := ⟨2, ![8192, 2048]⟩
abbrev S1x2048 : Shape := ⟨2, ![1, 2048]⟩
abbrev S2048x2048 : Shape := ⟨2, ![2048, 2048]⟩
abbrev S2048x512 : Shape := ⟨2, ![2048, 512]⟩
abbrev S256x1024 : Shape := ⟨2, ![256, 1024]⟩
abbrev S512x2048 : Shape := ⟨2, ![512, 2048]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩
abbrev S512x512 : Shape := ⟨2, ![512, 512]⟩
abbrev S256x128 : Shape := ⟨2, ![256, 128]⟩
abbrev S512x128 : Shape := ⟨2, ![512, 128]⟩
abbrev S512x256 : Shape := ⟨2, ![512, 256]⟩

abbrev nBuf : Space → Nat
  | .hbm => 17
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x512, .f32⟩
  | .hbm, ⟨7, _⟩ => ⟨S256x1024, .f32⟩
  | .hbm, ⟨8, _⟩ => ⟨S512x2048, .f32⟩
  | .hbm, ⟨9, _⟩ => ⟨S1x2048, .f32⟩
  | .hbm, ⟨10, _⟩ => ⟨S8192x1024, .bf16⟩
  | .hbm, ⟨11, _⟩ => ⟨S8192x1024, .bf16⟩
  | .hbm, ⟨12, _⟩ => ⟨S2048x2048, .bf16⟩
  | .hbm, ⟨13, _⟩ => ⟨S2048x512, .bf16⟩
  | .hbm, ⟨14, _⟩ => ⟨S256x1024, .bf16⟩
  | .hbm, ⟨15, _⟩ => ⟨S512x2048, .bf16⟩
  | .hbm, ⟨16, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S1x2048, .f32⟩
  | .local _ .vmem, ⟨9, _⟩ => ⟨S2048x512, .bf16⟩
  | .local _ .vmem, ⟨10, _⟩ => ⟨S256x1024, .bf16⟩
  | .local _ .vmem, ⟨11, _⟩ => ⟨S512x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel6Ideal.lean ====
variable {F : FTy → Type} [FloatOps F] [Named F]
def κ : String → Option EReal := fun
  | "qk_scale" => some ((((Real.sqrt 128) * (Real.log 2))⁻¹ : ℝ) : EReal)
  | _ => none
-- ==== Reference6Ideal.lean ====
abbrev S8192x1024 : Shape := ⟨2, ![8192, 1024]⟩
abbrev S8192x2048 : Shape := ⟨2, ![8192, 2048]⟩
abbrev S1x2048 : Shape := ⟨2, ![1, 2048]⟩
abbrev S2048x2048 : Shape := ⟨2, ![2048, 2048]⟩
abbrev S2048x512 : Shape := ⟨2, ![2048, 512]⟩
abbrev S256x1024 : Shape := ⟨2, ![256, 1024]⟩
abbrev S512x2048 : Shape := ⟨2, ![512, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8192x512 : Shape := ⟨2, ![8192, 512]⟩
abbrev S8192x4x128 : Shape := ⟨3, ![8192, 4, 128]⟩
abbrev S256x512 : Shape := ⟨2, ![256, 512]⟩
abbrev S256x4x128 : Shape := ⟨3, ![256, 4, 128]⟩
abbrev S4x8192x256 : Shape := ⟨3, ![4, 8192, 256]⟩
abbrev S4x8192 : Shape := ⟨2, ![4, 8192]⟩
abbrev S4x8192x1 : Shape := ⟨3, ![4, 8192, 1]⟩
abbrev S4x128x8192 : Shape := ⟨3, ![4, 128, 8192]⟩

abbrev nBuf : Space → Nat
  | .hbm => 96
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x512, .f32⟩
  | .hbm, ⟨7, _⟩ => ⟨S256x1024, .f32⟩
  | .hbm, ⟨8, _⟩ => ⟨S512x2048, .f32⟩
  | .hbm, ⟨9, _⟩ => ⟨S1x2048, .f32⟩
  | .hbm, ⟨10, _⟩ => ⟨S8192x2048, .f32⟩
  | .hbm, ⟨11, _⟩ => ⟨S8192x2048, .f32⟩
  | .hbm, ⟨12, _⟩ => ⟨S2048, .f32⟩
  | .hbm, ⟨13, _⟩ => ⟨S8192x2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x2048, .f32⟩
  | .hbm, ⟨43, _⟩ => ⟨S8192x2048, .f32⟩
  | .hbm, ⟨44, _⟩ => ⟨S1x2048, .f32⟩
  | .hbm, ⟨45, _⟩ => ⟨S8192x2048, .f32⟩
  | .hbm, ⟨46, _⟩ => ⟨S8192x2048, .f32⟩
  | .hbm, ⟨47, _⟩ => ⟨S8192x512, .f32⟩
  | .hbm, ⟨48, _⟩ => ⟨S8192x4x128, .f32⟩
  | .hbm, ⟨49, _⟩ => ⟨S256x512, .f32⟩
  | .hbm, ⟨50, _⟩ => ⟨S256x4x128, .f32⟩
  | .hbm, ⟨51, _⟩ => ⟨S256x512, .f32⟩
  | .hbm, ⟨52, _⟩ => ⟨S256x4x128, .f32⟩
  | .hbm, ⟨53, _⟩ => ⟨S4x8192x256, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S4x8192x256, .f32⟩
  | .hbm, ⟨59, _⟩ => ⟨S4x8192x256, .f32⟩
  | .hbm, ⟨60, _⟩ => ⟨S_, .f32⟩
  | .hbm, ⟨61, _⟩ => ⟨S4x8192, .f32⟩
  | .hbm, ⟨62, _⟩ => ⟨S_, .f32⟩
  | .hbm, ⟨63, _⟩ => ⟨S4x8192, .f32⟩
  | .hbm, ⟨64, _⟩ => ⟨S4x8192, .f32⟩
  | .hbm, ⟨65, _⟩ => ⟨S4x8192x1, .f32⟩
  | .hbm, ⟨66, _⟩ => ⟨S4x8192x256, .f32⟩
  | .hbm, ⟨67, _⟩ => ⟨S4x8192x256, .f32⟩
  | .hbm, ⟨68, _⟩ => ⟨S4x8192x256, .f32⟩
  | .hbm, ⟨69, _⟩ => ⟨S_, .f32⟩
  | .hbm, ⟨70, _⟩ => ⟨S4x8192, .f32⟩
  | .hbm, ⟨71, _⟩ => ⟨S4x8192x1, .f32⟩
  | .hbm, ⟨72, _⟩ => ⟨S4x8192x256, .f32⟩
  | .hbm, ⟨73, _⟩ => ⟨S4x8192x256, .f32⟩
  | .hbm, ⟨74, _⟩ => ⟨S4x128x8192, .f32⟩
  | .hbm, ⟨75, _⟩ => ⟨S8192x4x128, .f32⟩
  | .hbm, ⟨76, _⟩ => ⟨S8192x512, .f32⟩
  | .hbm, ⟨77, _⟩ => ⟨S8192x2048, .f32⟩
  | .hbm, ⟨78, _⟩ => ⟨S2048, .f32⟩
  | .hbm, ⟨79, _⟩ => ⟨S8192x2048, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S8192x1, .f32⟩
  | .hbm, ⟨90, _⟩ => ⟨S8192x2048, .f32⟩
  | .hbm, ⟨91, _⟩ => ⟨S8192x2048, .f32⟩
  | .hbm, ⟨92, _⟩ => ⟨S1x2048, .f32⟩
  | .hbm, ⟨93, _⟩ => ⟨S8192x2048, .f32⟩
  | .hbm, ⟨94, _⟩ => ⟨S8192x2048, .f32⟩
  | .hbm, ⟨95, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== Kernel7.lean ====
abbrev S256x2048 : Shape := ⟨2, ![256, 2048]⟩
abbrev S1x2048 : Shape := ⟨2, ![1, 2048]⟩
abbrev S2048x512 : Shape := ⟨2, ![2048, 512]⟩
abbrev S2048x1024 : Shape := ⟨2, ![2048, 1024]⟩
abbrev S_ : Shape := ⟨0, ![]⟩
abbrev S1x1024 : Shape := ⟨2, ![1, 1024]⟩
abbrev S256x1024 : Shape := ⟨2, ![256, 1024]⟩
abbrev S1x512 : Shape := ⟨2, ![1, 512]⟩
abbrev S256x512 : Shape := ⟨2, ![256, 512]⟩
abbrev S256 : Shape := ⟨1, ![256]⟩
abbrev S256x1 : Shape := ⟨2, ![256, 1]⟩
abbrev S128x2048 : Shape := ⟨2, ![128, 2048]⟩
abbrev S128x512 : Shape := ⟨2, ![128, 512]⟩
abbrev S128x128 : Shape := ⟨2, ![128, 128]⟩

abbrev nBuf : Space → Nat
  | .hbm => 9
  | .vmem => 9
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048x512, .f32⟩
  | .hbm, ⟨3, _⟩ => ⟨S2048x512, .f32⟩
  | .hbm, ⟨4, _⟩ => ⟨S2048x1024, .f32⟩
  | .hbm, ⟨5, _⟩ => ⟨S2048x1024, .bf16⟩
  | .hbm, ⟨6, _⟩ => ⟨S_, .f32⟩
  | .hbm, ⟨7, _⟩ => ⟨S1x1024, .f32⟩
  | .hbm, ⟨8, _⟩ => ⟨S256x1024, .bf16⟩
  | .local _ .vmem, ⟨0, _⟩ => ⟨S256x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S256x512, .bf16⟩
  | .local _ .vmem, ⟨7, _⟩ => ⟨S256x512, .bf16⟩
  | .local _ .vmem, ⟨8, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S256x2048 : Shape := ⟨2, ![256, 2048]⟩
abbrev S1x2048 : Shape := ⟨2, ![1, 2048]⟩
abbrev S2048x512 : Shape := ⟨2, ![2048, 512]⟩
abbrev S2048 : Shape := ⟨1, ![2048]⟩
abbrev S_ : Shape := ⟨0, ![]⟩
abbrev S256 : Shape := ⟨1, ![256]⟩
abbrev S256x1 : Shape := ⟨2, ![256, 1]⟩
abbrev S256x512 : Shape := ⟨2, ![256, 512]⟩
abbrev S256x1024 : Shape := ⟨2, ![256, 1024]⟩

abbrev nBuf : Space → Nat
  | .hbm => 25
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048x512, .f32⟩
  | .hbm, ⟨3, _⟩ => ⟨S2048x512, .f32⟩
  | .hbm, ⟨4, _⟩ => ⟨S2048, .f32⟩
  | .hbm, ⟨5, _⟩ => ⟨S256x2048, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x2048, .f32⟩
  | .hbm, ⟨17, _⟩ => ⟨S256x2048, .f32⟩
  | .hbm, ⟨18, _⟩ => ⟨S1x2048, .f32⟩
  | .hbm, ⟨19, _⟩ => ⟨S256x2048, .f32⟩
  | .hbm, ⟨20, _⟩ => ⟨S256x2048, .f32⟩
  | .hbm, ⟨21, _⟩ => ⟨S256x512, .f32⟩
  | .hbm, ⟨22, _⟩ => ⟨S256x512, .f32⟩
  | .hbm, ⟨23, _⟩ => ⟨S256x1024, .f32⟩
  | .hbm, ⟨24, _⟩ => ⟨S256x1024, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.DiffBody.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.VecWindow

@[expose] public section

set_option maxRecDepth 16384

noncomputable section

namespace Cert.KernelIdeal.Diff

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-! ## Reading back what a list of stores leaves -/

section Read

variable {sig' : RefSig} {κ : Kind} {sp : Space} {s : Shape} {e : EltTy} {Val : EltTy → Type}

/-- A load at the last store's own rectangle reads what was stored. -/
theorem readAt_head (v : View sig' κ sp s e) (f : v.ty.Contents Val) (r : Rect s) (w : r.shape.Idx → Val e)
    (L : List (View.Piece Val s e)) : v.readAt Val r.toLoadRect (v.writes Val f (⟨r, w⟩ :: L)) = w :=
  funext fun y => View.read_writes_cons_emb v f r w L y

/-- A load apart from the last store reads what the earlier stores left. -/
theorem readAt_skip (v : View sig' κ sp s e) (f : v.ty.Contents Val) {r : Rect s} {B : LoadRect s} (h : Disjoint r.set B.set)
    (w : r.shape.Idx → Val e) (L : List (View.Piece Val s e)) :
    v.readAt Val B (v.writes Val f (⟨r, w⟩ :: L)) = v.readAt Val B (v.writes Val f L) := by
  funext j
  rw [View.readAt_apply, View.readAt_apply, View.writes_cons, View.read_slice_write_of_not_mem]
  rw [Rect.map_emb_univ]
  exact Finset.disjoint_right.mp h (B.idx_mem j)

/-- With no store, a load reads the contents. -/
theorem readAt_none (v : View sig' κ sp s e) (f : v.ty.Contents Val) (B : LoadRect s) :
    v.readAt Val B (v.writes Val f []) = v.readAt Val B f := rfl

/-- A load apart from the last of the stores that cover it reads the earlier ones. -/
theorem readCov_skip [∀ e, Nonempty (Val e)] (v : View sig' κ sp s e) {r : Rect s} {B : LoadRect s} (h : Disjoint r.set B.set)
    (w : r.shape.Idx → Val e) (L : List (View.Piece Val s e)) :
    v.readCov (⟨r, w⟩ :: L) B = v.readCov L B := v.readCov_cons_of_disjoint ⟨r, w⟩ L B h

end Read

/-! ## The blocks the kernel multiplies, and the two numbers it carries for each query -/

/-- Rows `1024 j …` of the keys, columns of half `t` of the head. -/
def kb (x3 : S8192x256.Idx → Elt F .bf16) (j t : ℕ) : S1024x128.Idx → Elt F .bf16 :=
  VecWindow.window x3 ![1024 * (j % 8), 128 * (t % 2)] S1024x128.size (by
    intro a; fin_cases a
    · show 1024 * (j % 8) + 1024 ≤ 8192; omega
    · show 128 * (t % 2) + 128 ≤ 256; omega)

/-- Columns of half `t` of the queries. -/
def qb (x2 : S1024x256.Idx → Elt F .bf16) (t : ℕ) : S1024x128.Idx → Elt F .bf16 :=
  VecWindow.window x2 ![0, 128 * (t % 2)] S1024x128.size (by
    intro a; fin_cases a
    · show 0 + 1024 ≤ 1024; omega
    · show 128 * (t % 2) + 128 ≤ 256; omega)

/-- Columns `1024 j …` of the transposed values. -/
def vb (x4 : S256x8192.Idx → Elt F .bf16) (j : ℕ) : S256x1024.Idx → Elt F .bf16 :=
  VecWindow.window x4 ![0, 1024 * (j % 8)] S256x1024.size (by
    intro a; fin_cases a
    · show 0 + 256 ≤ 256; omega
    · show 1024 * (j % 8) + 1024 ≤ 8192; omega)

/-- The scores of key block `j`, keys by queries. -/
def sc (x2 : S1024x256.Idx → Elt F .bf16) (x3 : S8192x256.Idx → Elt F .bf16) (j t : ℕ) : S1x1024x1024.Idx → Elt F .f32 :=
  k0_pay2 (kb x3 j t) (qb x2 t)

/-- The running maximum and the running sums (values, then ones) after the first `j` key blocks. -/
def st (x2 : S1024x256.Idx → Elt F .bf16) (x3 : S8192x256.Idx → Elt F .bf16) (x4 : S256x8192.Idx → Elt F .bf16) (t : ℕ) :
    ℕ → (S1x1x1024.Idx → Elt F .f32) × (S1x272x1024.Idx → Elt F .f32)
  | 0 => (fun _ => Scalar.ofBits .f32 0xFF800000#32, fun _ => Scalar.ofBits .f32 0x00000000#32)
  | j + 1 => (k0_pay25 (sc x2 x3 j t) (st x2 x3 x4 t j).1, k0_pay24 (vb x4 j) (sc x2 x3 j t) (st x2 x3 x4 t j).1 (st x2 x3 x4 t j).2)

/-! ## The slots of the scratch buffers -/

abbrev rM0 : Rect S2x1x1024 := Rect.unit (s := S2x1x1024) ![0, 0, 0] S1x1x1024.size inb_S2x1x1024_S1x1x1024_0_0_0
abbrev rM1 : Rect S2x1x1024 := Rect.unit (s := S2x1x1024) ![1, 0, 0] S1x1x1024.size inb_S2x1x1024_S1x1x1024_1_0_0
abbrev rA0 : Rect S2x272x1024 := Rect.unit (s := S2x272x1024) ![0, 0, 0] S1x272x1024.size inb_S2x272x1024_S1x272x1024_0_0_0
abbrev rA1 : Rect S2x272x1024 := Rect.unit (s := S2x272x1024) ![1, 0, 0] S1x272x1024.size inb_S2x272x1024_S1x272x1024_1_0_0
abbrev rS0 : Rect S4x1024x1024 := Rect.unit (s := S4x1024x1024) ![0, 0, 0] S1x1024x1024.size inb_S4x1024x1024_S1x1024x1024_0_0_0
abbrev rS1 : Rect S4x1024x1024 := Rect.unit (s := S4x1024x1024) ![1, 0, 0] S1x1024x1024.size inb_S4x1024x1024_S1x1024x1024_1_0_0
abbrev rS2 : Rect S4x1024x1024 := Rect.unit (s := S4x1024x1024) ![2, 0, 0] S1x1024x1024.size inb_S4x1024x1024_S1x1024x1024_2_0_0
abbrev rS3 : Rect S4x1024x1024 := Rect.unit (s := S4x1024x1024) ![3, 0, 0] S1x1024x1024.size inb_S4x1024x1024_S1x1024x1024_3_0_0

theorem dM01 : Disjoint rM0.set rM1.toLoadRect.set := Rect.unit_disjoint (0 : Fin 3) (.inl (by decide))
theorem dM10 : Disjoint rM1.set rM0.toLoadRect.set := Rect.unit_disjoint (0 : Fin 3) (.inr (by decide))
theorem dA01 : Disjoint rA0.set rA1.toLoadRect.set := Rect.unit_disjoint (0 : Fin 3) (.inl (by decide))
theorem dA10 : Disjoint rA1.set rA0.toLoadRect.set := Rect.unit_disjoint (0 : Fin 3) (.inr (by decide))
theorem dS01 : Disjoint rS0.set rS1.toLoadRect.set := Rect.unit_disjoint (0 : Fin 3) (.inl (by decide))
theorem dS02 : Disjoint rS0.set rS2.toLoadRect.set := Rect.unit_disjoint (0 : Fin 3) (.inl (by decide))
theorem dS03 : Disjoint rS0.set rS3.toLoadRect.set := Rect.unit_disjoint (0 : Fin 3) (.inl (by decide))
theorem dS12 : Disjoint rS1.set rS2.toLoadRect.set := Rect.unit_disjoint (0 : Fin 3) (.inl (by decide))
theorem dS13 : Disjoint rS1.set rS3.toLoadRect.set := Rect.unit_disjoint (0 : Fin 3) (.inl (by decide))
theorem dS23 : Disjoint rS2.set rS3.toLoadRect.set := Rect.unit_disjoint (0 : Fin 3) (.inl (by decide))
theorem dS10 : Disjoint rS1.set rS0.toLoadRect.set := Rect.unit_disjoint (0 : Fin 3) (.inr (by decide))
theorem dS20 : Disjoint rS2.set rS0.toLoadRect.set := Rect.unit_disjoint (0 : Fin 3) (.inr (by decide))
theorem dS30 : Disjoint rS3.set rS0.toLoadRect.set := Rect.unit_disjoint (0 : Fin 3) (.inr (by decide))
theorem dS21 : Disjoint rS2.set rS1.toLoadRect.set := Rect.unit_disjoint (0 : Fin 3) (.inr (by decide))
theorem dS31 : Disjoint rS3.set rS1.toLoadRect.set := Rect.unit_disjoint (0 : Fin 3) (.inr (by decide))
theorem dS32 : Disjoint rS3.set rS2.toLoadRect.set := Rect.unit_disjoint (0 : Fin 3) (.inr (by decide))

/-! ## The offsets of the blocks at a trip -/

theorem off1_1 : ∀ k : Fin k0_t1_loop.trips, k0_off1 k 1#32 = ![1024 * ((2 * k.val + 1) % 8), 128 * (0 % 2)] := by decide +kernel
theorem off1_2 : ∀ k : Fin k0_t1_loop.trips, k0_off1 k 2#32 = ![1024 * ((2 * k.val + 2) % 8), 128 * (0 % 2)] := by decide +kernel
theorem off2_1 : ∀ k : Fin k0_t1_loop.trips, k0_off2 k 1#32 = ![1024 * ((2 * k.val + 1) % 8), 128 * (1 % 2)] := by decide +kernel
theorem off2_2 : ∀ k : Fin k0_t1_loop.trips, k0_off2 k 2#32 = ![1024 * ((2 * k.val + 2) % 8), 128 * (1 % 2)] := by decide +kernel
theorem off3 : ∀ k : Fin k0_t1_loop.trips, k0_off3 k = ![0, 1024 * ((2 * k.val) % 8)] := by decide +kernel
theorem off4 : ∀ k : Fin k0_t1_loop.trips, k0_off4 k = ![0, 1024 * ((2 * k.val + 1) % 8)] := by decide +kernel

section Blocks

variable {κ : Kind} {sp : Space}

theorem rd1_1 (v : View sig κ sp S8192x256 .bf16) (f : v.ty.Contents (Elt F)) (k : Fin k0_t1_loop.trips) (inb) :
    v.readAt (Elt F) (Rect.unit (s := S8192x256) (k0_off1 k 1#32) S1024x128.size inb).toLoadRect f = kb (v.read _ f) (2 * k.val + 1) 0 := View.readAt_unit v f inb (off1_1 k) _
theorem rd1_2 (v : View sig κ sp S8192x256 .bf16) (f : v.ty.Contents (Elt F)) (k : Fin k0_t1_loop.trips) (inb) :
    v.readAt (Elt F) (Rect.unit (s := S8192x256) (k0_off1 k 2#32) S1024x128.size inb).toLoadRect f = kb (v.read _ f) (2 * k.val + 2) 0 := View.readAt_unit v f inb (off1_2 k) _
theorem rd2_1 (v : View sig κ sp S8192x256 .bf16) (f : v.ty.Contents (Elt F)) (k : Fin k0_t1_loop.trips) (inb) :
    v.readAt (Elt F) (Rect.unit (s := S8192x256) (k0_off2 k 1#32) S1024x128.size inb).toLoadRect f = kb (v.read _ f) (2 * k.val + 1) 1 := View.readAt_unit v f inb (off2_1 k) _
theorem rd2_2 (v : View sig κ sp S8192x256 .bf16) (f : v.ty.Contents (Elt F)) (k : Fin k0_t1_loop.trips) (inb) :
    v.readAt (Elt F) (Rect.unit (s := S8192x256) (k0_off2 k 2#32) S1024x128.size inb).toLoadRect f = kb (v.read _ f) (2 * k.val + 2) 1 := View.readAt_unit v f inb (off2_2 k) _
theorem rd3 (v : View sig κ sp S256x8192 .bf16) (f : v.ty.Contents (Elt F)) (k : Fin k0_t1_loop.trips) (inb) :
    v.readAt (Elt F) (Rect.unit (s := S256x8192) (k0_off3 k) S256x1024.size inb).toLoadRect f = vb (v.read _ f) (2 * k.val) := View.readAt_unit v f inb (off3 k) _
theorem rd4 (v : View sig κ sp S256x8192 .bf16) (f : v.ty.Contents (Elt F)) (k : Fin k0_t1_loop.trips) (inb) :
    v.readAt (Elt F) (Rect.unit (s := S256x8192) (k0_off4 k) S256x1024.size inb).toLoadRect f = vb (v.read _ f) (2 * k.val + 1) := View.readAt_unit v f inb (off4 k) _
theorem rdq0 (v : View sig κ sp S1024x256 .bf16) (f : v.ty.Contents (Elt F)) (inb) :
    v.readAt (Elt F) (Rect.unit (s := S1024x256) ![0, 0] S1024x128.size inb).toLoadRect f = qb (v.read _ f) 0 := View.readAt_unit v f inb (by decide) _
theorem rdq1 (v : View sig κ sp S1024x256 .bf16) (f : v.ty.Contents (Elt F)) (inb) :
    v.readAt (Elt F) (Rect.unit (s := S1024x256) ![0, 128] S1024x128.size inb).toLoadRect f = qb (v.read _ f) 1 := View.readAt_unit v f inb (by decide) _
theorem rdk00 (v : View sig κ sp S8192x256 .bf16) (f : v.ty.Contents (Elt F)) (inb) :
    v.readAt (Elt F) (Rect.unit (s := S8192x256) ![0, 0] S1024x128.size inb).toLoadRect f = kb (v.read _ f) 0 0 := View.readAt_unit v f inb (by decide) _
theorem rdk01 (v : View sig κ sp S8192x256 .bf16) (f : v.ty.Contents (Elt F)) (inb) :
    v.readAt (Elt F) (Rect.unit (s := S8192x256) ![0, 128] S1024x128.size inb).toLoadRect f = kb (v.read _ f) 0 1 := View.readAt_unit v f inb (by decide) _
theorem rdk70 (v : View sig κ sp S8192x256 .bf16) (f : v.ty.Contents (Elt F)) (inb) :
    v.readAt (Elt F) (Rect.unit (s := S8192x256) ![7168, 0] S1024x128.size inb).toLoadRect f = kb (v.read _ f) 7 0 := View.readAt_unit v f inb (by decide) _
theorem rdk71 (v : View sig κ sp S8192x256 .bf16) (f : v.ty.Contents (Elt F)) (inb) :
    v.readAt (Elt F) (Rect.unit (s := S8192x256) ![7168, 128] S1024x128.size inb).toLoadRect f = kb (v.read _ f) 7 1 := View.readAt_unit v f inb (by decide) _
theorem rdv6 (v : View sig κ sp S256x8192 .bf16) (f : v.ty.Contents (Elt F)) (inb) :
    v.readAt (Elt F) (Rect.unit (s := S256x8192) ![0, 6144] S256x1024.size inb).toLoadRect f = vb (v.read _ f) 6 := View.readAt_unit v f inb (by decide) _
theorem rdv7 (v : View sig κ sp S256x8192 .bf16) (f : v.ty.Contents (Elt F)) (inb) :
    v.readAt (Elt F) (Rect.unit (s := S256x8192) ![0, 7168] S256x1024.size inb).toLoadRect f = vb (v.read _ f) 7 := View.readAt_unit v f inb (by decide) _

end Blocks

/-! ## The two updates, in the shapes the kernel cuts them into -/

section Forms

variable (v : Vec F S256x1024 .bf16) (s : Vec F S1x1024x1024 .f32) (m : Vec F S1x1x1024 .f32) (a : Vec F S1x272x1024 .f32)

theorem m_form1 : k0_pay9 (k0_pay5 s) m = k0_pay25 s m := rfl
theorem m_form2 : k0_pay16 (k0_pay12 s m) = k0_pay25 s m := rfl
theorem m_form3 : k0_pay34 s m = k0_pay25 s m := rfl
theorem a_form1 : k0_pay8 (k0_pay4 v) (k0_pay5 s) m a = k0_pay24 v s m a := rfl
theorem a_form2 : k0_pay15 (k0_pay4 v) (k0_pay13 s m) (k0_pay14 s m) a = k0_pay24 v s m a := rfl
theorem a_form3 : k0_pay33 (k0_pay20 v) s m a = k0_pay24 v s m a := rfl

end Forms

/-- What one trip needs and leaves: the three inputs at their contents, the maxima and sums after `2 k` key
blocks, and the scores of block `2 k` in the first two score slots. -/
abbrev inv (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S256x8192 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x256 .f32) (harg9 : arg9.IsWhole) (arg10 : Memref sig .tc .vmem S1024x256 .bf16) (harg10 : arg10.IsWhole) (arg11 : Memref sig .tc .vmem S2x1x1024 .f32) (harg11 : arg11.IsWhole) (arg12 : Memref sig .tc .vmem S2x272x1024 .f32) (harg12 : arg12.IsWhole) (arg13 : Memref sig .tc .vmem S4x1024x1024 .f32) (harg13 : arg13.IsWhole)
    (X_arg2 : BufTy.Contents (Elt F) arg2.view.ty) (X_arg3 : BufTy.Contents (Elt F) arg3.view.ty) (X_arg4 : BufTy.Contents (Elt F) arg4.view.ty)
    (k : ℕ) (_ : Unit) : sProp 𝕄 :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4)
    ∗ (∃ f, (arg11.view.loc (c : Thread nD τ) ↦[arg11.view.set]{fullShare} f) ∗ ⌜arg11.view.readAt (Elt F) rM0.toLoadRect f = (st (arg2.view.read _ X_arg2) (arg3.view.read _ X_arg3) (arg4.view.read _ X_arg4) 0 (2 * k)).1 ∧ arg11.view.readAt (Elt F) rM1.toLoadRect f = (st (arg2.view.read _ X_arg2) (arg3.view.read _ X_arg3) (arg4.view.read _ X_arg4) 1 (2 * k)).1⌝)
    ∗ (∃ f, (arg12.view.loc (c : Thread nD τ) ↦[arg12.view.set]{fullShare} f) ∗ ⌜arg12.view.readAt (Elt F) rA0.toLoadRect f = (st (arg2.view.read _ X_arg2) (arg3.view.read _ X_arg3) (arg4.view.read _ X_arg4) 0 (2 * k)).2 ∧ arg12.view.readAt (Elt F) rA1.toLoadRect f = (st (arg2.view.read _ X_arg2) (arg3.view.read _ X_arg3) (arg4.view.read _ X_arg4) 1 (2 * k)).2⌝)
    ∗ (∃ f, (arg13.view.loc (c : Thread nD τ) ↦[arg13.view.set]{fullShare} f) ∗ ⌜arg13.view.readAt (Elt F) rS0.toLoadRect f = sc (arg2.view.read _ X_arg2) (arg3.view.read _ X_arg3) (2 * k) 0 ∧ arg13.view.readAt (Elt F) rS1.toLoadRect f = sc (arg2.view.read _ X_arg2) (arg3.view.read _ X_arg3) (2 * k) 1⌝))

set_option maxHeartbeats 1600000 in
/-- One trip takes the state of `2 k` key blocks to that of `2 (k + 1)`. -/
theorem trip (𝒱 : Variants) (c : Dev nD) (bd : Option 𝒱.V) (i : grid0.Coords) (arg2 : Memref sig .tc .vmem S1024x256 .bf16) (harg2 : arg2.IsWhole) (arg3 : Memref sig .tc .vmem S8192x256 .bf16) (harg3 : arg3.IsWhole) (arg4 : Memref sig .tc .vmem S256x8192 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x256 .f32) (harg9 : arg9.IsWhole) (arg10 : Memref sig .tc .vmem S1024x256 .bf16) (harg10 : arg10.IsWhole) (arg11 : Memref sig .tc .vmem S2x1x1024 .f32) (harg11 : arg11.IsWhole) (arg12 : Memref sig .tc .vmem S2x272x1024 .f32) (harg12 : arg12.IsWhole) (arg13 : Memref sig .tc .vmem S4x1024x1024 .f32) (harg13 : arg13.IsWhole) (c0_i32_18 : BitVec 32) (c1_i32 : BitVec 32)
    (X_arg2 : BufTy.Contents (Elt F) arg2.view.ty) (X_arg3 : BufTy.Contents (Elt F) arg3.view.ty) (X_arg4 : BufTy.Contents (Elt F) arg4.view.ty) (k : Fin k0_t1_loop.trips) (E : Set ℕ) :
      inv (F := F) c i arg2 harg2 arg3 harg3 arg4 harg4 arg5 harg5 arg6 harg6 arg7 harg7 arg8 harg8 arg9 harg9 arg10 harg10 arg11 harg11 arg12 harg12 arg13 harg13 X_arg2 X_arg3 X_arg4 k.val ()
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 c0_i32_18 c1_i32 k PUnit.unit)
          (fun _ => inv (F := F) c i arg2 harg2 arg3 harg3 arg4 harg4 arg5 harg5 arg6 harg6 arg7 harg7 arg8 harg8 arg9 harg9 arg10 harg10 arg11 harg11 arg12 harg12 arg13 harg13 X_arg2 X_arg3 X_arg4 (k.val + 1) ()) := by
  have hk : k.val < 3 := Nat.lt_of_lt_of_le k.isLt k0_t1_abs.2.1
  unfold k0_t1_body
  iintro ⟨HR_arg2, HR_arg3, HR_arg4, ⟨%f11, HW_arg11, %h11⟩, ⟨%f12, HW_arg12, %h12⟩, ⟨%f13, HW_arg13, %h13⟩⟩
  sl_exec
  sl_step
  isplitl [HR_arg2]; · iexact HR_arg2
  isplitl [HR_arg3]; · iexact HR_arg3
  isplitl [HR_arg4]; · iexact HR_arg4
  isplitl [HW_arg11]
  · iexists _; isplitl [HW_arg11]; · iexact HW_arg11
    ipureintro
    iterate 10 try delta trip.sl.v343 trip.sl.v345 trip.sl.v355 trip.sl.v318 trip.sl.v320 trip.sl.v330 trip.sl.v262 trip.sl.v264 trip.sl.v237 trip.sl.v274 trip.sl.r trip.sl.r_1 trip.sl.r_2 trip.sl.r_3 trip.sl.r_4 trip.sl.r_5 trip.sl.r_6 trip.sl.r_7 trip.sl.HW_arg11_2 trip.sl.HW_arg11_3 trip.sl.HW_arg12_2 trip.sl.HW_arg12_3 trip.sl.HW_arg13_4
    simp -proj only [readAt_head, View.readCov_cons_toLoadRect, readAt_none, readAt_skip _ _ dM01, readAt_skip _ _ dM10, readAt_skip _ _ dA01, readAt_skip _ _ dA10,
      readAt_skip _ _ dS10, readAt_skip _ _ dS20, readAt_skip _ _ dS30, readAt_skip _ _ dS21, readAt_skip _ _ dS31,
      readCov_skip _ dM01, readCov_skip _ dM10, readCov_skip _ dA01, readCov_skip _ dA10, readCov_skip _ dS01, readCov_skip _ dS02, readCov_skip _ dS03, readCov_skip _ dS12, readCov_skip _ dS13,
      readCov_skip _ dS32, h11.1, h11.2, h12.1, h12.2, h13.1, h13.2, rd1_1, rd1_2, rd2_1, rd2_2, rd3, rd4, rdq0, rdq1,
      m_form1, m_form2, m_form3, a_form1, a_form2, a_form3]
    have e : 2 * (k.val + 1) = (2 * k.val + 1) + 1 := by omega
    rw [e]
    exact ⟨rfl, rfl⟩
  isplitl [HW_arg12]
  · iexists _; isplitl [HW_arg12]; · iexact HW_arg12
    ipureintro
    iterate 10 try delta trip.sl.v343 trip.sl.v345 trip.sl.v355 trip.sl.v318 trip.sl.v320 trip.sl.v330 trip.sl.v262 trip.sl.v264 trip.sl.v237 trip.sl.v274 trip.sl.r trip.sl.r_1 trip.sl.r_2 trip.sl.r_3 trip.sl.r_4 trip.sl.r_5 trip.sl.r_6 trip.sl.r_7 trip.sl.HW_arg11_2 trip.sl.HW_arg11_3 trip.sl.HW_arg12_2 trip.sl.HW_arg12_3 trip.sl.HW_arg13_4
    simp -proj only [readAt_head, View.readCov_cons_toLoadRect, readAt_none, readAt_skip _ _ dM01, readAt_skip _ _ dM10, readAt_skip _ _ dA01, readAt_skip _ _ dA10,
      readAt_skip _ _ dS10, readAt_skip _ _ dS20, readAt_skip _ _ dS30, readAt_skip _ _ dS21, readAt_skip _ _ dS31,
      readCov_skip _ dM01, readCov_skip _ dM10, readCov_skip _ dA01, readCov_skip _ dA10, readCov_skip _ dS01, readCov_skip _ dS02, readCov_skip _ dS03, readCov_skip _ dS12, readCov_skip _ dS13,
      readCov_skip _ dS32, h11.1, h11.2, h12.1, h12.2, h13.1, h13.2, rd1_1, rd1_2, rd2_1, rd2_2, rd3, rd4, rdq0, rdq1,
      m_form1, m_form2, m_form3, a_form1, a_form2, a_form3]
    have e : 2 * (k.val + 1) = (2 * k.val + 1) + 1 := by omega
    rw [e]
    exact ⟨rfl, rfl⟩
  iexists _; isplitl [HW_arg13]; · iexact HW_arg13
  ipureintro
  iterate 10 try delta trip.sl.v343 trip.sl.v345 trip.sl.v355 trip.sl.v318 trip.sl.v320 trip.sl.v330 trip.sl.v262 trip.sl.v264 trip.sl.v237 trip.sl.v274 trip.sl.r trip.sl.r_1 trip.sl.r_2 trip.sl.r_3 trip.sl.r_4 trip.sl.r_5 trip.sl.r_6 trip.sl.r_7 trip.sl.HW_arg11_2 trip.sl.HW_arg11_3 trip.sl.HW_arg12_2 trip.sl.HW_arg12_3 trip.sl.HW_arg13_4
  simp -proj only [readAt_head, View.readCov_cons_toLoadRect, readAt_none, readAt_skip _ _ dM01, readAt_skip _ _ dM10, readAt_skip _ _ dA01, readAt_skip _ _ dA10,
      readAt_skip _ _ dS10, readAt_skip _ _ dS20, readAt_skip _ _ dS30, readAt_skip _ _ dS21, readAt_skip _ _ dS31,
      readCov_skip _ dM01, readCov_skip _ dM10, readCov_skip _ dA01, readCov_skip _ dA10, readCov_skip _ dS01, readCov_skip _ dS02, readCov_skip _ dS03, readCov_skip _ dS12, readCov_skip _ dS13,
      readCov_skip _ dS32, h11.1, h11.2, h12.1, h12.2, h13.1, h13.2, rd1_1, rd1_2, rd2_1, rd2_2, rd3, rd4, rdq0, rdq1,
      m_form1, m_form2, m_form3, a_form1, a_form2, a_form3]
  have e : 2 * (k.val + 1) = 2 * k.val + 2 := by omega
  rw [e]
  exact ⟨rfl, rfl⟩

end Cert.KernelIdeal.Diff

end
-- ==== Proof.DiffRun.lean ====
module

public import proofs.«01_k».proof.Proof.DiffBody

@[expose] public section

set_option maxRecDepth 16384

noncomputable section

namespace Cert.KernelIdeal.Diff

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-! ## The rest of the updates, in the shapes the kernel cuts them into -/

section Forms

variable (v : Vec F S256x1024 .bf16) (s : Vec F S1x1024x1024 .f32) (m : Vec F S1x1x1024 .f32) (a : Vec F S1x272x1024 .f32)
variable (k : Vec F S1024x128 .bf16) (q : Vec F S1024x128 .bf16)

theorem s_form1 : k0_pay28 k q = k0_pay2 k q := rfl
theorem s_form2 : k0_pay29 k q = k0_pay2 k q := rfl
theorem s_form3 : k0_pay35 k q = k0_pay2 k q := rfl
theorem s_form4 : k0_pay36 k q = k0_pay2 k q := rfl
theorem m_form4 : k0_pay43 (k0_pay39 m) (k0_pay40 s) = k0_pay25 s m := rfl
theorem m_form5 : k0_pay50 (k0_pay46 s m) = k0_pay25 s m := rfl
theorem m_form6 : k0_pay56 (k0_pay54 s m) = k0_pay25 s m := rfl
theorem m_form7 : k0_pay61 s m = k0_pay25 s m := rfl
theorem a_form4 : k0_pay42 (k0_pay37 v) (k0_pay38 s) (k0_pay39 m) (k0_pay40 s) a = k0_pay24 v s m a := rfl
theorem a_form5 : k0_pay49 (k0_pay47 s m a) (k0_pay48 (k0_pay37 v) s m) = k0_pay24 v s m a := rfl
theorem a_form6 : k0_pay55 v s m a = k0_pay24 v s m a := rfl
theorem a_form7 : k0_pay60 (k0_pay51 v) s m a = k0_pay24 v s m a := rfl

end Forms

/-- The weighted sums of the values in the running sums. -/
def num (w : S1x272x1024.Idx → Elt F .f32) : S1x256x1024.Idx → Elt F .f32 :=
  VecWindow.window w ![0, 0, 0] S1x256x1024.size (by intro a; fin_cases a <;> decide)

/-- The sum of the weights in the running sums: their row 256. -/
def den (w : S1x272x1024.Idx → Elt F .f32) : S1x1x1024.Idx → Elt F .f32 :=
  VecWindow.window w ![0, 256, 0] S1x1x1024.size (by intro a; fin_cases a <;> decide)

abbrev rN0 : Rect S2x272x1024 := Rect.unit (s := S2x272x1024) ![0, 0, 0] S1x256x1024.size inb_S2x272x1024_S1x256x1024_0_0_0
abbrev rN1 : Rect S2x272x1024 := Rect.unit (s := S2x272x1024) ![1, 0, 0] S1x256x1024.size inb_S2x272x1024_S1x256x1024_1_0_0
abbrev rD0 : Rect S2x272x1024 := Rect.unit (s := S2x272x1024) ![0, 256, 0] S1x1x1024.size inb_S2x272x1024_S1x1x1024_0_256_0
abbrev rD1 : Rect S2x272x1024 := Rect.unit (s := S2x272x1024) ![1, 256, 0] S1x1x1024.size inb_S2x272x1024_S1x1x1024_1_256_0

theorem dN10 : Disjoint rA1.set rN0.toLoadRect.set := Rect.unit_disjoint (0 : Fin 3) (.inr (by decide))
theorem dD10 : Disjoint rA1.set rD0.toLoadRect.set := Rect.unit_disjoint (0 : Fin 3) (.inr (by decide))

section Sub

variable {κ : Kind} {sp : Space} (v : View sig κ sp S2x272x1024 .f32) (f : v.ty.Contents (Elt F))
  (w : S1x272x1024.Idx → Elt F .f32) (L : List (View.Piece (Elt F) S2x272x1024 .f32))

/-- A load inside the last store's rectangle reads that part of what was stored. -/
theorem readAt_inside {r : Rect S2x272x1024} (w : r.shape.Idx → Elt F .f32) {B : LoadRect S2x272x1024} (g : B.shape.Idx → r.shape.Idx)
    (h : ∀ y, B.idx y = r.emb (g y)) : v.readAt (Elt F) B (v.writes (Elt F) f (⟨r, w⟩ :: L)) = fun y => w (g y) := by
  funext y
  rw [View.readAt_apply, h]
  exact View.read_writes_cons_emb v f r w L (g y)

theorem idxN0 (y : S1x256x1024.Idx) : rN0.toLoadRect.idx y = rA0.emb ((Rect.unit (s := S1x272x1024) ![0, 0, 0] S1x256x1024.size (by intro a; fin_cases a <;> decide)).emb y) := by
  funext a
  fin_cases a <;> apply Fin.ext
  · show 0 + 1 * (y 0).val = 0 + 1 * (0 + 1 * (y 0).val); omega
  · show 0 + 1 * (y 1).val = 0 + 1 * (0 + 1 * (y 1).val); omega
  · show 0 + 1 * (y 2).val = 0 + 1 * (0 + 1 * (y 2).val); omega
theorem rdN0 : v.readAt (Elt F) rN0.toLoadRect (v.writes (Elt F) f (⟨rA0, w⟩ :: L)) = num w := by
  rw [readAt_inside v f L (r := rA0) w (B := rN0.toLoadRect) _ idxN0]
  rfl
theorem idxN1 (y : S1x256x1024.Idx) : rN1.toLoadRect.idx y = rA1.emb ((Rect.unit (s := S1x272x1024) ![0, 0, 0] S1x256x1024.size (by intro a; fin_cases a <;> decide)).emb y) := by
  funext a
  fin_cases a <;> apply Fin.ext
  · show 1 + 1 * (y 0).val = 1 + 1 * (0 + 1 * (y 0).val); omega
  · show 0 + 1 * (y 1).val = 0 + 1 * (0 + 1 * (y 1).val); omega
  · show 0 + 1 * (y 2).val = 0 + 1 * (0 + 1 * (y 2).val); omega
theorem rdN1 : v.readAt (Elt F) rN1.toLoadRect (v.writes (Elt F) f (⟨rA1, w⟩ :: L)) = num w := by
  rw [readAt_inside v f L (r := rA1) w (B := rN1.toLoadRect) _ idxN1]
  rfl
theorem idxD0 (y : S1x1x1024.Idx) : rD0.toLoadRect.idx y = rA0.emb ((Rect.unit (s := S1x272x1024) ![0, 256, 0] S1x1x1024.size (by intro a; fin_cases a <;> decide)).emb y) := by
  funext a
  fin_cases a <;> apply Fin.ext
  · show 0 + 1 * (y 0).val = 0 + 1 * (0 + 1 * (y 0).val); omega
  · show 256 + 1 * (y 1).val = 0 + 1 * (256 + 1 * (y 1).val); omega
  · show 0 + 1 * (y 2).val = 0 + 1 * (0 + 1 * (y 2).val); omega
theorem rdD0 : v.readAt (Elt F) rD0.toLoadRect (v.writes (Elt F) f (⟨rA0, w⟩ :: L)) = den w := by
  rw [readAt_inside v f L (r := rA0) w (B := rD0.toLoadRect) _ idxD0]
  rfl
theorem idxD1 (y : S1x1x1024.Idx) : rD1.toLoadRect.idx y = rA1.emb ((Rect.unit (s := S1x272x1024) ![0, 256, 0] S1x1x1024.size (by intro a; fin_cases a <;> decide)).emb y) := by
  funext a
  fin_cases a <;> apply Fin.ext
  · show 1 + 1 * (y 0).val = 1 + 1 * (0 + 1 * (y 0).val); omega
  · show 256 + 1 * (y 1).val = 0 + 1 * (256 + 1 * (y 1).val); omega
  · show 0 + 1 * (y 2).val = 0 + 1 * (0 + 1 * (y 2).val); omega
theorem rdD1 : v.readAt (Elt F) rD1.toLoadRect (v.writes (Elt F) f (⟨rA1, w⟩ :: L)) = den w := by
  rw [readAt_inside v f L (r := rA1) w (B := rD1.toLoadRect) _ idxD1]
  rfl

theorem rcN0 : v.readCov (⟨rA0, w⟩ :: L) rN0.toLoadRect = num w := rdN0 v v.junk w L
theorem rcN1 : v.readCov (⟨rA1, w⟩ :: L) rN1.toLoadRect = num w := rdN1 v v.junk w L
theorem rcD0 : v.readCov (⟨rA0, w⟩ :: L) rD0.toLoadRect = den w := rdD0 v v.junk w L
theorem rcD1 : v.readCov (⟨rA1, w⟩ :: L) rD1.toLoadRect = den w := rdD1 v v.junk w L

end Sub

/-- The block of the result that a grid point leaves, from its blocks of the queries, keys, transposed values, the
four lambda vectors and the gain. -/
def outv (x2 : S1024x256.Idx → Elt F .bf16) (x3 : S8192x256.Idx → Elt F .bf16) (x4 : S256x8192.Idx → Elt F .bf16)
    (x5 x6 x7 x8 : S1x128.Idx → Elt F .f32) (x9 : S1x256.Idx → Elt F .f32) : S1024x256.Idx → Elt F .bf16 :=
  k0_pay1 (k0_pay63 (k0_pay62 x5 x6) x7 x8 (num (st x2 x3 x4 0 8).2) (den (st x2 x3 x4 0 8).2) (num (st x2 x3 x4 1 8).2) (den (st x2 x3 x4 1 8).2))
    x9 (k0_pay64 (k0_pay62 x5 x6) x7 x8 (num (st x2 x3 x4 0 8).2) (den (st x2 x3 x4 0 8).2) (num (st x2 x3 x4 1 8).2) (den (st x2 x3 x4 1 8).2))

theorem trips_eq : k0_t1_loop.trips = 3 := by decide +kernel

/-- Filling a whole buffer with one value leaves that value at every slot. -/
theorem rdFillM {κ : Kind} {sp : Space} (v : View sig κ sp S2x1x1024 .f32) (f : v.ty.Contents (Elt F)) (inb) (r : Rect S2x1x1024)
    (L : List (View.Piece (Elt F) S2x1x1024 .f32)) :
    v.readAt (Elt F) r.toLoadRect (v.writes (Elt F) f (⟨Rect.unit (s := S2x1x1024) ![0, 0, 0] S2x1x1024.size inb, k0_pay26⟩ :: L))
      = fun _ => Scalar.ofBits .f32 0xFF800000#32 := by
  funext y
  rw [View.readAt_apply, View.read_writes_full]
  rfl
theorem rdFillA {κ : Kind} {sp : Space} (v : View sig κ sp S2x272x1024 .f32) (f : v.ty.Contents (Elt F)) (inb) (r : Rect S2x272x1024)
    (L : List (View.Piece (Elt F) S2x272x1024 .f32)) :
    v.readAt (Elt F) r.toLoadRect (v.writes (Elt F) f (⟨Rect.unit (s := S2x272x1024) ![0, 0, 0] S2x272x1024.size inb, k0_pay27⟩ :: L))
      = fun _ => Scalar.ofBits .f32 0x00000000#32 := by
  funext y
  rw [View.readAt_apply, View.read_writes_full]
  rfl

/-- A buffer held at any contents is owned at some value. -/
theorem any_contents (c : Dev nD) {sp : Space} {s : Shape} {e : EltTy} (m : Memref sig .tc sp s e) (f : Buf (Elt F) (m.view.loc (c : Thread nD τ))) :
    (m.view.loc (c : Thread nD τ) ↦[m.view.set]{fullShare} f : sProp 𝕄)
      ⊢ iprop(∃ d, ∃ f, ⌜m.view.read (Elt F) f = d⌝ ∗ (m.view.loc (c : Thread nD τ) ↦[m.view.set]{fullShare} f)) := by
  iintro H
  iexists (m.view.read (Elt F) f); iexists f
  isplitr; · ipureintro; rfl
  iexact H

set_option maxHeartbeats 1000000 in
/-- One grid point: from its eight input blocks, with the result's block and the scratch at anything, to `outv` in the
result's block, the inputs as they were. -/
theorem kernelRun (𝒱 : Variants) (c : Dev nD) (bd : Option 𝒱.V) (i : grid0.Coords) (arg2 : Memref sig .tc .vmem S1024x256 .bf16) (harg2 : arg2.IsWhole) (arg3 : Memref sig .tc .vmem S8192x256 .bf16) (harg3 : arg3.IsWhole) (arg4 : Memref sig .tc .vmem S256x8192 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x256 .f32) (harg9 : arg9.IsWhole) (arg10 : Memref sig .tc .vmem S1024x256 .bf16) (harg10 : arg10.IsWhole) (arg11 : Memref sig .tc .vmem S2x1x1024 .f32) (harg11 : arg11.IsWhole) (arg12 : Memref sig .tc .vmem S2x272x1024 .f32) (harg12 : arg12.IsWhole) (arg13 : Memref sig .tc .vmem S4x1024x1024 .f32) (harg13 : arg13.IsWhole) (E : Set ℕ)
    (x2 : S1024x256.Idx → Elt F .bf16) (x3 : S8192x256.Idx → Elt F .bf16) (x4 : S256x8192.Idx → Elt F .bf16)
    (x5 x6 x7 x8 : S1x128.Idx → Elt F .f32) (x9 : S1x256.Idx → Elt F .f32) (Q : PUnit → sProp 𝕄) :
      iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9
        ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare x8 ∗ owns (c : Thread nD τ) arg9 fullShare x9
            ∗ owns (c : Thread nD τ) arg10 fullShare (outv x2 x3 x4 x5 x6 x7 x8 x9) ∗ (∃ d, owns (c : Thread nD τ) arg11 fullShare d)
            ∗ (∃ d, owns (c : Thread nD τ) arg12 fullShare d) ∗ (∃ d, owns (c : Thread nD τ) arg13 fullShare d)) -∗ Q ⟨⟩))
      ⊢ wp frame (wpE (defs₀ (F := F)) 𝒱 (c : Thread nD τ) bd) E (cc0_diff1 (F := F) i arg2 harg2 arg3 harg3 arg4 harg4 arg5 harg5 arg6 harg6 arg7 harg7 arg8 harg8 arg9 harg9 arg10 harg10 arg11 harg11 arg12 harg12 arg13 harg13) Q := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  obtain rfl := hf2
  obtain rfl := hf3
  obtain rfl := hf4
  obtain rfl := hf5
  obtain rfl := hf6
  obtain rfl := hf7
  obtain rfl := hf8
  obtain rfl := hf9
  simp only [cc0_diff1_eq_skeleton]; unfold cc0_diff1_skel
  sl_exec
  sl_for (inv (F := F) c i arg2 harg2 arg3 harg3 arg4 harg4 arg5 harg5 arg6 harg6 arg7 harg7 arg8 harg8 arg9 harg9 arg10 harg10 arg11 harg11 arg12 harg12 arg13 harg13 f2 f3 f4) $$ [H2 H3 H4 H11 H12 H13]
  case region =>
    intro k _
    exact trip 𝒱 c bd i arg2 harg2 arg3 harg3 arg4 harg4 arg5 harg5 arg6 harg6 arg7 harg7 arg8 harg8 arg9 harg9 arg10 harg10 arg11 harg11 arg12 harg12 arg13 harg13 _ _ f2 f3 f4 k E
  · isplitl [H2]; · iexact H2
    isplitl [H3]; · iexact H3
    isplitl [H4]; · iexact H4
    isplitl [H11]
    · iexists _; isplitl [H11]; · iexact H11
      ipureintro
      exact ⟨rdFillM arg11.view _ _ _ _, rdFillM arg11.view _ _ _ _⟩
    isplitl [H12]
    · iexists _; isplitl [H12]; · iexact H12
      ipureintro
      exact ⟨rdFillA arg12.view _ _ _ _, rdFillA arg12.view _ _ _ _⟩
    iexists _; isplitl [H13]; · iexact H13
    ipureintro
    iterate 12 try delta kernelRun.sl.r_4 kernelRun.sl.r_7 kernelRun.sl.v174 kernelRun.sl.v109 kernelRun.sl.v136 kernelRun.sl.r_6 kernelRun.sl.v134 kernelRun.sl.H12_2 kernelRun.sl.r_2 kernelRun.sl.r_8 kernelRun.sl.r kernelRun.sl.H11_3 kernelRun.sl.v121 kernelRun.sl.v176 kernelRun.sl.r_10 kernelRun.sl.v180 kernelRun.sl.H12_1 kernelRun.sl.H12_4 kernelRun.sl.H11_1 kernelRun.sl.v78 kernelRun.sl.H12_3 kernelRun.sl.r_1 kernelRun.sl.v53 kernelRun.sl.r_3 kernelRun.sl.r_11 kernelRun.sl.v182 kernelRun.sl.v80 kernelRun.sl.H13_2 kernelRun.sl.r_13 kernelRun.sl.r_12 kernelRun.sl.v146 kernelRun.sl.r_9 kernelRun.sl.r_5 kernelRun.sl.v111 kernelRun.sl.H11_2 kernelRun.sl.v90
    simp -proj only [readAt_head, View.readCov_cons_toLoadRect, readAt_none, readAt_skip _ _ dM01, readAt_skip _ _ dM10, readAt_skip _ _ dA01, readAt_skip _ _ dA10,
      readAt_skip _ _ dN10, readAt_skip _ _ dD10, readCov_skip _ dN10, readCov_skip _ dD10, rdN0, rdN1, rdD0, rdD1, rcN0, rcN1, rcD0, rcD1,
      readAt_skip _ _ dS10, readAt_skip _ _ dS20, readAt_skip _ _ dS30, readAt_skip _ _ dS21, readAt_skip _ _ dS31,
      readCov_skip _ dM01, readCov_skip _ dM10, readCov_skip _ dA01, readCov_skip _ dA10, readCov_skip _ dS01, readCov_skip _ dS02, readCov_skip _ dS03, readCov_skip _ dS12, readCov_skip _ dS13,
      readCov_skip _ dS32, rdq0, rdq1, rdk00, rdk01, rdk70, rdk71, rdv6, rdv7, View.readAt_full,
      s_form1, s_form2, s_form3, s_form4, m_form4, m_form5, m_form6, m_form7, a_form4, a_form5, a_form6, a_form7]
    exact ⟨rfl, rfl⟩
  iintro %_ HI
  icases HI with ⟨H2, H3, H4, ⟨%g11, H11, %h11⟩, ⟨%g12, H12, %h12⟩, ⟨%g13, H13, %h13⟩⟩
  have e6 : 2 * Scf.trips k0_t1_loop.lb k0_t1_loop.ub k0_t1_loop.st = 6 := by
    have := trips_eq; show 2 * k0_t1_loop.trips = 6; omega
  rw [e6] at h11 h12 h13
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr; rotate_left; · iexact H10
    ipureintro
    rw [View.read_writes_full]
    iterate 12 try delta kernelRun.sl.r_4 kernelRun.sl.r_7 kernelRun.sl.v174 kernelRun.sl.v109 kernelRun.sl.v136 kernelRun.sl.r_6 kernelRun.sl.v134 kernelRun.sl.H12_2 kernelRun.sl.r_2 kernelRun.sl.r_8 kernelRun.sl.r kernelRun.sl.H11_3 kernelRun.sl.v121 kernelRun.sl.v176 kernelRun.sl.r_10 kernelRun.sl.v180 kernelRun.sl.H12_1 kernelRun.sl.H12_4 kernelRun.sl.H11_1 kernelRun.sl.v78 kernelRun.sl.H12_3 kernelRun.sl.r_1 kernelRun.sl.v53 kernelRun.sl.r_3 kernelRun.sl.r_11 kernelRun.sl.v182 kernelRun.sl.v80 kernelRun.sl.H13_2 kernelRun.sl.r_13 kernelRun.sl.r_12 kernelRun.sl.v146 kernelRun.sl.r_9 kernelRun.sl.r_5 kernelRun.sl.v111 kernelRun.sl.H11_2 kernelRun.sl.v90
    simp -proj only [readAt_head, View.readCov_cons_toLoadRect, readAt_none, readAt_skip _ _ dM01, readAt_skip _ _ dM10, readAt_skip _ _ dA01, readAt_skip _ _ dA10,
      readAt_skip _ _ dN10, readAt_skip _ _ dD10, readCov_skip _ dN10, readCov_skip _ dD10, rdN0, rdN1, rdD0, rdD1, rcN0, rcN1, rcD0, rcD1,
      readAt_skip _ _ dS10, readAt_skip _ _ dS20, readAt_skip _ _ dS30, readAt_skip _ _ dS21, readAt_skip _ _ dS31,
      readCov_skip _ dM01, readCov_skip _ dM10, readCov_skip _ dA01, readCov_skip _ dA10, readCov_skip _ dS01, readCov_skip _ dS02, readCov_skip _ dS03, readCov_skip _ dS12, readCov_skip _ dS13,
      readCov_skip _ dS32, h11.1, h11.2, h12.1, h12.2, h13.1, h13.2, rdq0, rdq1, rdk00, rdk01, rdk70, rdk71, rdv6, rdv7, View.readAt_full,
      s_form1, s_form2, s_form3, s_form4, m_form4, m_form5, m_form6, m_form7, a_form4, a_form5, a_form6, a_form7]
    rfl
  isplitl [H11]
  · iapply (any_contents c arg11 _); iexact H11
  isplitl [H12]
  · iapply (any_contents c arg12 _); iexact H12
  iapply (any_contents c arg13 _); iexact H13

end Cert.KernelIdeal.Diff

end
-- ==== Proof.DiffFrame.lean ====
module

public import proofs.«01_k».proof.Proof.DiffRun
public import Idealize.ShloMosaic.Lib.Claim

@[expose] public section

set_option maxRecDepth 16384

noncomputable section

namespace Cert.KernelIdeal.Diff

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- What each window's staging buffer holds after a point: an input its block, the result `outv` of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outv (iblk m c 0 t) (iblk m c 1 t) (iblk m c 2 t) (iblk m c 3 t) (iblk m c 4 t) (iblk m c 5 t) (iblk m c 6 t) (iblk m c 7 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outv (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

/-- The scratch buffers and the generator's register, all at anything. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 1000000 in
/-- The body at any point takes what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).leavesExact 0 t = owns (c : Thread nD τ) (st0_0 t) fullShare ((dats m 0 c).after 0 t) from by
    unfold Dat.leavesExact; rw [show cfg0.idle 0 (grid0.coords t) = false from rfl], after0_0]
  rw [show (dats m 0 c).leavesExact 1 t = owns (c : Thread nD τ) (st0_1 t) fullShare ((dats m 0 c).after 1 t) from by
    unfold Dat.leavesExact; rw [show cfg0.idle 1 (grid0.coords t) = false from rfl], after0_1]
  rw [show (dats m 0 c).leavesExact 2 t = owns (c : Thread nD τ) (st0_2 t) fullShare ((dats m 0 c).after 2 t) from by
    unfold Dat.leavesExact; rw [show cfg0.idle 2 (grid0.coords t) = false from rfl], after0_2]
  rw [show (dats m 0 c).leavesExact 3 t = owns (c : Thread nD τ) (st0_3 t) fullShare ((dats m 0 c).after 3 t) from by
    unfold Dat.leavesExact; rw [show cfg0.idle 3 (grid0.coords t) = false from rfl], after0_3]
  rw [show (dats m 0 c).leavesExact 4 t = owns (c : Thread nD τ) (st0_4 t) fullShare ((dats m 0 c).after 4 t) from by
    unfold Dat.leavesExact; rw [show cfg0.idle 4 (grid0.coords t) = false from rfl], after0_4]
  rw [show (dats m 0 c).leavesExact 5 t = owns (c : Thread nD τ) (st0_5 t) fullShare ((dats m 0 c).after 5 t) from by
    unfold Dat.leavesExact; rw [show cfg0.idle 5 (grid0.coords t) = false from rfl], after0_5]
  rw [show (dats m 0 c).leavesExact 6 t = owns (c : Thread nD τ) (st0_6 t) fullShare ((dats m 0 c).after 6 t) from by
    unfold Dat.leavesExact; rw [show cfg0.idle 6 (grid0.coords t) = false from rfl], after0_6]
  rw [show (dats m 0 c).leavesExact 7 t = owns (c : Thread nD τ) (st0_7 t) fullShare ((dats m 0 c).after 7 t) from by
    unfold Dat.leavesExact; rw [show cfg0.idle 7 (grid0.coords t) = false from rfl], after0_7]
  rw [show (dats m 0 c).leavesExact 8 t = owns (c : Thread nD τ) (st0_8 t) fullShare ((dats m 0 c).after 8 t) from by
    unfold Dat.leavesExact; rw [show cfg0.idle 8 (grid0.coords t) = false from rfl], after0_8]
  rw [show (dats m 0 c).Φ t.castSucc = Pipeline.ΦA spec0 c from rfl, show (dats m 0 c).Φ t.succ = Pipeline.ΦA spec0 c from rfl, PhiA_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernelRun Variants.none c none (grid0.coords t) _ _ _ _ _ _ _ _ _ _ _ _ _ _ _ _ _ _ _ _ _ _ _ _ Set.univ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at a point's slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The launch's obligation for the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every execution ends with the arrays at what `dats` says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Diff

end
-- ==== Proof.DiffRead.lean ====
module

public import proofs.«01_k».proof.Proof.DiffFrame
public import Idealize.ShloMosaic.Lib.Pipeline.ValueKit
public import Idealize.ShloMosaic.Lib.Pointwise

@[expose] public section

set_option maxRecDepth 16384

noncomputable section

namespace Cert.KernelIdeal.Diff

open Cert.KernelIdeal Cert.KernelIdeal.Gen Idealize.ShloMosaic Idealize.ShloMosaic.TcCoe Idealize.SL.Sem

/-! ## What the kernel stores, at an index -/

/-- A score: a key's half times a query's. -/
theorem pay2_apply (k q : FVec Ideal S1024x128 .bf16) (i r : Fin 1024) :
    k0_pay2 (F := Ideal) k q (ix3 0 i r) = (∑ d : Fin 128, k (ix2 i d) * q (ix2 r d) : EReal) := by
  pointwise [k0_pay2]

/-- The running maximum after a block. -/
theorem pay25_apply (s : FVec Ideal S1x1024x1024 .f32) (m : FVec Ideal S1x1x1024 .f32) (r : Fin 1024) :
    k0_pay25 (F := Ideal) s m (ix3 0 0 r) = max (m (ix3 0 0 r))
      ((Finset.univ : Finset (Fin 1024)).fold max (Ideal.ofBits .f32 0xFF800000#32) fun i => s (ix3 0 i r)) := by
  pointwise [k0_pay25, k0_pay23, k0_pay22, k0_pay21]

/-- The values with rows of ones below them. -/
def ext (v : FVec Ideal S256x1024 .bf16) (e : Fin 272) (i : Fin 1024) : EReal :=
  if h : e.val < 256 then v (ix2 ⟨e.val, h⟩ i) else 1

theorem pay20_apply (v : FVec Ideal S256x1024 .bf16) (e : Fin 272) (i : Fin 1024) :
    k0_pay20 (F := Ideal) v (ix2 e i) = ext v e i := by
  pointwise [k0_pay20, ext]

/-- The running sums after a block. -/
theorem pay24_apply (v : FVec Ideal S256x1024 .bf16) (s : FVec Ideal S1x1024x1024 .f32) (m : FVec Ideal S1x1x1024 .f32)
    (a : FVec Ideal S1x272x1024 .f32) (e : Fin 272) (r : Fin 1024) :
    k0_pay24 (F := Ideal) v s m a (ix3 0 e r) = Ideal.exp2 (m (ix3 0 0 r) - k0_pay23 (F := Ideal) s m (ix2 0 r)) * a (ix3 0 e r)
      + ∑ i : Fin 1024, k0_pay20 (F := Ideal) v (ix2 e i) * Ideal.exp2 (s (ix3 0 i r) - k0_pay23 (F := Ideal) s m (ix2 0 r)) := by
  pointwise [k0_pay24, k0_pay22, k0_pay21]
  rfl

theorem pay23_apply (s : FVec Ideal S1x1024x1024 .f32) (m : FVec Ideal S1x1x1024 .f32) (r : Fin 1024) :
    k0_pay23 (F := Ideal) s m (ix2 0 r) = k0_pay25 (F := Ideal) s m (ix3 0 0 r) := by
  pointwise [k0_pay25]

/-- The weight of the second half. -/
def lamK (x5 x6 x7 x8 : FVec Ideal S1x128 .f32) : EReal :=
  Ideal.exp (∑ i : Fin 128, x5 (ix2 0 i) * x6 (ix2 0 i)) - Ideal.exp (∑ i : Fin 128, x7 (ix2 0 i) * x8 (ix2 0 i))
    + Ideal.ofBits .f32 0x3EB60549#32

/-- The mixed row. -/
theorem pay63_apply (x5 x6 x7 x8 : FVec Ideal S1x128 .f32) (n0 n1 : FVec Ideal S1x256x1024 .f32) (d0 d1 : FVec Ideal S1x1x1024 .f32)
    (r : Fin 1024) (e : Fin 256) : k0_pay63 (F := Ideal) (k0_pay62 (F := Ideal) x5 x6) x7 x8 n0 d0 n1 d1 (ix2 r e)
      = Ideal.div (n0 (ix3 0 e r)) (d0 (ix3 0 0 r)) - lamK x5 x6 x7 x8 * Ideal.div (n1 (ix3 0 e r)) (d1 (ix3 0 0 r)) := by
  pointwise [k0_pay63, k0_pay62, lamK]

/-- The scale of the mixed row. -/
theorem pay64_apply (l x7 x8 : FVec Ideal S1x128 .f32) (n0 n1 : FVec Ideal S1x256x1024 .f32) (d0 d1 : FVec Ideal S1x1x1024 .f32)
    (r : Fin 1024) : k0_pay64 (F := Ideal) l x7 x8 n0 d0 n1 d1 (ix2 r 0)
      = Ideal.rsqrt (Ideal.div (∑ e : Fin 256, k0_pay63 (F := Ideal) l x7 x8 n0 d0 n1 d1 (ix2 r e) * k0_pay63 (F := Ideal) l x7 x8 n0 d0 n1 d1 (ix2 r e))
        (Ideal.ofBits .f32 0x43800000#32) + Ideal.ofBits .f32 0x358637BD#32) := by
  pointwise [k0_pay64]

/-- The result block. -/
theorem pay1_apply (o : FVec Ideal S1024x256 .f32) (g : FVec Ideal S1x256 .f32) (n : FVec Ideal S1024x1 .f32) (r : Fin 1024) (e : Fin 256) :
    k0_pay1 (F := Ideal) o g n (ix2 r e) = o (ix2 r e) * n (ix2 r 0) * g (ix2 0 e) * Ideal.ofBits .f32 0x3F24FD5C#32 := by
  pointwise [k0_pay1]

/-! ## The blocks it multiplies, at an index -/

theorem kb_apply (x3 : FVec Ideal S8192x256 .bf16) (j t : ℕ) (i : Fin 1024) (d : Fin 128) :
    kb (F := Ideal) x3 j t (ix2 i d) = x3 (ix2 ⟨1024 * (j % 8) + i.val, by omega⟩ ⟨128 * (t % 2) + d.val, by omega⟩) := by
  unfold kb VecWindow.window
  congr 1
  funext a
  apply Fin.ext
  refine (ValueKit.rect_emb_unit_val _ _ _ _ a).trans ?_
  fin_cases a
  · rfl
  · rfl

theorem qb_apply (x2 : FVec Ideal S1024x256 .bf16) (t : ℕ) (i : Fin 1024) (d : Fin 128) :
    qb (F := Ideal) x2 t (ix2 i d) = x2 (ix2 i ⟨128 * (t % 2) + d.val, by omega⟩) := by
  unfold qb VecWindow.window
  congr 1
  funext a
  apply Fin.ext
  refine (ValueKit.rect_emb_unit_val _ _ _ _ a).trans ?_
  fin_cases a
  · exact Nat.zero_add _
  · rfl

theorem vb_apply (x4 : FVec Ideal S256x8192 .bf16) (j : ℕ) (e : Fin 256) (i : Fin 1024) :
    vb (F := Ideal) x4 j (ix2 e i) = x4 (ix2 e ⟨1024 * (j % 8) + i.val, by omega⟩) := by
  unfold vb VecWindow.window
  congr 1
  funext a
  apply Fin.ext
  refine (ValueKit.rect_emb_unit_val _ _ _ _ a).trans ?_
  fin_cases a
  · exact Nat.zero_add _
  · rfl

theorem num_apply (w : FVec Ideal S1x272x1024 .f32) (e : Fin 256) (r : Fin 1024) :
    num (F := Ideal) w (ix3 0 e r) = w (ix3 0 ⟨e.val, by omega⟩ r) := by
  unfold num VecWindow.window
  congr 1
  funext a
  apply Fin.ext
  refine (ValueKit.rect_emb_unit_val _ _ _ _ a).trans ?_
  fin_cases a
  · rfl
  · exact Nat.zero_add _
  · exact Nat.zero_add _

theorem den_apply (w : FVec Ideal S1x272x1024 .f32) (r : Fin 1024) :
    den (F := Ideal) w (ix3 0 0 r) = w (ix3 0 ⟨256, by omega⟩ r) := by
  unfold den VecWindow.window
  congr 1
  funext a
  apply Fin.ext
  refine (ValueKit.rect_emb_unit_val _ _ _ _ a).trans ?_
  fin_cases a
  · rfl
  · rfl
  · exact Nat.zero_add _

/-! ## The blocks a grid point reads, at an index -/

variable (m : (ℓ : Loc nD τ sig) → Buf (Elt Ideal) ℓ)

/-- Where each operand's block lies at a point: the head is the point's quotient by 8, the query block its remainder. -/
theorem idx : ∀ t : Fin cfg0.N, win0_0.index t = ![t.val % 8, t.val / 8] ∧ win0_1.index t = ![0, 8 + t.val / 8]
    ∧ win0_2.index t = ![t.val / 8, 0] ∧ win0_3.index t = ![0, 0] ∧ win0_4.index t = ![0, 0]
    ∧ win0_5.index t = ![0, 0] ∧ win0_6.index t = ![0, 0] ∧ win0_7.index t = ![0, 0]
    ∧ win0_8.index t = ![t.val % 8, t.val / 8] :=
  (by decide +kernel : ∀ t : Fin grid0.N, _)

/-- The factor on the queries: one over the root of 128 times the logarithm of two. -/
def cK : EReal := Ideal.div (Ideal.ofBits .f32 0x3F800000#32)
  (Ideal.sqrt (Ideal.ofBits .f32 0x43000000#32) * Ideal.log (Ideal.ofBits .f32 0x40000000#32))

theorem pt_lt (t : Fin cfg0.N) : t.val < 64 := by have := t.isLt; have : cfg0.N = 64 := N_0; omega

/-- The query, key and value argument. -/
abbrev a0 (c : Dev nD) : FVec Ideal S8192x6144 .f32 := m ((c : Thread nD τ).loc main_arg0)

/-- The array of scaled queries, keys and values. -/
abbrev qkv (c : Dev nD) : FVec Ideal S8192x6144 .bf16 := V m c main_v9

theorem qkv_q (c : Dev nD) (r : Fin 8192) (d : Fin 6144) (h : d.val < 2048) : qkv m c (ix2 r d) = a0 m c (ix2 r d) * cK := by
  have e : qkv m c (ix2 r d) = if h : d.val < 2048 then a0 m c (ix2 r d) * cK else a0 m c (ix2 r ⟨2048 + (d.val - 2048), by omega⟩) := by
    unfold qkv cK
    entry_read
    pointwise
  rw [e, dif_pos h]

theorem qkv_kv (c : Dev nD) (r : Fin 8192) (d : Fin 6144) (h : ¬d.val < 2048) : qkv m c (ix2 r d) = a0 m c (ix2 r d) := by
  have e : qkv m c (ix2 r d) = if h : d.val < 2048 then a0 m c (ix2 r d) * cK else a0 m c (ix2 r ⟨2048 + (d.val - 2048), by omega⟩) := by
    unfold qkv cK
    entry_read
    pointwise
  rw [e, dif_neg h]
  congr 2
  exact Fin.ext (by show 2048 + (d.val - 2048) = d.val; omega)

/-- The array of transposed values. -/
theorem vt_apply (c : Dev nD) (e : Fin 2048) (i : Fin 8192) :
    (V m c main_v11 : FVec Ideal S2048x8192 .bf16) (ix2 e i) = a0 m c (ix2 i ⟨4096 + e.val, by omega⟩) := by
  have h : (V m c main_v11 : FVec Ideal S2048x8192 .bf16) (ix2 e i) = if h : 4096 + e.val < 2048 then
      a0 m c (ix2 i ⟨4096 + e.val, by omega⟩) * cK else a0 m c (ix2 i ⟨2048 + (4096 + e.val - 2048), by omega⟩) := by
    unfold cK
    entry_read
    pointwise
  rw [h, dif_neg (by omega)]
  congr 2
  exact Fin.ext (by show 2048 + (4096 + e.val - 2048) = 4096 + e.val; omega)

/-- The queries' block: the argument's, scaled. -/
theorem blk_q (c : Dev nD) (t : Fin cfg0.N) (r : Fin 1024) (d : Fin 256) :
    (iblk m c 0 t) (ix2 r d) = a0 m c
      (ix2 ⟨1024 * (t.val % 8) + r.val, by omega⟩ ⟨t.val / 8 * 256 + d.val, by have := pt_lt t; omega⟩) * cK := by
  have := pt_lt t
  refine Eq.trans ?_ (qkv_q m c _ _ (by show t.val / 8 * 256 + d.val < 2048; omega))
  blk_ext [iblk, idx t]

/-- The keys' block: the argument's. -/
theorem blk_k (c : Dev nD) (t : Fin cfg0.N) (i : Fin 8192) (d : Fin 256) :
    (iblk m c 1 t) (ix2 i d) = a0 m c
      (ix2 i ⟨2048 + (t.val / 8 * 256 + d.val), by have := pt_lt t; omega⟩) := by
  have := pt_lt t
  refine Eq.trans ?_ (qkv_kv m c _ _ (by show ¬2048 + (t.val / 8 * 256 + d.val) < 2048; omega))
  blk_ext [iblk, idx t]

/-- The transposed values' block: the argument's, transposed. -/
theorem blk_v (c : Dev nD) (t : Fin cfg0.N) (e : Fin 256) (i : Fin 8192) :
    (iblk m c 2 t) (ix2 e i) = a0 m c
      (ix2 i ⟨4096 + (t.val / 8 * 256 + e.val), by have := pt_lt t; omega⟩) := by
  have := pt_lt t
  refine Eq.trans ?_ (vt_apply m c ⟨t.val / 8 * 256 + e.val, by omega⟩ i)
  blk_ext [iblk, idx t]

theorem blk_1 (c : Dev nD) (t : Fin cfg0.N) (i : Fin 128) :
    (iblk m c 3 t) (ix2 0 i) = m ((c : Thread nD τ).loc main_arg1) (ix2 0 i) := by
  blk_ext [iblk, V, idx t]

theorem blk_2 (c : Dev nD) (t : Fin cfg0.N) (i : Fin 128) :
    (iblk m c 4 t) (ix2 0 i) = m ((c : Thread nD τ).loc main_arg2) (ix2 0 i) := by
  blk_ext [iblk, V, idx t]

theorem blk_3 (c : Dev nD) (t : Fin cfg0.N) (i : Fin 128) :
    (iblk m c 5 t) (ix2 0 i) = m ((c : Thread nD τ).loc main_arg3) (ix2 0 i) := by
  blk_ext [iblk, V, idx t]

theorem blk_4 (c : Dev nD) (t : Fin cfg0.N) (i : Fin 128) :
    (iblk m c 6 t) (ix2 0 i) = m ((c : Thread nD τ).loc main_arg4) (ix2 0 i) := by
  blk_ext [iblk, V, idx t]

theorem blk_g (c : Dev nD) (t : Fin cfg0.N) (e : Fin 256) :
    (iblk m c 7 t) (ix2 0 e) = m ((c : Thread nD τ).loc main_arg5) (ix2 0 e) := by
  blk_ext [iblk, V, idx t]

end Cert.KernelIdeal.Diff

end
-- ==== Proof.DiffRef.lean ====
module

public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.ReferenceIdeal.Diff

open Cert.ReferenceIdeal Cert.ReferenceIdeal.Gen Idealize.ShloMosaic Idealize.ShloMosaic.TcCoe Idealize.SL.Sem

variable (x0 : FVec Ideal S8192x6144 .f32) (x1 x2 x3 x4 : FVec Ideal S1x128 .f32) (x5 : FVec Ideal S1x256 .f32)

/-! ## The reference's values, one stage at a time -/

/-- The scaled scores of every head and half. -/
def scores : FVec Ideal S8x2x8192x8192 .f32 :=
  mulf (Host.dotGeneral (φ₁ := .f32) (φ₂ := .f32) dot_S8192x8x2x128_S8192x8x2x128_S8x2x8192x8192_3_3_0_0_12_12 none
    (shapeCast _ (extractStridedSlice S8192x2048 ![0, 0] x0 slices_S8192x6144_S8192x2048_0_0) shapeCasts_S8192x2048_S8192x8x2x128)
    (shapeCast _ (extractStridedSlice S8192x2048 ![0, 2048] x0 slices_S8192x6144_S8192x2048_0_2048) shapeCasts_S8192x2048_S8192x8x2x128))
    (broadcastInDim S8x2x8192x8192 ![] bcast_S_S8x2x8192x8192 (Host.divf (constant S_ .f32 0x3F800000#32) (Host.sqrt (constant S_ .f32 0x43000000#32))))

/-- Each query's greatest score. -/
def tops (s : FVec Ideal S8x2x8192x8192 .f32) : FVec Ideal S8x2x8192 .f32 :=
  Host.reduce FloatOps.maximumf s (constant S_ .f32 0xFF800000#32) reducesTo_S8x2x8192x8192_S8x2x8192_d3 h_S_

/-- The same, no less than minus infinity. -/
def maxes (mx : FVec Ideal S8x2x8192 .f32) : FVec Ideal S8x2x8192 .f32 :=
  maximumf (broadcastInDim S8x2x8192 ![] bcast_S_S8x2x8192 (constant S_ .f32 0xFF800000#32)) mx

/-- The exponentials under each query's maximum. -/
def exps (s : FVec Ideal S8x2x8192x8192 .f32) (mx : FVec Ideal S8x2x8192 .f32) : FVec Ideal S8x2x8192x8192 .f32 :=
  Host.exp (subf s (broadcastInDim S8x2x8192x8192 ![0, 1, 2, 3] bcast_S8x2x8192x1_S8x2x8192x8192_0_1_2_3
    (broadcastInDim S8x2x8192x1 ![0, 1, 2] bcast_S8x2x8192_S8x2x8192x1_0_1_2 mx)))

/-- The exponentials over each query's sum of them. -/
def probs (e : FVec Ideal S8x2x8192x8192 .f32) : FVec Ideal S8x2x8192x8192 .f32 :=
  Host.divf e (broadcastInDim S8x2x8192x8192 ![0, 1, 2, 3] bcast_S8x2x8192x1_S8x2x8192x8192_0_1_2_3
    (broadcastInDim S8x2x8192x1 ![0, 1, 2] bcast_S8x2x8192_S8x2x8192x1_0_1_2
      (Host.reduceAdd e (constant S_ .f32 0x00000000#32) reducesTo_S8x2x8192x8192_S8x2x8192_d3 h_S_)))

/-- The weight of the second half. -/
def lam : FVec Ideal S_ .f32 :=
  addf (subf (Host.exp (Host.reduceAdd (mulf x1 x2) (constant S_ .f32 0x00000000#32) reducesTo_S1x128_S_d0_1 h_S_))
    (Host.exp (Host.reduceAdd (mulf x3 x4) (constant S_ .f32 0x00000000#32) reducesTo_S1x128_S_d0_1 h_S_))) (constant S_ .f32 0x3EB60549#32)

/-- The first half's probabilities less the second's. -/
def diffs (p : FVec Ideal S8x2x8192x8192 .f32) (l : FVec Ideal S_ .f32) : FVec Ideal S8x8192x8192 .f32 :=
  subf (shapeCast _ (extractStridedSlice S8x1x8192x8192 ![0, 0, 0, 0] p slices_S8x2x8192x8192_S8x1x8192x8192_0_0_0_0) shapeCasts_S8x1x8192x8192_S8x8192x8192)
    (mulf (broadcastInDim S8x8192x8192 ![] bcast_S_S8x8192x8192 l)
      (shapeCast _ (extractStridedSlice S8x1x8192x8192 ![0, 1, 0, 0] p slices_S8x2x8192x8192_S8x1x8192x8192_0_1_0_0) shapeCasts_S8x1x8192x8192_S8x8192x8192))

/-- The values under those weights. -/
def mixed (a : FVec Ideal S8x8192x8192 .f32) : FVec Ideal S8192x8x256 .f32 :=
  transpose S8192x8x256 [2, 0, 1] (Host.dotGeneral (φ₁ := .f32) (φ₂ := .f32) dot_S8192x8x256_S8x8192x8192_S8x256x8192_0_2_2_1_1_0 none
    (shapeCast _ (extractStridedSlice S8192x2048 ![0, 4096] x0 slices_S8192x6144_S8192x2048_0_4096) shapeCasts_S8192x2048_S8192x8x256) a)
    transposes_S8x256x8192_S8192x8x256_2_0_1

/-- The normalised rows, scaled. -/
def normed (o : FVec Ideal S8192x8x256 .f32) : FVec Ideal S8192x2048 .bf16 :=
  truncf .bf16 (shapeCast _ (mulf (mulf (mulf o (broadcastInDim S8192x8x256 ![0, 1, 2] bcast_S8192x8x1_S8192x8x256_0_1_2
      (Host.rsqrt (addf (Host.divf (broadcastInDim S8192x8x1 ![0, 1] bcast_S8192x8_S8192x8x1_0_1
        (Host.reduceAdd (mulf o o) (constant S_ .f32 0x00000000#32) reducesTo_S8192x8x256_S8192x8_d2 h_S_))
        (broadcastInDim S8192x8x1 ![] bcast_S_S8192x8x1 (constant S_ .f32 0x43800000#32)))
        (broadcastInDim S8192x8x1 ![] bcast_S_S8192x8x1 (constant S_ .f32 0x358637BD#32))))))
      (broadcastInDim S8192x8x256 ![0, 1, 2] bcast_S1x1x256_S8192x8x256_0_1_2
        (broadcastInDim S1x1x256 ![2] bcast_S256_S1x1x256_2 (shapeCast _ x5 shapeCasts_S1x256_S256))))
      (broadcastInDim S8192x8x256 ![] bcast_S_S8192x8x256 (constant S_ .f32 0x3F24FD5C#32))) shapeCasts_S8192x8x256_S8192x2048) bitsLt_bf16_f32

/-- The reference's result. -/
def out : FVec Ideal S8192x2048 .bf16 :=
  normed x5 (mixed x0 (diffs (probs (exps (scores x0) (maxes (tops (scores x0))))) (lam x1 x2 x3 x4)))

/-- The run's term is that result. -/
theorem res_eq (m : (ℓ : Loc nD τ sig) → Buf (Elt Ideal) ℓ) (c : Dev nD) : Value.res_main_v56 m c
    = out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  unfold Value.res_main_v56 out normed mixed diffs lam probs exps maxes tops scores
  rfl

/-! ## The same at an index -/

/-- A score: the product of a query's and a key's half, scaled. -/
theorem scores_apply (h : Fin 8) (t : Fin 2) (q k : Fin 8192) : scores x0 (ix4 h t q k)
    = (∑ d : Fin 128, x0 (ix2 q ⟨h.val * 256 + t.val * 128 + d.val, by omega⟩) * x0 (ix2 k ⟨2048 + (h.val * 256 + t.val * 128 + d.val), by omega⟩))
      * Ideal.div (Ideal.ofBits .f32 0x3F800000#32) (Ideal.sqrt (Ideal.ofBits .f32 0x43000000#32)) := by
  pointwise [scores]

/-- A query's greatest score. -/
theorem tops_apply (s : FVec Ideal S8x2x8192x8192 .f32) (h : Fin 8) (t : Fin 2) (q : Fin 8192) : tops s (ix3 h t q)
    = (Finset.univ : Finset (Fin 8192)).fold max (Ideal.ofBits .f32 0xFF800000#32) fun k => s (ix4 h t q k) := by
  unfold tops
  pointwise

/-- The same, no less than minus infinity. -/
theorem maxes_apply (mx : FVec Ideal S8x2x8192 .f32) (h : Fin 8) (t : Fin 2) (q : Fin 8192) : maxes mx (ix3 h t q)
    = max (Ideal.ofBits .f32 0xFF800000#32) (mx (ix3 h t q)) := by
  pointwise [maxes]

/-- An exponential under the maximum. -/
theorem exps_apply (s : FVec Ideal S8x2x8192x8192 .f32) (mx : FVec Ideal S8x2x8192 .f32) (h : Fin 8) (t : Fin 2) (q k : Fin 8192) : exps s mx (ix4 h t q k)
    = Ideal.exp (s (ix4 h t q k) - mx (ix3 h t q)) := by
  pointwise [exps]

/-- A probability. -/
theorem probs_apply (e : FVec Ideal S8x2x8192x8192 .f32) (h : Fin 8) (t : Fin 2) (q k : Fin 8192) : probs e (ix4 h t q k)
    = Ideal.div (e (ix4 h t q k)) (∑ k : Fin 8192, e (ix4 h t q k)) := by
  pointwise [probs]

/-- The second half's weight. -/
theorem lam_apply : lam x1 x2 x3 x4 ix0
    = Ideal.exp (∑ j : Fin 1, ∑ i : Fin 128, x1 (ix2 j i) * x2 (ix2 j i)) - Ideal.exp (∑ j : Fin 1, ∑ i : Fin 128, x3 (ix2 j i) * x4 (ix2 j i))
      + Ideal.ofBits .f32 0x3EB60549#32 := by
  pointwise [lam]

/-- A difference of probabilities. -/
theorem diffs_apply (p : FVec Ideal S8x2x8192x8192 .f32) (l : FVec Ideal S_ .f32) (h : Fin 8) (q k : Fin 8192) : diffs p l (ix3 h q k)
    = p (ix4 h 0 q k) - l ix0 * p (ix4 h 1 q k) := by
  pointwise [diffs]

/-- A mixed value. -/
theorem mixed_apply (a : FVec Ideal S8x8192x8192 .f32) (q : Fin 8192) (h : Fin 8) (e : Fin 256) : mixed x0 a (ix3 q h e)
    = ∑ k : Fin 8192, x0 (ix2 k ⟨4096 + (h.val * 256 + e.val), by omega⟩) * a (ix3 h q k) := by
  pointwise [mixed]

/-- A normalised value. -/
theorem normed_apply (o : FVec Ideal S8192x8x256 .f32) (q : Fin 8192) (h : Fin 8) (e : Fin 256) :
    normed x5 o (ix2 q ⟨h.val * 256 + e.val, by omega⟩)
    = o (ix3 q h e) * Ideal.rsqrt (Ideal.div (∑ l : Fin 256, o (ix3 q h l) * o (ix3 q h l)) (Ideal.ofBits .f32 0x43800000#32)
        + Ideal.ofBits .f32 0x358637BD#32) * x5 (ix2 0 e) * Ideal.ofBits .f32 0x3F24FD5C#32 := by
  pointwise [normed]

end Cert.ReferenceIdeal.Diff

end
-- ==== Proof.DiffMath.lean ====
module

public import Idealize.ShloMosaic.PureOps.Ideal.Laws
public import Mathlib.Analysis.SpecialFunctions.Pow.Real

@[expose] public section

noncomputable section

namespace Cert.KernelIdeal.Diff

open Idealize.ShloMosaic

/-! ## Weights over the extended reals -/

/-- The weight `2^(a-b)` as a real number. It is used where `a ≤ b` only. -/
def wt (a b : EReal) : ℝ := (Ideal.exp2 (a - b)).toReal

/-- Below its maximum a score's weight is a real number, whatever the two are. -/
theorem exp2_sub {a b : EReal} (h : a ≤ b) : Ideal.exp2 (a - b) = (wt a b : EReal) := by
  unfold wt
  induction a with
  | bot => simp
  | top =>
    have : b = ⊤ := top_le_iff.mp h
    subst this; simp
  | coe x =>
    induction b with
    | bot => simp at h
    | top => simp
    | coe y => rw [← EReal.coe_sub, Ideal.exp2_coe]; simp

theorem wt_nonneg (a b : EReal) : 0 ≤ wt a b := by
  unfold wt
  apply EReal.toReal_nonneg
  generalize a - b = c
  induction c with
  | bot => simp
  | top => simp
  | coe x => rw [Ideal.exp2_coe]; exact_mod_cast (Real.rpow_nonneg (by norm_num) x)

/-- Moving the maximum up multiplies the weights by one factor. -/
theorem wt_mul {a b c : EReal} (h : a ≤ b) (h' : b ≤ c) : wt b c * wt a b = wt a c := by
  unfold wt
  induction c with
  | top => simp
  | bot =>
    have : b = ⊥ := le_bot_iff.mp h'
    subst this
    have : a = ⊥ := le_bot_iff.mp h
    subst this; simp
  | coe z =>
    induction b with
    | top => simp at h'
    | bot =>
      have : a = ⊥ := le_bot_iff.mp h
      subst this; simp
    | coe y =>
      induction a with
      | top => simp at h
      | bot => simp
      | coe x =>
        simp only [← EReal.coe_sub, Ideal.exp2_coe, EReal.toReal_coe]
        show Real.rpow 2 (y - z) * Real.rpow 2 (x - y) = Real.rpow 2 (x - z)
        have := Real.rpow_add (show (0 : ℝ) < 2 by norm_num) (y - z) (x - y)
        rw [show y - z + (x - y) = x - z by ring] at this
        exact this.symm

/-- The natural exponential of scores in units of `log 2` is the same weight. -/
theorem exp_sub (a b : EReal) :
    Ideal.exp ((Real.log 2 : ℝ) * a - (Real.log 2 : ℝ) * b) = Ideal.exp2 (a - b) := by
  have hL : (0 : ℝ) < Real.log 2 := Real.log_pos (by norm_num)
  induction a with
  | bot => rw [EReal.coe_mul_bot_of_pos hL]; simp
  | top =>
    rw [EReal.coe_mul_top_of_pos hL]
    induction b with
    | bot => rw [EReal.coe_mul_bot_of_pos hL]; simp
    | top => rw [EReal.coe_mul_top_of_pos hL]; simp
    | coe y => rw [← EReal.coe_mul, EReal.top_sub_coe, EReal.top_sub_coe]; rfl
  | coe x =>
    induction b with
    | bot => rw [EReal.coe_mul_bot_of_pos hL, ← EReal.coe_mul, EReal.coe_sub_bot, EReal.coe_sub_bot]; rfl
    | top => rw [EReal.coe_mul_top_of_pos hL, ← EReal.coe_mul]; simp
    | coe y =>
      simp only [← EReal.coe_mul, ← EReal.coe_sub, Ideal.exp2_coe, Ideal.exp_coe]
      congr 1
      show _ = (2 : ℝ) ^ (x - y)
      rw [Real.rpow_def_of_pos (by norm_num)]
      congr 1; ring

/-! ## The running maximum and the running sum -/

/-- The largest of the first scores. -/
def top (s : ℕ → EReal) (N : ℕ) : EReal := (Finset.range N).sup s

theorem le_top (s : ℕ → EReal) {i N : ℕ} (h : i < N) : s i ≤ top s N := Finset.le_sup (Finset.mem_range.mpr h)

theorem top_mono (s : ℕ → EReal) {M N : ℕ} (h : M ≤ N) : top s M ≤ top s N :=
  Finset.sup_mono (Finset.range_mono h)

/-- The largest of the scores up to a block's end is the larger of that up to its start and the block's own. -/
theorem top_add (s : ℕ → EReal) (M n : ℕ) :
    max (top s M) ((Finset.univ : Finset (Fin n)).fold max ⊥ fun k => s (M + k.val)) = top s (M + n) := by
  have hf : ((Finset.univ : Finset (Fin n)).fold max ⊥ fun k => s (M + k.val))
      = (Finset.univ : Finset (Fin n)).sup fun k => s (M + k.val) := rfl
  rw [hf]
  apply le_antisymm
  · refine max_le (top_mono s (by omega)) (Finset.sup_le fun k _ => le_top s (by omega))
  · refine Finset.sup_le fun i hi => ?_
    have hi := Finset.mem_range.mp hi
    by_cases h : i < M
    · exact le_max_of_le_left (le_top s h)
    · refine le_max_of_le_right ?_
      have := Finset.le_sup (f := fun k : Fin n => s (M + k.val)) (Finset.mem_univ ⟨i - M, by omega⟩)
      simpa [show M + (i - M) = i by omega] using this

/-- The weighted sum of the first values under the first scores' maximum. -/
def acc (s : ℕ → EReal) (v : ℕ → ℝ) (N : ℕ) : ℝ := ∑ i ∈ Finset.range N, v i * wt (s i) (top s N)

theorem coe_sum {ι : Type} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

/-- One block's step: the sum so far, times the weight of the old maximum, and the block's own terms. -/
theorem acc_add (s : ℕ → EReal) (v : ℕ → ℝ) (M n : ℕ) :
    Ideal.exp2 (top s M - top s (M + n)) * (acc s v M : EReal)
      + ∑ k : Fin n, (v (M + k.val) : EReal) * Ideal.exp2 (s (M + k.val) - top s (M + n)) = (acc s v (M + n) : EReal) := by
  rw [exp2_sub (top_mono s (by omega))]
  have h : ∀ k : Fin n, (v (M + k.val) : EReal) * Ideal.exp2 (s (M + k.val) - top s (M + n))
      = ((v (M + k.val) * wt (s (M + k.val)) (top s (M + n)) : ℝ) : EReal) := fun k => by
    rw [exp2_sub (le_top s (by omega)), EReal.coe_mul]
  simp only [h]
  rw [← coe_sum, ← EReal.coe_mul, ← EReal.coe_add]
  congr 1
  unfold acc
  rw [Finset.sum_range_add, Finset.mul_sum, ← Finset.sum_range (fun k => v (M + k) * wt (s (M + k)) (top s (M + n)))]
  congr 1
  refine Finset.sum_congr rfl fun i hi => ?_
  rw [← wt_mul (le_top s (Finset.mem_range.mp hi)) (top_mono s (show M ≤ M + n by omega))]
  ring

/-! ## Normalising a row -/

/-- An element is zero or infinite. -/
def Wild (x : EReal) : Prop := x = 0 ∨ x = ⊤ ∨ x = ⊥

theorem Wild.add {x y : EReal} (hx : Wild x) (hy : Wild y) : Wild (x + y) := by
  rcases hx with rfl | rfl | rfl <;> rcases hy with rfl | rfl | rfl <;> simp [Wild]

theorem Wild.sum {ι : Type} (S : Finset ι) (f : ι → EReal) (h : ∀ i, Wild (f i)) : Wild (∑ i ∈ S, f i) := by
  classical
  induction S using Finset.induction_on with
  | empty => simp [Wild]
  | insert a S ha ih => rw [Finset.sum_insert ha]; exact (h a).add ih

theorem Wild.real_mul (r : ℝ) {x : EReal} (hx : x = ⊤ ∨ x = ⊥) : Wild ((r : EReal) * x) := by
  rcases lt_trichotomy r 0 with h | h | h
  · rcases hx with rfl | rfl
    · rw [EReal.coe_mul_top_of_neg h]; simp [Wild]
    · rw [EReal.coe_mul_bot_of_neg h]; simp [Wild]
  · subst h; simp [Wild]
  · rcases hx with rfl | rfl
    · rw [EReal.coe_mul_top_of_pos h]; simp [Wild]
    · rw [EReal.coe_mul_bot_of_pos h]; simp [Wild]

/-- The factor that normalises a row. -/
def norm {n : ℕ} (o : Fin n → EReal) (d e : EReal) : EReal := Ideal.rsqrt (Ideal.div (∑ l, o l * o l) d + e)

/-- A row of zeros and infinities normalises to zeros. -/
theorem norm_wild {n : ℕ} (o : Fin n → EReal) (h : ∀ l, Wild (o l)) {d e : ℝ} (hd : 0 < d) (k : Fin n) :
    o k * norm o d e = 0 := by
  have hpos : ∀ l, 0 ≤ o l * o l := fun l => by
    rcases h l with h | h | h <;> rw [h] <;> simp
  rcases h k with hk | hk
  · rw [hk, zero_mul]
  · have hk' : o k * o k = ⊤ := by rcases hk with hk | hk <;> rw [hk] <;> simp
    have hs : ∑ l, o l * o l = ⊤ := top_le_iff.mp (hk' ▸ Finset.single_le_sum (fun l _ => hpos l) (Finset.mem_univ k))
    unfold norm
    rw [hs, Ideal.div_coe hd.ne', EReal.top_mul_coe_of_pos (by positivity), EReal.top_add_coe]
    show _ * (0 : EReal) = 0
    rw [mul_zero]

/-! ## The difference of two weighted means -/

/-- Quotients of nonnegative weights by their sum: real, or all the same infinity. -/
theorem div_real {x y : ℝ} (h : y ≠ 0) : Ideal.div (x : EReal) (y : EReal) = ((x / y : ℝ) : EReal) := by
  rw [Ideal.div_coe h, ← EReal.coe_mul]; congr 1; ring

theorem div_zero_zero : Ideal.div ((0 : ℝ) : EReal) ((0 : ℝ) : EReal) = ⊥ := by simp [Ideal.div]

/-- The row that the quotients of the running sums give and the row that the weights' differences give normalise to
    the same row: the means are equal, or every element of both is zero or infinite. -/
theorem rows_eq {n N : ℕ} (w0 w1 : Fin N → ℝ) (h0 : ∀ i, 0 ≤ w0 i) (h1 : ∀ i, 0 ≤ w1 i) (v : Fin N → Fin n → ℝ) (lam : ℝ) {d e : ℝ}
    (hd : 0 < d) (k : Fin n) (o o' : Fin n → EReal)
    (ho : ∀ l, o l = Ideal.div ((∑ i, v i l * w0 i : ℝ) : EReal) ((∑ i, w0 i : ℝ) : EReal)
      - (lam : EReal) * Ideal.div ((∑ i, v i l * w1 i : ℝ) : EReal) ((∑ i, w1 i : ℝ) : EReal))
    (ho' : ∀ l, o' l = ∑ i, (v i l : EReal) * (Ideal.div (w0 i : EReal) ((∑ i, w0 i : ℝ) : EReal)
      - (lam : EReal) * Ideal.div (w1 i : EReal) ((∑ i, w1 i : ℝ) : EReal))) :
    o k * norm o d e = o' k * norm o' d e := by
  -- the quotients of one half: the mean of `v`, or `⊥` all over
  have half : ∀ w : Fin N → ℝ, (∀ i, 0 ≤ w i) →
      ((∃ p : Fin N → ℝ, (∀ i, Ideal.div (w i : EReal) ((∑ i, w i : ℝ) : EReal) = (p i : EReal))
        ∧ ∀ l, Ideal.div ((∑ i, v i l * w i : ℝ) : EReal) ((∑ i, w i : ℝ) : EReal) = ((∑ i, v i l * p i : ℝ) : EReal))
      ∨ ((∀ i, Ideal.div (w i : EReal) ((∑ i, w i : ℝ) : EReal) = ⊥)
        ∧ ∀ l, Ideal.div ((∑ i, v i l * w i : ℝ) : EReal) ((∑ i, w i : ℝ) : EReal) = ⊥)) := by
    intro w hw
    by_cases hz : ∑ i, w i = 0
    · right
      have hw0 : ∀ i, w i = 0 := fun i => (Finset.sum_eq_zero_iff_of_nonneg fun i _ => hw i).mp hz i (Finset.mem_univ i)
      refine ⟨fun i => ?_, fun l => ?_⟩
      · rw [hz, hw0, div_zero_zero]
      · rw [hz]; simp only [hw0, mul_zero, Finset.sum_const_zero]; exact div_zero_zero
    · left
      refine ⟨fun i => w i / ∑ i, w i, fun i => div_real hz, fun l => ?_⟩
      rw [div_real hz, Finset.sum_div]
      congr 1
      exact Finset.sum_congr rfl fun i _ => mul_div_assoc ..
  -- where the two rows are the same
  have same : (∀ l, o l = o' l) → o k * norm o d e = o' k * norm o' d e := fun h => by rw [funext h]
  -- where every difference is the same infinity
  have wild : ∀ c : EReal, (c = ⊤ ∨ c = ⊥) → (∀ l, o l = c) → (∀ l, o' l = ∑ i, (v i l : EReal) * c) →
      o k * norm o d e = o' k * norm o' d e := fun c hc h h' => by
    rw [norm_wild o (fun l => by rw [h l]; exact .inr hc) hd, norm_wild o' (fun l => by
      rw [h' l]; exact Wild.sum _ _ fun i => Wild.real_mul _ hc) hd]
  rcases half w0 h0 with ⟨p, hp, hP⟩ | ⟨hp, hP⟩
  · rcases half w1 h1 with ⟨q, hq, hQ⟩ | ⟨hq, hQ⟩
    · refine same fun l => ?_
      rw [ho, ho', hP, hQ]
      simp only [hp, hq, ← EReal.coe_mul, ← EReal.coe_sub, ← coe_sum]
      congr 1
      rw [Finset.mul_sum, ← Finset.sum_sub_distrib]
      exact Finset.sum_congr rfl fun i _ => by ring
    · rcases lt_trichotomy lam 0 with hl | hl | hl
      · refine wild ⊥ (.inr rfl) (fun l => ?_) (fun l => ?_)
        · rw [ho, hP, hQ, EReal.coe_mul_bot_of_neg hl]; simp
        · rw [ho']; simp only [hp, hq, EReal.coe_mul_bot_of_neg hl]; simp
      · refine same fun l => ?_
        rw [ho, ho', hP, hQ, hl]
        simp only [hp, hq, EReal.coe_zero, zero_mul, sub_zero, ← EReal.coe_mul, ← coe_sum]
      · refine wild ⊤ (.inl rfl) (fun l => ?_) (fun l => ?_)
        · rw [ho, hP, hQ, EReal.coe_mul_bot_of_pos hl]; simp
        · rw [ho']; simp only [hp, hq, EReal.coe_mul_bot_of_pos hl]; simp
  · refine wild ⊥ (.inr rfl) (fun l => ?_) (fun l => ?_)
    · rw [ho, hP]; simp
    · rw [ho']; simp only [hp]; simp

end Cert.KernelIdeal.Diff

end
-- ==== Proof.DiffState.lean ====
module

public import proofs.«01_k».proof.Proof.DiffRead
public import proofs.«01_k».proof.Proof.DiffRef
public import proofs.«01_k».proof.Proof.DiffMath

@[expose] public section

set_option maxRecDepth 16384

noncomputable section

namespace Cert.KernelIdeal.Diff

open Cert.KernelIdeal Cert.KernelIdeal.Gen Idealize.ShloMosaic Idealize.ShloMosaic.TcCoe Idealize.SL.Sem

/-! ## Constants -/

theorem bits_bot : Ideal.ofBits .f32 0xFF800000#32 = ⊥ := by
  simp [Ideal.ofBits, Ideal.ieee]

theorem bits_128 : Ideal.ofBits .f32 0x43000000#32 = ((128 : ℝ) : EReal) := by
  simp [Ideal.ofBits, Ideal.ieee]; rw [← EReal.coe_mul]; congr 1; norm_num

theorem bits_256 : Ideal.ofBits .f32 0x43800000#32 = ((256 : ℝ) : EReal) := by
  simp [Ideal.ofBits, Ideal.ieee]; rw [← EReal.coe_mul]; congr 1; norm_num

theorem bits_2 : Ideal.ofBits .f32 0x40000000#32 = ((2 : ℝ) : EReal) := by
  simp [Ideal.ofBits, Ideal.ieee]; rw [← EReal.coe_mul]; congr 1; norm_num

theorem bits_eps : ∃ e : ℝ, Ideal.ofBits .f32 0x358637BD#32 = (e : EReal) := by
  refine ⟨(Ideal.ofBits .f32 0x358637BD#32).toReal, (EReal.coe_toReal ?_ ?_).symm⟩ <;>
    simp [Ideal.ofBits, Ideal.ieee, ← EReal.coe_mul]

theorem bits_lam : ∃ e : ℝ, Ideal.ofBits .f32 0x3EB60549#32 = (e : EReal) := by
  refine ⟨(Ideal.ofBits .f32 0x3EB60549#32).toReal, (EReal.coe_toReal ?_ ?_).symm⟩ <;>
    simp [Ideal.ofBits, Ideal.ieee, ← EReal.coe_mul]

/-- The reference's factor on the scores. -/
def cR : EReal := Ideal.div (Ideal.ofBits .f32 0x3F800000#32) (Ideal.sqrt (Ideal.ofBits .f32 0x43000000#32))

/-- The kernel's factor, times the logarithm of two, is the reference's. -/
theorem scale : ∃ ck : ℝ, 0 ≤ ck ∧ cK = (ck : EReal) ∧ cR = ((Real.log 2 * ck : ℝ) : EReal) := by
  have hL : (0 : ℝ) < Real.log 2 := Real.log_pos (by norm_num)
  have hs : (0 : ℝ) < Real.sqrt 128 := Real.sqrt_pos.mpr (by norm_num)
  refine ⟨1 / (Real.sqrt 128 * Real.log 2), by positivity, ?_, ?_⟩
  · unfold cK
    rw [bits_128, bits_2, Ideal.sqrt_coe, if_neg (by norm_num : ¬(128 : ℝ) < 0), Ideal.log_coe, if_neg (by norm_num : ¬(2 : ℝ) ≤ 0), ← EReal.coe_mul, Ideal.ofBits_one_f32,
      ← EReal.coe_one, div_real (by positivity)]
  · unfold cR
    rw [bits_128, Ideal.sqrt_coe, if_neg (by norm_num : ¬(128 : ℝ) < 0), Ideal.ofBits_one_f32, ← EReal.coe_one, div_real hs.ne']
    congr 1
    field_simp

/-- A factor that is a real number no less than zero goes into a sum. -/
theorem sum_mul_real {ι : Type} (S : Finset ι) (f : ι → EReal) {r : ℝ} (h : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha, ← ih]
    exact EReal.right_distrib_of_nonneg_of_ne_top (EReal.coe_nonneg.mpr h) (EReal.coe_ne_top r) _ _

/-! ## The kernel's running maximum and sums -/

section Blocks
variable (x2 : FVec Ideal S1024x256 .bf16) (x3 : FVec Ideal S8192x256 .bf16) (x4 : FVec Ideal S256x8192 .bf16)

/-- The score of query `r` and key `i`, the keys counted round and round. -/
def score (t : ℕ) (r : Fin 1024) (i : ℕ) : EReal :=
  ∑ d : Fin 128, x3 (ix2 ⟨i % 8192, by omega⟩ ⟨128 * (t % 2) + d.val, by omega⟩) * x2 (ix2 r ⟨128 * (t % 2) + d.val, by omega⟩)

theorem sc_apply (j t : ℕ) (i r : Fin 1024) :
    sc (F := Ideal) x2 x3 j t (ix3 0 i r) = score x2 x3 t r (1024 * j + i.val) := by
  unfold sc score
  rw [pay2_apply]
  refine Finset.sum_congr rfl fun d _ => ?_
  rw [kb_apply, qb_apply]
  have : (⟨1024 * (j % 8) + i.val, by omega⟩ : Fin 8192) = ⟨(1024 * j + i.val) % 8192, by omega⟩ :=
    Fin.ext (by show 1024 * (j % 8) + i.val = (1024 * j + i.val) % 8192; omega)
  rw [this]

/-- After `j` blocks the running maximum is the largest score of their keys. -/
theorem st_top (t : ℕ) (r : Fin 1024) (j : ℕ) :
    (st (F := Ideal) x2 x3 x4 t j).1 (ix3 0 0 r) = top (score x2 x3 t r) (1024 * j) := by
  induction j with
  | zero => exact bits_bot
  | succ j ih =>
    show k0_pay25 (F := Ideal) (sc (F := Ideal) x2 x3 j t) (st (F := Ideal) x2 x3 x4 t j).1 (ix3 0 0 r) = _
    rw [pay25_apply, ih, bits_bot]
    simp only [sc_apply]
    exact top_add _ _ _

/-- After `j` blocks a running sum is the weighted sum over their keys. -/
theorem st_acc (t : ℕ) (r : Fin 1024) (e : Fin 272) (w : ℕ → ℝ)
    (hw : ∀ (j : ℕ) (i : Fin 1024), ext (vb (F := Ideal) x4 j) e i = (w (1024 * j + i.val) : EReal)) (j : ℕ) :
    (st (F := Ideal) x2 x3 x4 t j).2 (ix3 0 e r) = (acc (score x2 x3 t r) w (1024 * j) : EReal) := by
  induction j with
  | zero => exact Ideal.ofBits_zero_f32.trans (by simp [acc])
  | succ j ih =>
    show k0_pay24 (F := Ideal) (vb (F := Ideal) x4 j) (sc (F := Ideal) x2 x3 j t) (st (F := Ideal) x2 x3 x4 t j).1
      (st (F := Ideal) x2 x3 x4 t j).2 (ix3 0 e r) = _
    have hm : k0_pay23 (F := Ideal) (sc (F := Ideal) x2 x3 j t) (st (F := Ideal) x2 x3 x4 t j).1 (ix2 0 r)
        = top (score x2 x3 t r) (1024 * j + 1024) := by
      rw [pay23_apply]
      exact st_top x2 x3 x4 t r (j + 1)
    rw [pay24_apply, hm, ih, st_top]
    simp only [pay20_apply, sc_apply, hw]
    exact acc_add _ _ _ _

/-- The weight of key `i` for query `r`. -/
def wgt (t : ℕ) (r : Fin 1024) (i : Fin 8192) : ℝ := wt (score x2 x3 t r i.val) (top (score x2 x3 t r) 8192)

/-- The sum of the weights. -/
theorem den_eq (t : ℕ) (r : Fin 1024) :
    den (F := Ideal) (st (F := Ideal) x2 x3 x4 t 8).2 (ix3 0 0 r) = ((∑ i, wgt x2 x3 t r i : ℝ) : EReal) := by
  rw [den_apply, st_acc x2 x3 x4 t r _ (fun _ => 1) (fun j i => by simp [ext])]
  unfold acc wgt
  rw [Finset.sum_range]
  simp only [one_mul]

/-- The weighted sum of the values. -/
theorem num_eq (t : ℕ) (r : Fin 1024) (e : Fin 256) (v : Fin 8192 → ℝ) (hv : ∀ i, x4 (ix2 e i) = (v i : EReal)) :
    num (F := Ideal) (st (F := Ideal) x2 x3 x4 t 8).2 (ix3 0 e r) = ((∑ i, v i * wgt x2 x3 t r i : ℝ) : EReal) := by
  rw [num_apply, st_acc x2 x3 x4 t r _ (fun i => v ⟨i % 8192, by omega⟩) (fun j i => by
    unfold ext
    rw [dif_pos e.isLt, vb_apply, ← hv]
    congr 2
    exact Fin.ext (by show 1024 * (j % 8) + i.val = (1024 * j + i.val) % 8192; omega))]
  unfold acc wgt
  rw [Finset.sum_range]
  refine congrArg _ (Finset.sum_congr rfl fun i _ => ?_)
  have : (⟨i.val % 8192, by omega⟩ : Fin 8192) = i := Fin.ext (Nat.mod_eq_of_lt i.isLt)
  show v ⟨i.val % 8192, _⟩ * _ = _
  rw [this]

end Blocks

/-! ## The reference's weights are the kernel's -/

/-- From scores that are `log 2` times the kernel's, the reference's exponentials are the kernel's weights. -/
theorem exps_eq (S : FVec Ideal Cert.ReferenceIdeal.S8x2x8192x8192 .f32) (h : Fin 8) (t : Fin 2) (q : Fin 8192) (s : ℕ → EReal)
    (hs : ∀ k : Fin 8192, S (ix4 h t q k) = (Real.log 2 : ℝ) * s k.val) (k : Fin 8192) :
    Cert.ReferenceIdeal.Diff.exps S (Cert.ReferenceIdeal.Diff.maxes (Cert.ReferenceIdeal.Diff.tops S)) (ix4 h t q k)
      = (wt (s k.val) (top s 8192) : EReal) := by
  have hL : (0 : ℝ) < Real.log 2 := Real.log_pos (by norm_num)
  have ht : (Finset.univ : Finset (Fin 8192)).fold max ⊥ (fun k => s k.val) = top s 8192 := by
    have := top_add s 0 8192
    simpa [top] using this
  have hm : (Finset.univ : Finset (Fin 8192)).fold max ⊥ (fun k => ((Real.log 2 : ℝ) : EReal) * s k.val)
      = (Real.log 2 : ℝ) * top s 8192 := by
    rw [← ht]
    refine (Finset.comp_sup_eq_sup_comp (s := Finset.univ) (f := fun k : Fin 8192 => s k.val)
      (fun x : EReal => ((Real.log 2 : ℝ) : EReal) * x) (fun x y => ?_) (EReal.coe_mul_bot_of_pos hL)).symm
    have mono : Monotone fun x : EReal => ((Real.log 2 : ℝ) : EReal) * x := fun a b hab =>
      mul_le_mul_of_nonneg_left hab (EReal.coe_nonneg.mpr hL.le)
    exact mono.map_sup x y
  rw [Cert.ReferenceIdeal.Diff.exps_apply, Cert.ReferenceIdeal.Diff.maxes_apply, Cert.ReferenceIdeal.Diff.tops_apply, bits_bot]
  simp only [hs]
  rw [hm, max_eq_right bot_le, exp_sub, exp2_sub (le_top s k.isLt)]

end Cert.KernelIdeal.Diff

end
-- ==== Proof.DiffValue.lean ====
module

public import proofs.«01_k».proof.Defs
public import proofs.«01_k».proof.Proof.DiffState
public import Idealize.ShloMosaic.Lib.Claim

@[expose] public section

set_option maxRecDepth 16384

noncomputable section

namespace Cert.KernelIdeal.Diff

open Cert.KernelIdeal Cert.KernelIdeal.Gen Idealize.ShloMosaic Idealize.ShloMosaic.TcCoe Idealize.SL.Sem

variable (m : (ℓ : Loc nD τ sig) → Buf (Elt Ideal) ℓ)

/-- The four lambda vectors and the gain. -/
abbrev a1 (c : Dev nD) : FVec Ideal S1x128 .f32 := m ((c : Thread nD τ).loc main_arg1)
abbrev a2 (c : Dev nD) : FVec Ideal S1x128 .f32 := m ((c : Thread nD τ).loc main_arg2)
abbrev a3 (c : Dev nD) : FVec Ideal S1x128 .f32 := m ((c : Thread nD τ).loc main_arg3)
abbrev a4 (c : Dev nD) : FVec Ideal S1x128 .f32 := m ((c : Thread nD τ).loc main_arg4)
abbrev a5 (c : Dev nD) : FVec Ideal S1x256 .f32 := m ((c : Thread nD τ).loc main_arg5)

/-- The values and the lambda vectors are finite. -/
structure Fin5 (c : Dev nD) : Prop where
  v : ∀ (i : Fin 8192) (e : Fin 2048), ∃ x : ℝ, a0 m c (ix2 i ⟨4096 + e.val, by omega⟩) = (x : EReal)
  l1 : ∀ i : Fin 128, ∃ x : ℝ, a1 m c (ix2 0 i) = (x : EReal)
  l2 : ∀ i : Fin 128, ∃ x : ℝ, a2 m c (ix2 0 i) = (x : EReal)
  l3 : ∀ i : Fin 128, ∃ x : ℝ, a3 m c (ix2 0 i) = (x : EReal)
  l4 : ∀ i : Fin 128, ∃ x : ℝ, a4 m c (ix2 0 i) = (x : EReal)

/-- The exponential of a product of finite vectors is finite. -/
theorem exp_real (x y : FVec Ideal S1x128 .f32) (hx : ∀ i : Fin 128, ∃ r : ℝ, x (ix2 0 i) = (r : EReal))
    (hy : ∀ i : Fin 128, ∃ r : ℝ, y (ix2 0 i) = (r : EReal)) :
    ∃ r : ℝ, Ideal.exp (∑ i : Fin 128, x (ix2 0 i) * y (ix2 0 i)) = (r : EReal) := by
  choose f hf using hx
  choose g hg using hy
  refine ⟨Real.exp (∑ i, f i * g i), ?_⟩
  rw [← Ideal.exp_coe, coe_sum]
  simp only [hf, hg, EReal.coe_mul]

/-- The weight of the second half is finite. -/
theorem lam_real {c : Dev nD} (H : Fin5 m c) : ∃ l : ℝ, lamK (a1 m c) (a2 m c) (a3 m c) (a4 m c) = (l : EReal) := by
  obtain ⟨p, hp⟩ := exp_real _ _ H.l1 H.l2
  obtain ⟨q, hq⟩ := exp_real _ _ H.l3 H.l4
  obtain ⟨b, hb⟩ := bits_lam
  refine ⟨p - q + b, ?_⟩
  unfold lamK
  rw [hp, hq, hb, EReal.coe_add, EReal.coe_sub]

/-- The reference's second-half weight is the kernel's. -/
theorem lam_eq (x1 x2 x3 x4 : FVec Ideal S1x128 .f32) : Cert.ReferenceIdeal.Diff.lam x1 x2 x3 x4 ix0 = lamK x1 x2 x3 x4 := by
  rw [Cert.ReferenceIdeal.Diff.lam_apply]
  unfold lamK
  simp only [Fin.sum_univ_one]

/-- The kernel's second-half weight at a point, from the argument vectors. -/
theorem lam_blk (c : Dev nD) (t : Fin cfg0.N) :
    lamK (iblk m c 3 t) (iblk m c 4 t) (iblk m c 5 t) (iblk m c 6 t) = lamK (a1 m c) (a2 m c) (a3 m c) (a4 m c) := by
  unfold lamK
  simp only [blk_1, blk_2, blk_3, blk_4]

/-- The reference's scores are `log 2` times the kernel's. -/
theorem scores_eq (c : Dev nD) (n : Fin cfg0.N) (t : Fin 2) (r : Fin 1024) (h : Fin 8) (hh : h.val = n.val / 8) (q : Fin 8192)
    (hq : q.val = 1024 * (n.val % 8) + r.val) (k : Fin 8192) :
    Cert.ReferenceIdeal.Diff.scores (a0 m c) (ix4 h t q k)
      = (Real.log 2 : ℝ) * score (iblk m c 0 n) (iblk m c 1 n) t.val r k.val := by
  obtain ⟨ck, h0, hK, hR⟩ := scale
  rw [Cert.ReferenceIdeal.Diff.scores_apply]
  show _ * cR = _
  have e : score (iblk m c 0 n) (iblk m c 1 n) t.val r k.val
      = (∑ d : Fin 128, a0 m c (ix2 q ⟨h.val * 256 + t.val * 128 + d.val, by omega⟩)
          * a0 m c (ix2 k ⟨2048 + (h.val * 256 + t.val * 128 + d.val), by omega⟩)) * (ck : EReal) := by
    unfold score
    rw [sum_mul_real _ _ h0]
    refine Finset.sum_congr rfl fun d _ => ?_
    rw [blk_q, blk_k, hK]
    have ht := t.isLt
    refine Eq.trans (b := a0 m c (ix2 ⟨1024 * (n.val % 8) + r.val, by omega⟩ ⟨n.val / 8 * 256 + (128 * (t.val % 2) + d.val), by have := pt_lt n; omega⟩)
      * (a0 m c (ix2 ⟨k.val % 8192, by omega⟩ ⟨2048 + (n.val / 8 * 256 + (128 * (t.val % 2) + d.val)), by have := pt_lt n; omega⟩) * (ck : EReal))) ?_ ?_
    · rw [mul_left_comm]
    · rw [← mul_assoc]
      refine congrArg (· * (ck : EReal)) (congrArg₂ (· * ·) (congrArg (a0 m c) (congrArg₂ ix2 (Fin.ext hq.symm) (Fin.ext ?_)))
        (congrArg (a0 m c) (congrArg₂ ix2 (Fin.ext (Nat.mod_eq_of_lt k.isLt)) (Fin.ext ?_))))
      · show n.val / 8 * 256 + (128 * (t.val % 2) + d.val) = h.val * 256 + t.val * 128 + d.val
        omega
      · show 2048 + (n.val / 8 * 256 + (128 * (t.val % 2) + d.val)) = 2048 + (h.val * 256 + t.val * 128 + d.val)
        omega
  rw [e, hR, EReal.coe_mul]
  rw [mul_left_comm]

/-- The reference's mixed row, from the kernel's weights. -/
theorem mixed_eq {c : Dev nD} (n : Fin cfg0.N) (r : Fin 1024) (h : Fin 8) (hh : h.val = n.val / 8) (q : Fin 8192)
    (hq : q.val = 1024 * (n.val % 8) + r.val) (l : Fin 256) :
    Cert.ReferenceIdeal.Diff.mixed (a0 m c) (Cert.ReferenceIdeal.Diff.diffs (Cert.ReferenceIdeal.Diff.probs
        (Cert.ReferenceIdeal.Diff.exps (Cert.ReferenceIdeal.Diff.scores (a0 m c))
          (Cert.ReferenceIdeal.Diff.maxes (Cert.ReferenceIdeal.Diff.tops (Cert.ReferenceIdeal.Diff.scores (a0 m c))))))
        (Cert.ReferenceIdeal.Diff.lam (a1 m c) (a2 m c) (a3 m c) (a4 m c))) (ix3 q h l)
      = ∑ i : Fin 8192, a0 m c (ix2 i ⟨4096 + (h.val * 256 + l.val), by omega⟩)
        * (Ideal.div (wgt (iblk m c 0 n) (iblk m c 1 n) 0 r i : EReal) ((∑ i, wgt (iblk m c 0 n) (iblk m c 1 n) 0 r i : ℝ) : EReal)
          - lamK (a1 m c) (a2 m c) (a3 m c) (a4 m c)
            * Ideal.div (wgt (iblk m c 0 n) (iblk m c 1 n) 1 r i : EReal) ((∑ i, wgt (iblk m c 0 n) (iblk m c 1 n) 1 r i : ℝ) : EReal)) := by
  rw [Cert.ReferenceIdeal.Diff.mixed_apply]
  refine Finset.sum_congr rfl fun i _ => ?_
  rw [Cert.ReferenceIdeal.Diff.diffs_apply, Cert.ReferenceIdeal.Diff.probs_apply, Cert.ReferenceIdeal.Diff.probs_apply, lam_eq]
  have e0 := exps_eq _ h 0 q _ (scores_eq m c n 0 r h hh q hq)
  have e1 := exps_eq _ h 1 q _ (scores_eq m c n 1 r h hh q hq)
  simp only [e0, e1]
  rw [← coe_sum, ← coe_sum]
  rfl

/-- The result block is the reference's result, normalised rows agreeing. -/
theorem out_eq {c : Dev nD} (H : Fin5 m c) (n : Fin cfg0.N) (r : Fin 1024) (h : Fin 8) (hh : h.val = n.val / 8) (q : Fin 8192)
    (hq : q.val = 1024 * (n.val % 8) + r.val) (e : Fin 256) :
    outv (F := Ideal) (iblk m c 0 n) (iblk m c 1 n) (iblk m c 2 n) (iblk m c 3 n) (iblk m c 4 n) (iblk m c 5 n) (iblk m c 6 n) (iblk m c 7 n) (ix2 r e)
      = Cert.ReferenceIdeal.Diff.out (a0 m c) (a1 m c) (a2 m c) (a3 m c) (a4 m c) (a5 m c) (ix2 q ⟨h.val * 256 + e.val, by omega⟩) := by
  obtain ⟨lam, hlam⟩ := lam_real m H
  obtain ⟨eps, heps⟩ := bits_eps
  have hv : ∀ (i : Fin 8192) (l : Fin 256), ∃ x : ℝ, a0 m c (ix2 i ⟨4096 + (h.val * 256 + l.val), by omega⟩) = (x : EReal) :=
    fun i l => H.v i ⟨h.val * 256 + l.val, by omega⟩
  choose v hv using hv
  unfold outv Cert.ReferenceIdeal.Diff.out
  rw [pay1_apply, Cert.ReferenceIdeal.Diff.normed_apply, pay64_apply, blk_g]
  have hbv : ∀ (i : Fin 8192) (l : Fin 256), (iblk m c 2 n : FVec Ideal S256x8192 .bf16) (ix2 l i) = (v i l : EReal) := fun i l => by
    rw [← hv]
    refine (blk_v m c n l i).trans ?_
    congr 2
    exact Fin.ext (by show 4096 + (n.val / 8 * 256 + l.val) = 4096 + (h.val * 256 + l.val); omega)
  refine congrArg (fun z : EReal => z * a5 m c (ix2 0 e) * Ideal.ofBits .f32 0x3F24FD5C#32) ?_
  rw [bits_256, heps]
  refine rows_eq (wgt (iblk m c 0 n) (iblk m c 1 n) 0 r) (wgt (iblk m c 0 n) (iblk m c 1 n) 1 r) (fun i => wt_nonneg _ _)
    (fun i => wt_nonneg _ _) v lam (by norm_num) e
    (fun l => k0_pay63 (F := Ideal) (k0_pay62 (iblk m c 3 n) (iblk m c 4 n)) (iblk m c 5 n) (iblk m c 6 n) _ _ _ _ (ix2 r l))
    (fun l => Cert.ReferenceIdeal.Diff.mixed _ _ (ix3 q h l)) (fun l => ?_) (fun l => ?_)
  · beta_reduce
    rw [pay63_apply, lam_blk, hlam, den_eq, den_eq, num_eq _ _ _ _ _ _ _ (fun i => hbv i l), num_eq _ _ _ _ _ _ _ (fun i => hbv i l)]
  · beta_reduce
    rw [mixed_eq m n r h hh q hq l, hlam]
    simp only [hv]

/-- After the run the result array holds the reference's result. -/
theorem final {c : Dev nD} (H : Fin5 m c) : (dats m 0 c).arrAt 8 cfg0.N
    = Cert.ReferenceIdeal.Diff.out (a0 m c) (a1 m c) (a2 m c) (a3 m c) (a4 m c) (a5 m c) := by
  refine (dats m 0 c).arrAt_eq_of_covers 8 _ (by decide +kernel) fun t hf y => ?_
  blk_simp
  rw [after0_8]
  have hy : ∃ (r : Fin 1024) (e : Fin 256), y = ix2 r e := ⟨y 0, y 1, eq_ix2 y⟩
  obtain ⟨r, e, rfl⟩ := hy
  have hp := pt_lt t
  have he : (((cfg0.win 8).blk t).view.emb (ix2 r e))
      = ix2 (⟨1024 * (t.val % 8) + r.val, by omega⟩ : Fin 8192) (⟨t.val / 8 * 256 + e.val, by omega⟩ : Fin 2048) := by
    blk_ext [idx t]
  rw [he]
  exact out_eq m H t r ⟨t.val / 8, by omega⟩ rfl ⟨1024 * (t.val % 8) + r.val, by omega⟩ rfl e

/-- An extended real whose absolute value is below infinity is a real number. -/
theorem real_of_lt {x : EReal} (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

/-- The precondition says that. -/
theorem fin5 [hPre : Cert.Pre_finite.Facts] (h : Cert.Pre_KernelIdeal_finite m) (c : Dev nD) : Fin5 m c := by
  obtain ⟨h0, h1, h2, h3, h4⟩ := h c
  refine ⟨fun i e => real_of_lt ?_, fun i => real_of_lt ?_, fun i => real_of_lt ?_, fun i => real_of_lt ?_, fun i => real_of_lt ?_⟩
  · refine Eq.trans ?_ (congrFun h0 (ix2 i e))
    pointwise [Cert.Pre_finite.fn, Ideal.cmpf_def]
    rfl
  · exact congrFun h1 (ix2 0 i)
  · exact congrFun h2 (ix2 0 i)
  · exact congrFun h3 (ix2 0 i)
  · exact congrFun h4 (ix2 0 i)

/-- The kernel's program and the reference's leave the same result, and the arguments as they were. -/
theorem algebraic [hPre : Cert.Pre_finite.Facts] : Cert.algebraic_KernelIdeal_ReferenceIdeal_pre_finite := by
  intro m g m' g' hpre hagree
  refine ⟨fun c => Cert.ReferenceIdeal.Diff.out (a0 m c) (a1 m c) (a2 m c) (a3 m c) (a4 m c) (a5 m c),
    (θ_run defs _ _).mono (fun r h c => ?_) (θ_run_and (frame m g) (run_main m g)),
    (θ_run Cert.ReferenceIdeal.defs _ _).mono (fun r h c => ?_) (Cert.ReferenceIdeal.Value.run m' g')⟩
  · exact ⟨((h.2 c).1 8).trans (final m (fin5 m hpre c)), h.1.1 c⟩
  · have hc := h c
    refine ⟨hc.1.trans ?_, hc.2⟩
    rw [Cert.ReferenceIdeal.Diff.res_eq]
    have ha := hagree c
    rw [ha.1, ha.2.1, ha.2.2.1, ha.2.2.2.1, ha.2.2.2.2.1, ha.2.2.2.2.2]

end Cert.KernelIdeal.Diff

end
-- ==== Proof.MlpBody.lean ====
module

public import proofs.«01_k».proof.Proof.Gen.Kernel2Ideal.Value
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

namespace Cert.Kernel2Ideal.Mlp

open Cert.Kernel2Ideal Cert.Kernel2Ideal.Gen Idealize.ShloMosaic Idealize.ShloMosaic.TcCoe Idealize.SL.Sem

variable {F : FTy → Type} [FloatOps F]
variable (m : (ℓ : Loc nD τ sig) → Buf (Elt F) ℓ)

/-- At the first point of a row block, the normalised rows are stored. -/
theorem hn_first (c : Dev nD) (t : Fin cfg0.N) (h0 : t.val % 8 = 0) (y : S512x2048.Idx) :
    (outsAt0 m c t.val t.isLt).2.1 y = k0_pay1 (iblk m c 0 t) (iblk m c 1 t) y := by
  rw [outsAt0_A m c t h0 (by omega)]
  frame_out

/-- At the first point of a row block, the sum is the first chunk's product over zero. -/
theorem acc_first (c : Dev nD) (t : Fin cfg0.N) (h0 : t.val % 8 = 0) (y : S512x2048.Idx) :
    (outsAt0 m c t.val t.isLt).2.2 y
      = k0_pay3 (k0_pay1 (iblk m c 0 t) (iblk m c 1 t)) (iblk m c 2 t) k0_pay2 (iblk m c 3 t) y := by
  rw [outsAt0_A m c t h0 (by omega)]
  frame_out

/-- At a later point the normalised rows are those of the point before. -/
theorem hn_next (c : Dev nD) (t : Fin cfg0.N) (h0 : ¬t.val % 8 = 0) (y : S512x2048.Idx) :
    (outsAt0 m c t.val t.isLt).2.1 y
      = (outsAt0 m c (t.val - 1) (lt_of_le_of_lt (Nat.sub_le _ _) t.isLt)).2.1 y := by
  by_cases h1 : t.val % 8 = 7
  · rw [outsAt0_C m c t h0 h1]; rfl
  · rw [outsAt0_B m c t h0 h1]; rfl

/-- At a later point the chunk's product is added to the sum. -/
theorem acc_next (c : Dev nD) (t : Fin cfg0.N) (h0 : ¬t.val % 8 = 0) (y : S512x2048.Idx) :
    (outsAt0 m c t.val t.isLt).2.2 y
      = k0_pay3 (outsAt0 m c (t.val - 1) (lt_of_le_of_lt (Nat.sub_le _ _) t.isLt)).2.1 (iblk m c 2 t)
          (outsAt0 m c (t.val - 1) (lt_of_le_of_lt (Nat.sub_le _ _) t.isLt)).2.2 (iblk m c 3 t) y := by
  by_cases h1 : t.val % 8 = 7
  · rw [outsAt0_C m c t h0 h1]; frame_out; simp only [read_unread_whole]
  · rw [outsAt0_B m c t h0 h1]; frame_out; simp only [read_unread_whole]

/-- At the last point of a row block the result is computed from the sum that the point leaves. -/
theorem out_last (c : Dev nD) (t : Fin cfg0.N) (h1 : t.val % 8 = 7) (y : S512x2048.Idx) :
    (outsAt0 m c t.val t.isLt).1 y
      = k0_pay4 (iblk m c 0 t) (outsAt0 m c t.val t.isLt).2.2 (iblk m c 4 t) y := by
  have hacc : (outsAt0 m c t.val t.isLt).2.2 = k0_pay3 (outsAt0 m c (t.val - 1) (lt_of_le_of_lt (Nat.sub_le _ _) t.isLt)).2.1
      (iblk m c 2 t) (outsAt0 m c (t.val - 1) (lt_of_le_of_lt (Nat.sub_le _ _) t.isLt)).2.2 (iblk m c 3 t) :=
    funext fun y => acc_next m c t (by omega) y
  rw [hacc, outsAt0_C m c t (by omega) h1]
  frame_out
  simp only [read_unread_whole]

end Cert.Kernel2Ideal.Mlp

end
-- ==== Proof.MlpValue.lean ====
module

public import proofs.«01_k».proof.Defs
public import proofs.«01_k».proof.Proof.MlpBody
public import proofs.«01_k».proof.Proof.Gen.Reference2Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel2Ideal.Mlp

open Cert.Kernel2Ideal Cert.Kernel2Ideal.Gen Idealize.ShloMosaic Idealize.ShloMosaic.TcCoe Idealize.SL.Sem

variable (m : (ℓ : Loc nD τ sig) → Buf (Elt Ideal) ℓ)

/-- Where each operand's block lies at a point: the row block is the point's quotient by 8, the chunk its remainder. -/
theorem idx : ∀ t : Fin cfg0.N, win0_0.index t = ![t.val / 8, 0] ∧ win0_1.index t = ![0, 0]
    ∧ win0_2.index t = ![1, 0, t.val % 8] ∧ win0_3.index t = ![1, t.val % 8, 0] ∧ win0_4.index t = ![0, 0]
    ∧ win0_5.index t = ![t.val / 8, 0] :=
  (by decide +kernel : ∀ t : Fin grid0.N, _)

/-- The block of rows at an index. -/
theorem blk_h (c : Dev nD) (t : Fin cfg0.N) (r : Fin 512) (k : Fin 2048) :
    (iblk m c 0 t) (ix2 r k) = m ((c : Thread nD τ).loc main_arg0)
      (ix2 ⟨512 * (t.val / 8) + r.val, by have := t.isLt; have : cfg0.N = 128 := N_0; omega⟩ k) := by
  blk_ext [iblk, V, idx t]

/-- The first scale vector's block is the whole vector. -/
theorem blk_g (c : Dev nD) (t : Fin cfg0.N) (k : Fin 2048) :
    (iblk m c 1 t) (ix2 0 k) = m ((c : Thread nD τ).loc main_arg1) (ix2 0 k) := by
  blk_ext [iblk, V, idx t]

/-- The block of the first weight matrix: one chunk of its columns. -/
theorem blk_up (c : Dev nD) (t : Fin cfg0.N) (k : Fin 2048) (f : Fin 1024) :
    (iblk m c 2 t) (ix3 0 k f) = m ((c : Thread nD τ).loc main_arg2)
      (ix3 1 k ⟨t.val % 8 * 1024 + f.val, by omega⟩) := by
  blk_ext! [iblk, V, idx t]

/-- The block of the second weight matrix: one chunk of its rows. -/
theorem blk_dn (c : Dev nD) (t : Fin cfg0.N) (f : Fin 1024) (j : Fin 2048) :
    (iblk m c 3 t) (ix3 0 f j) = m ((c : Thread nD τ).loc main_arg3)
      (ix3 1 ⟨t.val % 8 * 1024 + f.val, by omega⟩ j) := by
  blk_ext! [iblk, V, idx t]

/-- The second scale vector's block is the whole vector. -/
theorem blk_gp (c : Dev nD) (t : Fin cfg0.N) (k : Fin 2048) :
    (iblk m c 4 t) (ix2 0 k) = m ((c : Thread nD τ).loc main_arg4) (ix2 0 k) := by
  blk_ext [iblk, V, idx t]

/-- The stored normalised rows at an index. -/
theorem pay1_apply (x : Vec Ideal S512x2048 .f32) (g : Vec Ideal S1x2048 .f32) (r : Fin 512) (k : Fin 2048) :
    k0_pay1 x g (ix2 r k) = x (ix2 r k) * Ideal.rsqrt (Ideal.div (∑ l : Fin 2048, x (ix2 r l) * x (ix2 r l))
      (Ideal.ofBits .f32 0x45000000#32) + Ideal.ofBits .f32 0x358637BD#32) * g (ix2 0 k) := by
  pointwise [k0_pay1]

/-- The value of one hidden unit's square: the larger of a scalar product and zero, times itself. -/
def sq (s : EReal) : EReal := max s 0 * max s 0

/-- The sum after one chunk at an index. -/
theorem pay3_apply (x : Vec Ideal S512x2048 .bf16) (u : Vec Ideal S1x2048x1024 .bf16) (a : Vec Ideal S512x2048 .f32)
    (d : Vec Ideal S1x1024x2048 .bf16) (r : Fin 512) (j : Fin 2048) :
    k0_pay3 x u a d (ix2 r j) = a (ix2 r j)
      + ∑ f : Fin 1024, sq (∑ k : Fin 2048, x (ix2 r k) * u (ix3 0 k f)) * d (ix3 0 f j) := by
  pointwise [k0_pay3, sq]

/-- The result block at an index. -/
theorem pay4_apply (x a : Vec Ideal S512x2048 .f32) (g : Vec Ideal S1x2048 .f32) (r : Fin 512) (k : Fin 2048) :
    k0_pay4 x a g (ix2 r k) = x (ix2 r k) + a (ix2 r k) * Ideal.rsqrt (Ideal.div (∑ l : Fin 2048, a (ix2 r l) * a (ix2 r l))
      (Ideal.ofBits .f32 0x45000000#32) + Ideal.ofBits .f32 0x358637BD#32) * g (ix2 0 k) := by
  pointwise [k0_pay4]

/-- The block of zeros. -/
theorem pay2_apply (r : Fin 512) (k : Fin 2048) : k0_pay2 (F := Ideal) (ix2 r k) = 0 := by
  pointwise [k0_pay2]

section Reference
open Cert.Reference2Ideal.Read

variable (x0 : Vec Ideal S8192x2048 .f32) (x1 : Vec Ideal S1x2048 .f32) (x2 : Vec Ideal S2x2048x8192 .f32)
  (x3 : Vec Ideal S2x8192x2048 .f32) (x4 : Vec Ideal S1x2048 .f32)

/-- The reference's normalised rows at an index. -/
theorem ref_hn (r : Fin 8192) (k : Fin 2048) : val_main_v13 (F := Ideal) x0 x1 (ix2 r k)
    = x0 (ix2 r k) * Ideal.rsqrt (Ideal.div (∑ l : Fin 2048, x0 (ix2 r l) * x0 (ix2 r l))
      (Ideal.ofBits .f32 0x45000000#32) + Ideal.ofBits .f32 0x358637BD#32) * x1 (ix2 0 k) := by
  pointwise [val_main_v13, val_main_v0, val_main_v1, val_main_v2, val_main_v3, val_main_v4, val_main_v5,
    val_main_v6, val_main_v7, val_main_v8, val_main_v9, val_main_v10, val_main_v11, val_main_v12, val_main_cst,
    val_main_cst_0, val_main_cst_1]

/-- The reference's squared hidden units at an index. -/
theorem ref_sq (r f : Fin 8192) : val_main_v18 (F := Ideal) x0 x1 x2 (ix2 r f)
    = sq (∑ k : Fin 2048, val_main_v13 (F := Ideal) x0 x1 (ix2 r k) * x2 (ix3 1 k f)) := by
  pointwise [val_main_v18, val_main_v17, val_main_v16, val_main_v15, val_main_v14, val_main_call0_v0,
    val_main_call0_cst, sq]

/-- The reference's second product at an index. -/
theorem ref_acc (r : Fin 8192) (j : Fin 2048) : val_main_v21 (F := Ideal) x0 x1 x2 x3 (ix2 r j)
    = ∑ f : Fin 8192, val_main_v18 (F := Ideal) x0 x1 x2 (ix2 r f) * x3 (ix3 1 f j) := by
  pointwise [val_main_v21, val_main_v19, val_main_v20]

/-- The reference's result at an index. -/
theorem ref_out (r : Fin 8192) (k : Fin 2048) : val_main_v36 (F := Ideal) x0 x1 x2 x3 x4 (ix2 r k)
    = x0 (ix2 r k) + val_main_v21 (F := Ideal) x0 x1 x2 x3 (ix2 r k) * Ideal.rsqrt (Ideal.div
        (∑ l : Fin 2048, val_main_v21 (F := Ideal) x0 x1 x2 x3 (ix2 r l) * val_main_v21 (F := Ideal) x0 x1 x2 x3 (ix2 r l))
      (Ideal.ofBits .f32 0x45000000#32) + Ideal.ofBits .f32 0x358637BD#32) * x4 (ix2 0 k) := by
  pointwise [val_main_v36, val_main_v35, val_main_v34, val_main_v33, val_main_v32, val_main_v31, val_main_v30,
    val_main_v29, val_main_v28, val_main_v27, val_main_v26, val_main_v25, val_main_v24, val_main_v23, val_main_v22,
    val_main_cst_2, val_main_cst_3, val_main_cst_4]

end Reference

/-- The arguments as the reference takes them. -/
abbrev a0 (c : Dev nD) : Vec Ideal S8192x2048 .f32 := m ((c : Thread nD τ).loc main_arg0)
abbrev a1 (c : Dev nD) : Vec Ideal S1x2048 .f32 := m ((c : Thread nD τ).loc main_arg1)
abbrev a2 (c : Dev nD) : Vec Ideal S2x2048x8192 .f32 := m ((c : Thread nD τ).loc main_arg2)
abbrev a3 (c : Dev nD) : Vec Ideal S2x8192x2048 .f32 := m ((c : Thread nD τ).loc main_arg3)
abbrev a4 (c : Dev nD) : Vec Ideal S1x2048 .f32 := m ((c : Thread nD τ).loc main_arg4)

/-- The row of the array that row `r` of the block at point `n` is. -/
abbrev row (n : ℕ) (hn : n < cfg0.N) (r : Fin 512) : Fin 8192 :=
  ⟨512 * (n / 8) + r.val, by have : cfg0.N = 128 := N_0; omega⟩

open Cert.Reference2Ideal.Read in
/-- After any point the first scratch holds the reference's normalised rows of the point's row block. -/
theorem hn_eq (c : Dev nD) : ∀ (n : ℕ) (hn : n < cfg0.N) (r : Fin 512) (k : Fin 2048),
    (outsAt0 m c n hn).2.1 (ix2 r k) = val_main_v13 (F := Ideal) (a0 m c) (a1 m c) (ix2 (row n hn r) k) := by
  intro n
  induction n with
  | zero =>
    intro hn r k
    rw [hn_first m c ⟨0, hn⟩ rfl, pay1_apply, ref_hn]
    simp only [blk_h, blk_g]
  | succ n ih =>
    intro hn r k
    by_cases h0 : (n + 1) % 8 = 0
    · rw [hn_first m c ⟨n + 1, hn⟩ h0, pay1_apply, ref_hn]
      simp only [blk_h, blk_g]
    · rw [hn_next m c ⟨n + 1, hn⟩ h0]
      refine (ih (Nat.lt_of_succ_lt hn) r k).trans ?_
      have : row n (Nat.lt_of_succ_lt hn) r = row (n + 1) hn r := by
        apply Fin.ext; show 512 * (n / 8) + r.val = 512 * ((n + 1) / 8) + r.val; omega
      rw [this]

open Cert.Reference2Ideal.Read in
/-- One chunk's contribution to the sum at row `r`, column `j` of point `n`'s row block. -/
def term (c : Dev nD) (t : Fin cfg0.N) (r : Fin 512) (j : Fin 2048) : EReal :=
  ∑ f : Fin 1024, val_main_v18 (F := Ideal) (a0 m c) (a1 m c) (a2 m c)
      (ix2 (row t.val t.isLt r) ⟨t.val % 8 * 1024 + f.val, by omega⟩)
    * a3 m c (ix3 1 ⟨t.val % 8 * 1024 + f.val, by omega⟩ j)

/-- At the first point of a row block the sum is that point's contribution. -/
theorem acc_first_apply (c : Dev nD) (t : Fin cfg0.N) (h0 : t.val % 8 = 0) (r : Fin 512) (j : Fin 2048) :
    (outsAt0 m c t.val t.isLt).2.2 (ix2 r j) = 0 + term m c t r j := by
  rw [acc_first m c t h0, pay3_apply, pay2_apply]
  unfold term
  simp only [ref_sq, blk_up, blk_dn, ← hn_eq m c t.val t.isLt, hn_first m c t h0]

/-- At a later point that point's contribution is added. -/
theorem acc_next_apply (c : Dev nD) (t : Fin cfg0.N) (h0 : ¬t.val % 8 = 0) (r : Fin 512) (j : Fin 2048) :
    (outsAt0 m c t.val t.isLt).2.2 (ix2 r j)
      = (outsAt0 m c (t.val - 1) (lt_of_le_of_lt (Nat.sub_le _ _) t.isLt)).2.2 (ix2 r j) + term m c t r j := by
  rw [acc_next m c t h0, pay3_apply]
  unfold term
  simp only [ref_sq, blk_up, blk_dn, ← hn_eq m c t.val t.isLt, hn_next m c t h0]

open Cert.Reference2Ideal.Read in
/-- At the last point of a row block the sum is the reference's second product. -/
theorem acc_last (c : Dev nD) (t : Fin cfg0.N) (h7 : t.val % 8 = 7) (r : Fin 512) (j : Fin 2048) :
    (outsAt0 m c t.val t.isLt).2.2 (ix2 r j)
      = val_main_v21 (F := Ideal) (a0 m c) (a1 m c) (a2 m c) (a3 m c) (ix2 (row t.val t.isLt r) j) := by
  have hN : cfg0.N = 128 := N_0
  refine (Pipeline.eq_sum_fin_of_reset_step_apply_of_flush (fun n h (j : Fin 2048) => (outsAt0 m c n h).2.2 (ix2 r j)) 8
    (fun _ => (0 : EReal)) (fun t j => term m c t r j) (fun t h j => acc_first_apply m c t h r j)
    (fun t h j => acc_next_apply m c t h r j) t h7 j).trans ?_
  rw [zero_add, ref_acc]
  unfold term
  refine Fin.sum_mul_add_congr fun s k hl => ?_
  have e1 : row (8 * (t.val / 8) + s.val) (Pipeline.run_point_lt_of_flush t h7 s) r = row t.val t.isLt r := by
    apply Fin.ext; show 512 * ((8 * (t.val / 8) + s.val) / 8) + r.val = 512 * (t.val / 8) + r.val; omega
  have e2 : (8 * (t.val / 8) + s.val) % 8 = s.val := by omega
  have e3 : ∀ h, (⟨(8 * (t.val / 8) + s.val) % 8 * 1024 + k.val, h⟩ : Fin 8192) = ⟨s.val * 1024 + k.val, hl⟩ :=
    fun h => Fin.ext (by show (8 * (t.val / 8) + s.val) % 8 * 1024 + k.val = s.val * 1024 + k.val; rw [e2])
  show _ = _
  rw [← e1]
  simp only [e3]

open Cert.Reference2Ideal.Read in
/-- After the run the result array holds the reference's result. -/
theorem final (c : Dev nD) : (dats m 0 c).arrAt 5 cfg0.N
    = val_main_v36 (F := Ideal) (a0 m c) (a1 m c) (a2 m c) (a3 m c) (a4 m c) := by
  refine (dats m 0 c).arrAt_eq_of_covers 5 _ (by decide +kernel) fun t hf y => ?_
  have h7 : t.val % 8 = 7 := (flush0_5 t).mp hf
  blk_simp
  rw [after0_5]
  refine (out_last m c t h7 _).trans ?_
  have hy : ∃ (r : Fin 512) (k : Fin 2048), y = ix2 r k := ⟨y 0, y 1, eq_ix2 y⟩
  obtain ⟨r, k, rfl⟩ := hy
  have e : (((cfg0.win 5).blk t).view.emb (ix2 r k)) = ix2 (row t.val t.isLt r) k := by
    blk_ext [idx t]
  rw [e, ref_out]
  refine (pay4_apply _ _ _ r k).trans ?_
  simp only [blk_h, blk_gp, acc_last m c t h7]

/-- The kernel's program and the reference's leave the same result, and the arguments as they were. -/
theorem algebraic : Cert.algebraic_Kernel2Ideal_Reference2Ideal := by
  intro m g m' g' _ hagree
  refine ⟨fun c => Cert.Reference2Ideal.Read.val_main_v36 (F := Ideal) (a0 m c) (a1 m c) (a2 m c) (a3 m c) (a4 m c),
    (θ_run defs _ _).mono (fun r h c => ?_) (Value.run_blocks m g),
    (θ_run Cert.Reference2Ideal.defs _ _).mono (fun r h c => ?_) (Cert.Reference2Ideal.Value.run m' g')⟩
  · have hc := h c
    exact ⟨hc.1.trans (final m c), hc.2⟩
  · have hc := h c
    refine ⟨hc.1.trans ?_, hc.2⟩
    rw [Cert.Reference2Ideal.Read.val_main_v36_eq]
    have ha := hagree c
    rw [ha.1, ha.2.1, ha.2.2.1, ha.2.2.2.1, ha.2.2.2.2]

end Cert.Kernel2Ideal.Mlp

end
-- ==== Proof.ProjBody.lean ====
module

public import proofs.«01_k».proof.Proof.Gen.Kernel3Ideal.Value
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

namespace Cert.Kernel3Ideal.Proj

open Cert.Kernel3Ideal Cert.Kernel3Ideal.Gen Idealize.ShloMosaic Idealize.ShloMosaic.TcCoe Idealize.SL.Sem

/-- One entry of the scaled product of the rows and the weights. -/
def prod {n : ℕ} (h : FVec Ideal ⟨2, ![n, 2048]⟩ .bf16) (w : FVec Ideal S2048x512 .f32) (cs : FVec Ideal S1x512 .f32)
    (r : Fin n) (j : Fin 512) : EReal :=
  (∑ k : Fin 2048, h (ix2 r k) * w (ix2 k j)) * cs (ix2 0 j)

/-- One row group's scaled product at an index. -/
theorem pay5_apply (w : FVec Ideal S2048x512 .f32) (cs : FVec Ideal S1x512 .f32) (h : FVec Ideal S128x2048 .bf16)
    (r : Fin 128) (j : Fin 512) : k0_pay5 (F := Ideal) w cs h (ix2 r j) = prod h w cs r j := by
  pointwise [k0_pay5, k0_pay4, k0_pay3, prod]

/-- One head's 128 columns of a row group, rotated where the flag `b` is set: the columns, their two rolls along the
    lanes, each times its table, the tables being 1, 0 and 0 where the flag is not set. -/
def chunk (o : ℕ) (b : BitVec 1) (a : FVec Ideal S128x512 .f32) (cc s1 s2 : FVec Ideal S128x128 .f32)
    (u z1 z2 : Ideal .f32) (hs : S128x512.Slices ![0, o] S128x128) : FVec Ideal S128x128 .bf16 :=
  truncf .bf16 (addf (addf
    (mulf (extractStridedSlice S128x128 ![0, o] a hs)
      (Scalar.select b (shapeCast S128x128 cc shapeCasts_S128x128_S128x128) (broadcast S128x128 u)))
    (mulf (dynamicRotate 1 112#32 none (extractStridedSlice S128x128 ![0, o] a hs) rotates_S128x128_d1)
      (Scalar.select b (shapeCast S128x128 s1 shapeCasts_S128x128_S128x128) (broadcast S128x128 z1))))
    (mulf (dynamicRotate 1 16#32 none (extractStridedSlice S128x128 ![0, o] a hs) rotates_S128x128_d1)
      (Scalar.select b (shapeCast S128x128 s2 shapeCasts_S128x128_S128x128) (broadcast S128x128 z2))))
    bitsLt_bf16_f32

/-- Such a block of columns at an index. -/
theorem chunk_apply (o : ℕ) (b : BitVec 1) (a : FVec Ideal S128x512 .f32) (cc s1 s2 : FVec Ideal S128x128 .f32)
    (u z1 z2 : Ideal .f32) (hs : S128x512.Slices ![0, o] S128x128) (hu : u = (1 : EReal)) (h1 : z1 = (0 : EReal))
    (h2 : z2 = (0 : EReal)) (ho : o ≤ 384) (r l : Fin 128) :
    chunk o b a cc s1 s2 u z1 z2 hs (ix2 r l)
      = if b = 1#1 then a (ix2 r ⟨o + l.val, by omega⟩) * cc (ix2 r l)
        + a (ix2 r ⟨o + (l.val + 128 - 112) % 128, by omega⟩) * s1 (ix2 r l)
        + a (ix2 r ⟨o + (l.val + 128 - 16) % 128, by omega⟩) * s2 (ix2 r l)
        else a (ix2 r ⟨o + l.val, by omega⟩) := by
  subst hu h1 h2
  obtain rfl | rfl : b = 0#1 ∨ b = 1#1 := by revert b; decide
  · rw [if_neg (by decide)]
    pointwise [chunk]
    rw [mul_zero, mul_zero, add_zero, add_zero]
  · rw [if_pos rfl]
    pointwise [chunk]

/-- The two constants of the untouched columns. -/
theorem one_eq : (Scalar.ofBits .f32 0x3F800000#32 : Ideal .f32) = (1 : EReal) := by pointwise
theorem zero_eq : (Scalar.ofBits .f32 0x00000000#32 : Ideal .f32) = (0 : EReal) := by pointwise

/-- The output block's entry at row `r` and column `j`, at the point whose second coordinate is `n`: the scaled product,
    rotated with the tables' entries in the columns of the heads from `lo` on and below `hi`. -/
def blkVal (lo hi n : ℕ) (H : FVec Ideal S1024x2048 .bf16) (w : FVec Ideal S2048x512 .f32) (cs : FVec Ideal S1x512 .f32)
    (T1 T2 T3 : FVec Ideal S1024x128 .f32) (r : Fin 1024) (j : Fin 512) : EReal :=
  if lo ≤ n * 4 + j.val / 128 ∧ n * 4 + j.val / 128 < hi then
    prod H w cs r j * T1 (ix2 r ⟨j.val % 128, by omega⟩)
      + prod H w cs r ⟨j.val / 128 * 128 + (j.val % 128 + 128 - 112) % 128, by omega⟩ * T2 (ix2 r ⟨j.val % 128, by omega⟩)
      + prod H w cs r ⟨j.val / 128 * 128 + (j.val % 128 + 128 - 16) % 128, by omega⟩ * T3 (ix2 r ⟨j.val % 128, by omega⟩)
  else prod H w cs r j

/-- The flag of a head's columns, as the kernel computes it. -/
def flag (lo hi n C : ℕ) : BitVec 1 :=
  Scalar.andi (Scalar.cmpi .sge (Scalar.addi (Scalar.muli (BitVec.ofNat 32 n) 4#32) (BitVec.ofNat 32 C)) (BitVec.ofNat 32 lo))
    (Scalar.cmpi .slt (Scalar.addi (Scalar.muli (BitVec.ofNat 32 n) 4#32) (BitVec.ofNat 32 C)) (BitVec.ofNat 32 hi))

/-- What it says, for a kernel whose second coordinate stays below `N`. -/
abbrev FlagIff (lo hi N : ℕ) : Prop :=
  ∀ (C : Fin 4) (n : Fin N), flag lo hi n.val C.val = 1#1 ↔ lo ≤ n.val * 4 + C.val ∧ n.val * 4 + C.val < hi

/-- Here it is set at the first 32 heads. -/
theorem flag_iff : FlagIff 0 32 12 := by
  decide +kernel

/-- One stored block of columns is the output block's at its place. -/
theorem piece {N lo hi : ℕ} (hf : FlagIff lo hi N) (n : Fin N) (H : FVec Ideal S1024x2048 .bf16) (w : FVec Ideal S2048x512 .f32) (cs : FVec Ideal S1x512 .f32)
    (T1 T2 T3 : FVec Ideal S1024x128 .f32) (y : S1024x512.Idx) (x : S128x128.Idx) (g o : ℕ) (b : BitVec 1)
    (w' : FVec Ideal S2048x512 .f32) (cs' : FVec Ideal S1x512 .f32) (a : FVec Ideal S128x512 .f32)
    (h : FVec Ideal S128x2048 .bf16) (cc s1 s2 : FVec Ideal S128x128 .f32) (u z1 z2 : Ideal .f32)
    (hs : S128x512.Slices ![0, o] S128x128) (hg : g ≤ 896) (h0 : (y 0).val = g + (x 0).val) (h1 : (y 1).val = o + (x 1).val) (ho' : o ≤ 384) (ho : o = 128 * (o / 128))
    (hb : b = flag lo hi n.val (o / 128)) (ha : ∀ r j, a (ix2 r j) = prod h w' cs' r j) (hw : w' = w) (hcs : cs' = cs)
    (hh : ∀ (r : Fin 128) (k : Fin 2048), h (ix2 r k) = H (ix2 ⟨g + r.val, by omega⟩ k))
    (hcc : ∀ r l : Fin 128, cc (ix2 r l) = T1 (ix2 ⟨g + r.val, by omega⟩ l))
    (hs1 : ∀ r l : Fin 128, s1 (ix2 r l) = T2 (ix2 ⟨g + r.val, by omega⟩ l))
    (hs2 : ∀ r l : Fin 128, s2 (ix2 r l) = T3 (ix2 ⟨g + r.val, by omega⟩ l))
    (hu : u = (1 : EReal)) (hz1 : z1 = (0 : EReal)) (hz2 : z2 = (0 : EReal)) :
    chunk o b a cc s1 s2 u z1 z2 hs x = blkVal lo hi n.val H w cs T1 T2 T3 (y 0) (y 1) := by
  subst hw hcs
  obtain ⟨C, rfl⟩ : ∃ C, o = 128 * C := ⟨_, ho⟩
  rw [show 128 * C / 128 = C by omega] at hb
  replace hf := hf ⟨C, by omega⟩ n
  obtain ⟨r, l, rfl⟩ : ∃ r l : Fin 128, x = ix2 r l := ⟨x 0, x 1, eq_ix2 x⟩
  obtain ⟨R, J, rfl⟩ : ∃ (R : Fin 1024) (J : Fin 512), y = ix2 R J := ⟨y 0, y 1, eq_ix2 y⟩
  replace h0 : R.val = g + r.val := h0
  replace h1 : J.val = 128 * C + l.val := h1
  have hR : R = ⟨g + r.val, by omega⟩ := Fin.ext h0
  have hJ : J = ⟨128 * C + l.val, by omega⟩ := Fin.ext h1
  have hp : ∀ j, prod h w' cs' r j = prod H w' cs' R j := fun j => by
    unfold prod; simp only [hh, hR]
  rw [chunk_apply _ _ _ _ _ _ _ _ _ _ hu hz1 hz2 (by omega)]
  simp only [ha, hp, hcc, hs1, hs2]
  show _ = blkVal lo hi n.val H w' cs' T1 T2 T3 R J
  have e1 : J.val / 128 = C := by omega
  have e2 : J.val % 128 = l.val := by omega
  have hl : ∀ h, (⟨J.val % 128, h⟩ : Fin 128) = l := fun _ => Fin.ext e2
  have f1 : ∀ h, (⟨J.val / 128 * 128 + (J.val % 128 + 128 - 112) % 128, h⟩ : Fin 512) = ⟨128 * C + (l.val + 128 - 112) % 128, by omega⟩ :=
    fun _ => Fin.ext (by show J.val / 128 * 128 + (J.val % 128 + 128 - 112) % 128 = 128 * C + (l.val + 128 - 112) % 128; rw [e1, e2, Nat.mul_comm])
  have f2 : ∀ h, (⟨J.val / 128 * 128 + (J.val % 128 + 128 - 16) % 128, h⟩ : Fin 512) = ⟨128 * C + (l.val + 128 - 16) % 128, by omega⟩ :=
    fun _ => Fin.ext (by show J.val / 128 * 128 + (J.val % 128 + 128 - 16) % 128 = 128 * C + (l.val + 128 - 16) % 128; rw [e1, e2, Nat.mul_comm])
  unfold blkVal
  simp only [f1, f2, hl, ← hR, ← hJ]
  rw [e1]
  subst hb
  by_cases hc : lo ≤ n.val * 4 + C ∧ n.val * 4 + C < hi
  · rw [if_pos (hf.mpr hc), if_pos hc]
  · rw [if_neg (fun e => hc (hf.mp e)), if_neg hc]

/-- A load of 128 rows, at an index. -/
theorem ld_rows {n d : ℕ} {e : EltTy} (X : Vec Ideal ⟨2, ![n, d]⟩ e) (g : ℕ)
    (inb : ∀ a, ![g, 0] a + ![128, d] a ≤ (⟨2, ![n, d]⟩ : Shape).size a) (r : Fin 128) (k : Fin d) (h : g + r.val < n) :
    View.ld X (Rect.unit (s := ⟨2, ![n, d]⟩) ![g, 0] ![128, d] inb) (ix2 r k) = X (ix2 ⟨g + r.val, h⟩ k) := by
  refine View.ld_unit_apply_of (S := ⟨2, ![n, d]⟩) X ![g, 0] ![128, d] inb (ix2 r k) _ fun a => ?_
  fin_cases a
  · rfl
  · exact (Nat.zero_add _).symm

/-- A load of 128 rows of a buffer just stored whole, at an index. -/
theorem stored_rows {σ : RefSig} {n d : ℕ} {e : EltTy} {κ : Kind} {sp : Space} (v : View σ κ sp ⟨2, ![n, d]⟩ e) (X : Vec Ideal ⟨2, ![n, d]⟩ e) (g : ℕ)
    (inb0 : ∀ a, ![0, 0] a + ![n, d] a ≤ (⟨2, ![n, d]⟩ : Shape).size a)
    (inb : ∀ a, ![g, 0] a + ![128, d] a ≤ (⟨2, ![n, d]⟩ : Shape).size a) (r : Fin 128) (k : Fin d) (h : g + r.val < n) :
    v.readCov [(⟨Rect.unit (s := ⟨2, ![n, d]⟩) ![0, 0] ![n, d] inb0, X⟩ : View.Piece (Elt Ideal) ⟨2, ![n, d]⟩ e)]
      (Rect.unit (s := ⟨2, ![n, d]⟩) ![g, 0] ![128, d] inb).toLoadRect (ix2 r k) = X (ix2 ⟨g + r.val, h⟩ k) := by
  have e : View.canon [(⟨Rect.unit (s := ⟨2, ![n, d]⟩) ![0, 0] ![n, d] inb0, X⟩ : View.Piece (Elt Ideal) ⟨2, ![n, d]⟩ e)] = X :=
    View.canon_cons_unit_lit' (S := ⟨2, ![n, d]⟩) inb0 X [] (fun a => by fin_cases a <;> rfl)
  rw [View.readCov_eq_canon', e]
  exact ld_rows X g inb r k h

variable (m : (ℓ : Loc nD τ sig) → Buf (Elt Ideal) ℓ)

set_option maxHeartbeats 400000 in
/-- At a later point of a row block, the block's value is computed from the rows normalised before. -/
theorem out_next (c : Dev nD) (t : Fin cfg0.N) (ht : ¬t.val % 12 = 0) (y : S1024x512.Idx) :
    (outsAt0 m c t.val t.isLt).1 y = blkVal 0 32 (grid0.coords t 1).val
      (outsAt0 m c (t.val - 1) (Nat.lt_of_le_of_lt (Nat.sub_le _ _) t.isLt)).2 (iblk m c 2 t) (iblk m c 3 t)
      (iblk m c 4 t) (iblk m c 5 t) (iblk m c 6 t) (y 0) (y 1) := by
  rw [outsAt0_B m c t ht]
  generalize (outsAt0 m c (t.val - 1) (Nat.lt_of_le_of_lt (Nat.sub_le _ _) t.isLt)).2 = xs
  dsimp only
  generalize iblk m c 0 t = x0, iblk m c 1 t = x1, iblk m c 2 t = x2, iblk m c 3 t = x3, iblk m c 4 t = x4, iblk m c 5 t = x5, iblk m c 6 t = x6
  frame_out
  simp only [read_unread_whole]
  canon_tiles x h
  all_goals
    open_payloads
    first
      | refine piece flag_iff (grid0.coords t 1) xs x2 x3 x4 x5 x6 y x _ _ _ _ _ _ _ _ _ _ _ _ _ (by decide) (by omega) h0 (by omega) (by omega) (by omega) ?_ (pay5_apply _ _ _) ?_ ?_ ?_ ?_ ?_ ?_ ?_ ?_ ?_
      | refine piece flag_iff (grid0.coords t 1) xs x2 x3 x4 x5 x6 y x 0 _ _ _ _ _ _ _ _ _ _ _ _ (by decide) (by omega) (by omega) (by omega) (by omega) (by omega) ?_ (pay5_apply _ _ _) ?_ ?_ ?_ ?_ ?_ ?_ ?_ ?_ ?_
    · rfl
    · rfl
    · rfl
    · exact fun r k => ld_rows _ _ _ r k _
    · exact fun r k => ld_rows _ _ _ r k _
    · exact fun r k => ld_rows _ _ _ r k _
    · exact fun r k => ld_rows _ _ _ r k _
    · exact one_eq
    · exact zero_eq
    · exact zero_eq

set_option maxHeartbeats 400000 in
/-- At the first point of a row block, it is computed from the rows normalised there. -/
theorem out_first (c : Dev nD) (t : Fin cfg0.N) (ht : t.val % 12 = 0) (y : S1024x512.Idx) :
    (outsAt0 m c t.val t.isLt).1 y = blkVal 0 32 (grid0.coords t 1).val
      (k0_pay2 (iblk m c 0 t) (iblk m c 1 t)) (iblk m c 2 t) (iblk m c 3 t)
      (iblk m c 4 t) (iblk m c 5 t) (iblk m c 6 t) (y 0) (y 1) := by
  rw [outsAt0_A m c t ht]
  dsimp only
  generalize iblk m c 0 t = x0, iblk m c 1 t = x1, iblk m c 2 t = x2, iblk m c 3 t = x3, iblk m c 4 t = x4, iblk m c 5 t = x5, iblk m c 6 t = x6
  frame_out
  canon_tiles x h
  all_goals
    open_payloads
    first
      | refine piece flag_iff (grid0.coords t 1) (k0_pay2 x0 x1) x2 x3 x4 x5 x6 y x _ _ _ _ _ _ _ _ _ _ _ _ _ (by decide) (by omega) h0 (by omega) (by omega) (by omega) ?_ (pay5_apply _ _ _) ?_ ?_ ?_ ?_ ?_ ?_ ?_ ?_ ?_
      | refine piece flag_iff (grid0.coords t 1) (k0_pay2 x0 x1) x2 x3 x4 x5 x6 y x 0 _ _ _ _ _ _ _ _ _ _ _ _ (by decide) (by omega) (by omega) (by omega) (by omega) (by omega) ?_ (pay5_apply _ _ _) ?_ ?_ ?_ ?_ ?_ ?_ ?_ ?_ ?_
    · rfl
    · rfl
    · rfl
    · exact fun r k => stored_rows _ _ _ _ _ r k _
    · exact fun r k => ld_rows _ _ _ r k _
    · exact fun r k => ld_rows _ _ _ r k _
    · exact fun r k => ld_rows _ _ _ r k _
    · exact one_eq
    · exact zero_eq
    · exact zero_eq

/-- The rows kept at the first point of a row block. -/
theorem hn_first (c : Dev nD) (t : Fin cfg0.N) (h0 : t.val % 12 = 0) (y : S1024x2048.Idx) :
    (outsAt0 m c t.val t.isLt).2 y = k0_pay2 (iblk m c 0 t) (iblk m c 1 t) y := by
  rw [outsAt0_A m c t h0]
  frame_out

/-- At a later point they are those of the point before. -/
theorem hn_next (c : Dev nD) (t : Fin cfg0.N) (h0 : ¬t.val % 12 = 0) (y : S1024x2048.Idx) :
    (outsAt0 m c t.val t.isLt).2 y
      = (outsAt0 m c (t.val - 1) (lt_of_le_of_lt (Nat.sub_le _ _) t.isLt)).2 y := by
  rw [outsAt0_B m c t h0]
  rfl

end Cert.Kernel3Ideal.Proj

end
-- ==== Proof.ProjRef.lean ====
module

public import proofs.«01_k».proof.Proof.Gen.Reference3Ideal.Read
public import proofs.«01_k».proof.Proof.DiffState
public import Idealize.ShloMosaic.Lib.Pipeline.ValueKit
public import Idealize.ShloMosaic.Lib.Pointwise

@[expose] public section

set_option maxRecDepth 16384

noncomputable section

namespace Cert.Reference3Ideal.Proj

open Cert.Reference3Ideal Cert.Reference3Ideal.Read Idealize.ShloMosaic Idealize.ShloMosaic.TcCoe Idealize.SL.Sem

variable (x0 : FVec Ideal S8192x2048 .f32) (x1 : FVec Ideal S1x2048 .f32) (x2 : FVec Ideal S2048x6144 .f32)

/-- The angle of position `p` in pair `i`. -/
def ang (p : Fin 8192) (i : Fin 16) : EReal :=
  FloatOps.sitofp (F := Ideal) .f32 (BitVec.ofNat 32 p.val) * Ideal.div (Ideal.ofBits .f32 0x3F800000#32) (Ideal.pow (Ideal.ofBits .f32 0x48F42400#32)
    (Ideal.div (Ideal.ofBits .f32 0x00000000#32 + Ideal.ofBits .f32 0x40000000#32 * FloatOps.sitofp (F := Ideal) .f32 (BitVec.ofNat 32 i.val)) (Ideal.ofBits .f32 0x42000000#32)))

theorem ref_cos (p : Fin 8192) (i : Fin 16) : val_main_v17 (F := Ideal) (ix2 p i) = Ideal.cos (ang p i) := by
  pointwise [val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2, val_main_cst_3, ang]

theorem ref_sin (p : Fin 8192) (i : Fin 16) : val_main_v18 (F := Ideal) (ix2 p i) = Ideal.sin (ang p i) := by
  pointwise [val_main_v18, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2, val_main_cst_3, ang]

/-- The normalised rows at an index. -/
theorem ref_hn (r : Fin 8192) (k : Fin 2048) : val_main_v32 (F := Ideal) x0 x1 (ix2 r k)
    = x0 (ix2 r k) * Ideal.rsqrt (Ideal.div (∑ l : Fin 2048, x0 (ix2 r l) * x0 (ix2 r l))
      (Ideal.ofBits .f32 0x45000000#32) + Ideal.ofBits .f32 0x358637BD#32) * x1 (ix2 0 k) := by
  pointwise [val_main_v32, val_main_v31, val_main_v30, val_main_v29, val_main_v28, val_main_v27, val_main_v26,
    val_main_v25, val_main_v24, val_main_v23, val_main_v22, val_main_v21, val_main_v20, val_main_v19, val_main_cst_4,
    val_main_cst_5, val_main_cst_6]

/-- Their product with the weights at an index. -/
theorem ref_a (r : Fin 8192) (j : Fin 6144) : val_main_v33 (F := Ideal) x0 x1 x2 (ix2 r j)
    = ∑ k : Fin 2048, val_main_v32 (F := Ideal) x0 x1 (ix2 r k) * x2 (ix2 k j) := by
  pointwise [val_main_v33]

/-- One entry of the rotary embedding of a row `A` with the angles of position `p`: in the head that starts at column
    `o`, lane `d`. -/
def rot {n : ℕ} (A : Fin n → EReal) (p : Fin 8192) (o : ℕ) (ho : o + 128 ≤ n) (d : Fin 128) : EReal :=
  if h : d.val < 16 then
    A ⟨o + d.val, by omega⟩ * Ideal.cos (ang p ⟨d.val, h⟩) - A ⟨o + (16 + d.val), by omega⟩ * Ideal.sin (ang p ⟨d.val, h⟩)
  else if h' : d.val - 16 < 16 then
    A ⟨o + (16 + (d.val - 16)), by omega⟩ * Ideal.cos (ang p ⟨d.val - 16, h'⟩)
      + A ⟨o + (d.val - 16), by omega⟩ * Ideal.sin (ang p ⟨d.val - 16, h'⟩)
  else A ⟨o + (32 + (d.val - 16 - 16)), by omega⟩

theorem ref_q (r : Fin 8192) (h : Fin 16) (d : Fin 128) : val_main_v51 (F := Ideal) x0 x1 x2 (ix3 r h d)
    = rot (fun j => val_main_v33 (F := Ideal) x0 x1 x2 (ix2 r j)) r (h.val * 128) (by omega) d := by
  unfold rot
  simp only [← ref_cos, ← ref_sin]
  pointwise [val_main_v51, val_main_v50, val_main_v49, val_main_v48, val_main_v47, val_main_v46, val_main_v45, val_main_v44, val_main_v43,
    val_main_v42, val_main_v41, val_main_v40, val_main_v39, val_main_v38, val_main_v37, val_main_v36, val_main_v35, val_main_v34]

theorem ref_k (r : Fin 8192) (h : Fin 16) (d : Fin 128) : val_main_v70 (F := Ideal) x0 x1 x2 (ix3 r h d)
    = rot (fun j => val_main_v33 (F := Ideal) x0 x1 x2 (ix2 r j)) r (2048 + h.val * 128) (by omega) d := by
  unfold rot
  simp only [← ref_cos, ← ref_sin]
  pointwise [val_main_v70, val_main_v69, val_main_v68, val_main_v67, val_main_v66, val_main_v65, val_main_v64, val_main_v63, val_main_v62,
    val_main_v61, val_main_v60, val_main_v59, val_main_v58, val_main_v57, val_main_v56, val_main_v55, val_main_v54, val_main_v53]
  simp only [Nat.add_assoc]

theorem ref_out (r : Fin 8192) (j : Fin 6144) : val_main_v80 (F := Ideal) x0 x1 x2 (ix2 r j)
    = if h : j.val < 2048 then val_main_v51 (F := Ideal) x0 x1 x2 (ix3 r ⟨j.val / 128, by omega⟩ ⟨j.val % 128, by omega⟩) * Cert.KernelIdeal.Diff.cK
      else if h' : j.val - 2048 < 2048 then val_main_v70 (F := Ideal) x0 x1 x2 (ix3 r ⟨(j.val - 2048) / 128, by omega⟩ ⟨(j.val - 2048) % 128, by omega⟩)
      else val_main_v33 (F := Ideal) x0 x1 x2 (ix2 r ⟨4096 + (j.val - 2048 - 2048), by omega⟩) := by
  unfold Cert.KernelIdeal.Diff.cK
  pointwise [val_main_v80, val_main_v79, val_main_v78, val_main_v77, val_main_v76, val_main_v75, val_main_v74, val_main_v73, val_main_v72,
    val_main_v71, val_main_v52, val_main_cst_7, val_main_cst_8, val_main_cst_9]

/-! ## The rotation by tables -/

/-- The cosines' table: both halves of a pair, then ones. -/
def tab1 (p : Fin 8192) (d : Fin 128) : EReal :=
  if h : d.val < 16 then Ideal.cos (ang p ⟨d.val, h⟩)
  else if h' : d.val - 16 < 16 then Ideal.cos (ang p ⟨d.val - 16, h'⟩) else 1

/-- The negated sines' table: the first half, then zeros. -/
def tab2 (p : Fin 8192) (d : Fin 128) : EReal :=
  if h : d.val < 16 then -Ideal.sin (ang p ⟨d.val, h⟩) else 0

/-- The sines' table: zeros, the second half, then zeros. -/
def tab3 (p : Fin 8192) (d : Fin 128) : EReal :=
  if _h : d.val < 16 then 0 else if h' : d.val - 16 < 16 then Ideal.sin (ang p ⟨d.val - 16, h'⟩) else 0

/-- The product, its two rolls and the tables make the rotary embedding, and the scale `k` factors out of it. -/
theorem rot_eq {n : ℕ} (A : Fin n → EReal) (p : Fin 8192) (o : ℕ) (ho : o + 128 ≤ n) (d : Fin 128) (k : EReal) (hk : ∃ x : ℝ, 0 ≤ x ∧ k = x) :
    A ⟨o + d.val, by omega⟩ * k * tab1 p d + A ⟨o + (d.val + 128 - 112) % 128, by omega⟩ * k * tab2 p d
      + A ⟨o + (d.val + 128 - 16) % 128, by omega⟩ * k * tab3 p d = rot A p o ho d * k := by
  obtain ⟨x, hx, rfl⟩ := hk
  have dist : ∀ a b : EReal, (a + b) * (x : EReal) = a * x + b * x := fun a b =>
    EReal.right_distrib_of_nonneg_of_ne_top (EReal.coe_nonneg.mpr hx) (EReal.coe_ne_top x) a b
  unfold rot tab1 tab2 tab3
  by_cases h : d.val < 16
  · have e : (⟨o + (d.val + 128 - 112) % 128, by omega⟩ : Fin n) = ⟨o + (16 + d.val), by omega⟩ := Fin.ext (by show _ + _ = _ + _; omega)
    rw [dif_pos h, dif_pos h, dif_pos h, dif_pos h, e, mul_zero, add_zero, sub_eq_add_neg, dist, mul_neg, neg_mul,
      mul_right_comm, mul_right_comm _ (x : EReal)]
  · by_cases h' : d.val - 16 < 16
    · have e : (⟨o + (d.val + 128 - 16) % 128, by omega⟩ : Fin n) = ⟨o + (d.val - 16), by omega⟩ := Fin.ext (by show _ + _ = _ + _; omega)
      have e' : (⟨o + d.val, by omega⟩ : Fin n) = ⟨o + (16 + (d.val - 16)), by omega⟩ := Fin.ext (by show _ + _ = _ + _; omega)
      rw [dif_neg h, dif_pos h', dif_neg h, dif_neg h, dif_pos h', dif_neg h, dif_pos h', e, e', mul_zero, add_zero, dist,
        mul_right_comm, mul_right_comm _ (x : EReal)]
    · have e : (⟨o + d.val, by omega⟩ : Fin n) = ⟨o + (32 + (d.val - 16 - 16)), by omega⟩ := Fin.ext (by show _ + _ = _ + _; omega)
      rw [dif_neg h, dif_neg h', dif_neg h, dif_neg h, dif_neg h', dif_neg h, dif_neg h', e, mul_zero, mul_zero, add_zero, add_zero, mul_one]

theorem rot_congr {n : ℕ} (A : Fin n → EReal) (p : Fin 8192) {o o' : ℕ} (ho : o + 128 ≤ n) (ho' : o' + 128 ≤ n) {d d' : Fin 128}
    (e : o = o') (e' : d = d') : rot A p o ho d = rot A p o' ho' d' := by
  subst e e'
  rfl

theorem cK_real : ∃ x : ℝ, 0 ≤ x ∧ Cert.KernelIdeal.Diff.cK = x := by
  obtain ⟨x, h, e, -⟩ := Cert.KernelIdeal.Diff.scale
  exact ⟨x, h, e⟩

end Cert.Reference3Ideal.Proj

end
-- ==== Proof.ProjValue.lean ====
module

public import proofs.«01_k».proof.Defs
public import proofs.«01_k».proof.Proof.ProjBody
public import proofs.«01_k».proof.Proof.ProjRef
public import Idealize.ShloMosaic.Lib.Claim
public import Idealize.ShloMosaic.Lib.StableHlo.ReadAt

@[expose] public section

set_option maxRecDepth 16384

noncomputable section

namespace Cert.Kernel3Ideal.Proj

open Cert.Kernel3Ideal Cert.Kernel3Ideal.Gen Idealize.ShloMosaic Idealize.ShloMosaic.TcCoe Idealize.SL.Sem
open Cert.Reference3Ideal.Proj (ang rot tab1 tab2 tab3)
open Cert.KernelIdeal.Diff (cK)

variable (m : (ℓ : Loc nD τ sig) → Buf (Elt Ideal) ℓ)

/-- The arguments. -/
abbrev a0 (c : Dev nD) : FVec Ideal S8192x2048 .f32 := m ((c : Thread nD τ).loc main_arg0)
abbrev a1 (c : Dev nD) : FVec Ideal S1x2048 .f32 := m ((c : Thread nD τ).loc main_arg1)
abbrev a2 (c : Dev nD) : FVec Ideal S2048x6144 .f32 := m ((c : Thread nD τ).loc main_arg2)

/-! ## What the host prepares, at an index -/

/-- The columns' scale. -/
def colScale (j : Fin 6144) : EReal := if j.val < 2048 then cK else 1

theorem host1 (c : Dev nD) (p : Fin 8192) (d : Fin 128) : (V m c main_v33 : FVec Ideal S8192x128 .f32) (ix2 p d) = tab1 p d := by
  unfold tab1 ang
  simp only [V, hostOps0, hostOps0_1, hostOps0_2, List.flatten_cons, List.flatten_nil, List.append_nil, List.cons_append, List.nil_append]
  after_reads_at
  after_reads_at

theorem host2 (c : Dev nD) (p : Fin 8192) (d : Fin 128) : (V m c main_v36 : FVec Ideal S8192x128 .f32) (ix2 p d) = tab2 p d := by
  unfold tab2 ang
  simp only [V, hostOps0, hostOps0_1, hostOps0_2, List.flatten_cons, List.flatten_nil, List.append_nil, List.cons_append, List.nil_append]
  after_reads_at

theorem host3 (c : Dev nD) (p : Fin 8192) (d : Fin 128) : (V m c main_v39 : FVec Ideal S8192x128 .f32) (ix2 p d) = tab3 p d := by
  unfold tab3 ang
  simp only [V, hostOps0, hostOps0_1, hostOps0_2, List.flatten_cons, List.flatten_nil, List.append_nil, List.cons_append, List.nil_append]
  after_reads_at
  after_reads_at

/-- The comparison that picks the scaled columns. -/
theorem colFlag : ∀ j : Fin 6144, IntOp.andi (IntOp.cmpi .sge (BitVec.ofNat 32 j.val) 0#32) (IntOp.cmpi .slt (BitVec.ofNat 32 j.val) 2048#32)
    = if j.val < 2048 then 1#1 else 0#1 := by
  decide +kernel

theorem host_cs (c : Dev nD) (j : Fin 6144) : (V m c main_v12 : FVec Ideal S1x6144 .f32) (ix2 0 j) = colScale j := by
  unfold colScale cK
  simp only [V, hostOps0, hostOps0_1, hostOps0_2, List.flatten_cons, List.flatten_nil, List.append_nil, List.cons_append, List.nil_append]
  after_reads_at
  rw [colFlag]
  split <;> rfl

/-! ## The blocks at an index -/

theorem idx : ∀ t : Fin cfg0.N, win0_0.index t = ![t.val / 12, 0] ∧ win0_1.index t = ![0, 0]
    ∧ win0_2.index t = ![0, t.val % 12] ∧ win0_3.index t = ![0, t.val % 12] ∧ win0_4.index t = ![t.val / 12, 0]
    ∧ win0_5.index t = ![t.val / 12, 0] ∧ win0_6.index t = ![t.val / 12, 0] ∧ win0_7.index t = ![t.val / 12, t.val % 12]
    ∧ (grid0.coords t 1).val = t.val % 12 :=
  (by decide +kernel : ∀ t : Fin grid0.N, _)

/-- The array's row that row `r` of the block at point `n` is. -/
abbrev row (n : ℕ) (hn : n < cfg0.N) (r : Fin 1024) : Fin 8192 :=
  ⟨1024 * (n / 12) + r.val, by have : cfg0.N = 96 := N_0; omega⟩

/-- The array's column that column `j` of the block at point `n` is. -/
abbrev col (n : ℕ) (j : Fin 512) : Fin 6144 := ⟨n % 12 * 512 + j.val, by omega⟩

theorem blk_h (c : Dev nD) (t : Fin cfg0.N) (r : Fin 1024) (k : Fin 2048) :
    (iblk m c 0 t) (ix2 r k) = a0 m c (ix2 (row t.val t.isLt r) k) := by
  blk_ext [iblk, V, idx t]

theorem blk_g (c : Dev nD) (t : Fin cfg0.N) (k : Fin 2048) : (iblk m c 1 t) (ix2 0 k) = a1 m c (ix2 0 k) := by
  blk_ext [iblk, V, idx t]

theorem blk_w (c : Dev nD) (t : Fin cfg0.N) (k : Fin 2048) (j : Fin 512) :
    (iblk m c 2 t) (ix2 k j) = a2 m c (ix2 k (col t.val j)) := by
  blk_ext [iblk, V, idx t]

theorem blk_cs (c : Dev nD) (t : Fin cfg0.N) (j : Fin 512) : (iblk m c 3 t) (ix2 0 j) = colScale (col t.val j) := by
  refine Eq.trans ?_ (host_cs m c _)
  blk_ext [iblk, idx t]

theorem blk_1 (c : Dev nD) (t : Fin cfg0.N) (r : Fin 1024) (d : Fin 128) :
    (iblk m c 4 t) (ix2 r d) = tab1 (row t.val t.isLt r) d := by
  refine Eq.trans ?_ (host1 m c _ _)
  blk_ext [iblk, idx t]

theorem blk_2 (c : Dev nD) (t : Fin cfg0.N) (r : Fin 1024) (d : Fin 128) :
    (iblk m c 5 t) (ix2 r d) = tab2 (row t.val t.isLt r) d := by
  refine Eq.trans ?_ (host2 m c _ _)
  blk_ext [iblk, idx t]

theorem blk_3 (c : Dev nD) (t : Fin cfg0.N) (r : Fin 1024) (d : Fin 128) :
    (iblk m c 6 t) (ix2 r d) = tab3 (row t.val t.isLt r) d := by
  refine Eq.trans ?_ (host3 m c _ _)
  blk_ext [iblk, idx t]

/-- The normalised rows of a block, as stored. -/
theorem pay2_apply (x : FVec Ideal S1024x2048 .f32) (g : FVec Ideal S1x2048 .f32) (r : Fin 1024) (k : Fin 2048) :
    k0_pay2 (F := Ideal) x g (ix2 r k) = x (ix2 r k) * Ideal.rsqrt (Ideal.div (∑ l : Fin 2048, x (ix2 r l) * x (ix2 r l))
      (Ideal.ofBits .f32 0x45000000#32) + Ideal.ofBits .f32 0x358637BD#32) * g (ix2 0 k) := by
  pointwise [k0_pay2]

/-! ## The run -/

open Cert.Reference3Ideal.Read Cert.Reference3Ideal.Proj

/-- After any point the scratch holds the reference's normalised rows of the point's row block. -/
theorem hn_eq (c : Dev nD) : ∀ (n : ℕ) (hn : n < cfg0.N) (r : Fin 1024) (k : Fin 2048),
    (outsAt0 m c n hn).2 (ix2 r k) = val_main_v32 (F := Ideal) (a0 m c) (a1 m c) (ix2 (row n hn r) k) := by
  intro n
  induction n with
  | zero =>
    intro hn r k
    rw [hn_first m c ⟨0, hn⟩ rfl, pay2_apply, ref_hn]
    simp only [blk_h, blk_g]
  | succ n ih =>
    intro hn r k
    by_cases h0 : (n + 1) % 12 = 0
    · rw [hn_first m c ⟨n + 1, hn⟩ h0, pay2_apply, ref_hn]
      simp only [blk_h, blk_g]
    · rw [hn_next m c ⟨n + 1, hn⟩ h0]
      refine (ih (Nat.lt_of_succ_lt hn) r k).trans ?_
      have : row n (Nat.lt_of_succ_lt hn) r = row (n + 1) hn r := by
        apply Fin.ext; show 1024 * (n / 12) + r.val = 1024 * ((n + 1) / 12) + r.val; omega
      rw [this]

/-- The block a point stores, computed from the rows its scratch holds after it. -/
theorem out_eq (c : Dev nD) (t : Fin cfg0.N) (y : S1024x512.Idx) :
    (outsAt0 m c t.val t.isLt).1 y = blkVal 0 32 (grid0.coords t 1).val (outsAt0 m c t.val t.isLt).2 (iblk m c 2 t) (iblk m c 3 t)
      (iblk m c 4 t) (iblk m c 5 t) (iblk m c 6 t) (y 0) (y 1) := by
  by_cases h : t.val % 12 = 0
  · rw [out_first m c t h y]
    have e : (outsAt0 m c t.val t.isLt).2 = k0_pay2 (iblk m c 0 t) (iblk m c 1 t) := funext fun z => hn_first m c t h z
    rw [e]
  · rw [out_next m c t h y]
    have e : (outsAt0 m c t.val t.isLt).2 = (outsAt0 m c (t.val - 1) (lt_of_le_of_lt (Nat.sub_le _ _) t.isLt)).2 :=
      funext fun z => hn_next m c t h z
    rw [e]

/-- The reference's product of the normalised rows and the weights, one row. -/
abbrev A (c : Dev nD) (p : Fin 8192) (j : Fin 6144) : EReal :=
  val_main_v33 (F := Ideal) (a0 m c) (a1 m c) (a2 m c) (ix2 p j)

/-- The scaled product at a point is the reference's product times the column's scale. -/
theorem prod_eq (c : Dev nD) (t : Fin cfg0.N) (r : Fin 1024) (j : Fin 512) :
    prod (outsAt0 m c t.val t.isLt).2 (iblk m c 2 t) (iblk m c 3 t) r j
      = A m c (row t.val t.isLt r) (col t.val j) * colScale (col t.val j) := by
  unfold prod A
  rw [ref_a]
  simp only [hn_eq, blk_w, blk_cs]

/-- The block a point stores is the reference's result there. -/
theorem blkVal_eq (c : Dev nD) (t : Fin cfg0.N) (r : Fin 1024) (j : Fin 512) :
    blkVal 0 32 (grid0.coords t 1).val (outsAt0 m c t.val t.isLt).2 (iblk m c 2 t) (iblk m c 3 t)
      (iblk m c 4 t) (iblk m c 5 t) (iblk m c 6 t) r j
      = val_main_v80 (F := Ideal) (a0 m c) (a1 m c) (a2 m c) (ix2 (row t.val t.isLt r) (col t.val j)) := by
  have hn : (grid0.coords t 1).val = t.val % 12 := (idx t).2.2.2.2.2.2.2.2
  unfold blkVal
  rw [hn, ref_out]
  simp only [prod_eq, blk_1, blk_2, blk_3]
  generalize row t.val t.isLt r = p
  have hj := j.isLt
  have hc : ∀ (s : ℕ) (x : Fin 512), x.val = j.val / 128 * 128 + s →
      ∃ h, col t.val x = ⟨t.val % 12 * 512 + j.val / 128 * 128 + s, h⟩ := fun s x hx =>
    ⟨by have := x.isLt; omega, Fin.ext (by show t.val % 12 * 512 + x.val = t.val % 12 * 512 + j.val / 128 * 128 + s; omega)⟩
  obtain ⟨g0, e0⟩ := hc (j.val % 128) j (by omega)
  obtain ⟨g1, e1⟩ := hc ((j.val % 128 + 128 - 112) % 128) ⟨j.val / 128 * 128 + (j.val % 128 + 128 - 112) % 128, by omega⟩ rfl
  obtain ⟨g2, e2⟩ := hc ((j.val % 128 + 128 - 16) % 128) ⟨j.val / 128 * 128 + (j.val % 128 + 128 - 16) % 128, by omega⟩ rfl
  have ho : t.val % 12 * 512 + j.val / 128 * 128 + 128 ≤ 6144 := by omega
  have hcol : (col t.val j).val = t.val % 12 * 512 + j.val := rfl
  by_cases hq : (col t.val j).val < 2048
  · have hs : ∀ s h, s < 128 → colScale ⟨t.val % 12 * 512 + j.val / 128 * 128 + s, h⟩ = cK := fun s h hs =>
      if_pos (by show t.val % 12 * 512 + j.val / 128 * 128 + s < 2048; omega)
    rw [if_pos (by omega), dif_pos hq, ref_q]
    refine Eq.trans ?_ ((rot_eq (A m c p) p _ ho ⟨j.val % 128, by omega⟩ cK cK_real).trans ?_)
    · rw [e0, e1, e2, hs _ _ (by omega), hs _ _ (by omega), hs _ _ (by omega)]
    · refine congrArg (· * cK) (rot_congr (A m c p) p ho _ ?_ (Fin.ext ?_))
      · show t.val % 12 * 512 + j.val / 128 * 128 = (t.val % 12 * 512 + j.val) / 128 * 128
        omega
      · show j.val % 128 = (t.val % 12 * 512 + j.val) % 128
        omega
  · have hs : ∀ s h, colScale ⟨t.val % 12 * 512 + j.val / 128 * 128 + s, h⟩ = 1 := fun s h =>
      if_neg (by show ¬t.val % 12 * 512 + j.val / 128 * 128 + s < 2048; omega)
    by_cases hk : (col t.val j).val - 2048 < 2048
    · rw [if_pos (by omega), dif_neg hq, dif_pos hk, ref_k]
      refine Eq.trans ?_ ((rot_eq (A m c p) p _ ho ⟨j.val % 128, by omega⟩ 1 ⟨1, zero_le_one, EReal.coe_one.symm⟩).trans ?_)
      · rw [e0, e1, e2, hs, hs, hs]
      · rw [mul_one]
        refine rot_congr (A m c p) p ho _ ?_ (Fin.ext ?_)
        · show t.val % 12 * 512 + j.val / 128 * 128 = 2048 + (t.val % 12 * 512 + j.val - 2048) / 128 * 128
          omega
        · show j.val % 128 = (t.val % 12 * 512 + j.val - 2048) % 128
          omega
    · rw [if_neg (by omega), dif_neg hq, dif_neg hk]
      have e : (⟨4096 + ((col t.val j).val - 2048 - 2048), by have := (col t.val j).isLt; omega⟩ : Fin 6144) = col t.val j :=
        Fin.ext (by show 4096 + ((col t.val j).val - 2048 - 2048) = (col t.val j).val; omega)
      have hone : colScale (col t.val j) = 1 := if_neg hq
      rw [e, hone, mul_one]

/-- After the run the result array holds the reference's result. -/
theorem final (c : Dev nD) : (dats m 0 c).arrAt 7 cfg0.N = val_main_v80 (F := Ideal) (a0 m c) (a1 m c) (a2 m c) := by
  refine (dats m 0 c).arrAt_eq_of_covers 7 _ (by decide +kernel) fun t hf y => ?_
  blk_simp
  rw [after0_7]
  refine (out_eq m c t _).trans ?_
  have hy : ∃ (r : Fin 1024) (j : Fin 512), y = ix2 r j := ⟨y 0, y 1, eq_ix2 y⟩
  obtain ⟨r, j, rfl⟩ := hy
  have e : (((cfg0.win 7).blk t).view.emb (ix2 r j)) = ix2 (row t.val t.isLt r) (col t.val j) := by
    blk_ext [idx t]
  rw [e]
  exact blkVal_eq m c t r j

/-- The kernel's program and the reference's leave the same result, and the arguments as they were. -/
theorem algebraic : Cert.algebraic_Kernel3Ideal_Reference3Ideal := by
  intro m g m' g' _ hagree
  refine ⟨fun c => val_main_v80 (F := Ideal) (a0 m c) (a1 m c) (a2 m c),
    (θ_run defs _ _).mono (fun r h c => ?_) (Value.run_blocks m g),
    (θ_run Cert.Reference3Ideal.defs _ _).mono (fun r h c => ?_) (Cert.Reference3Ideal.Value.run m' g')⟩
  · have hc := h c
    exact ⟨hc.1.trans (final m c), hc.2⟩
  · have hc := h c
    refine ⟨hc.1.trans ?_, hc.2⟩
    rw [Cert.Reference3Ideal.Read.val_main_v80_eq]
    have ha := hagree c
    rw [ha.1, ha.2.1, ha.2.2]

end Cert.Kernel3Ideal.Proj

end
-- ==== Proof.EvenBody.lean ====
module

public import proofs.«01_k».proof.Proof.Gen.Kernel4Ideal.Value
public import proofs.«01_k».proof.Proof.ProjBody
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

namespace Cert.Kernel4Ideal.Proj

open Cert.Kernel4Ideal Cert.Kernel4Ideal.Gen Idealize.ShloMosaic Idealize.ShloMosaic.TcCoe Idealize.SL.Sem
open Cert.Kernel3Ideal.Proj (blkVal piece FlagIff pay5_apply ld_rows stored_rows one_eq zero_eq)

/-- The rotated heads are those from 24 on and below 34. -/
theorem flag_iff : FlagIff 24 34 9 := by
  decide +kernel

variable (m : (ℓ : Loc nD τ sig) → Buf (Elt Ideal) ℓ)

set_option maxHeartbeats 400000 in
/-- At a later point of a row block, the block's value is computed from the rows normalised before. -/
theorem out_next (c : Dev nD) (t : Fin cfg0.N) (ht : ¬t.val % 9 = 0) (y : S1024x512.Idx) :
    (outsAt0 m c t.val t.isLt).1 y = blkVal 24 34 (grid0.coords t 1).val
      (outsAt0 m c (t.val - 1) (Nat.lt_of_le_of_lt (Nat.sub_le _ _) t.isLt)).2 (iblk m c 2 t) (iblk m c 3 t)
      (iblk m c 4 t) (iblk m c 5 t) (iblk m c 6 t) (y 0) (y 1) := by
  rw [outsAt0_B m c t ht]
  generalize (outsAt0 m c (t.val - 1) (Nat.lt_of_le_of_lt (Nat.sub_le _ _) t.isLt)).2 = xs
  dsimp only
  generalize iblk m c 0 t = x0, iblk m c 1 t = x1, iblk m c 2 t = x2, iblk m c 3 t = x3, iblk m c 4 t = x4, iblk m c 5 t = x5, iblk m c 6 t = x6
  frame_out
  simp only [read_unread_whole]
  canon_tiles x h
  all_goals
    open_payloads
    first
      | refine piece flag_iff (grid0.coords t 1) xs x2 x3 x4 x5 x6 y x _ _ _ _ _ _ _ _ _ _ _ _ _ (by decide) (by omega) h0 (by omega) (by omega) (by omega) ?_ (pay5_apply _ _ _) ?_ ?_ ?_ ?_ ?_ ?_ ?_ ?_ ?_
      | refine piece flag_iff (grid0.coords t 1) xs x2 x3 x4 x5 x6 y x 0 _ _ _ _ _ _ _ _ _ _ _ _ (by decide) (by omega) (by omega) (by omega) (by omega) (by omega) ?_ (pay5_apply _ _ _) ?_ ?_ ?_ ?_ ?_ ?_ ?_ ?_ ?_
    · rfl
    · rfl
    · rfl
    · exact fun r k => ld_rows _ _ _ r k _
    · exact fun r k => ld_rows _ _ _ r k _
    · exact fun r k => ld_rows _ _ _ r k _
    · exact fun r k => ld_rows _ _ _ r k _
    · exact one_eq
    · exact zero_eq
    · exact zero_eq

set_option maxHeartbeats 400000 in
/-- At the first point of a row block, it is computed from the rows normalised there. -/
theorem out_first (c : Dev nD) (t : Fin cfg0.N) (ht : t.val % 9 = 0) (y : S1024x512.Idx) :
    (outsAt0 m c t.val t.isLt).1 y = blkVal 24 34 (grid0.coords t 1).val
      (k0_pay2 (iblk m c 0 t) (iblk m c 1 t)) (iblk m c 2 t) (iblk m c 3 t)
      (iblk m c 4 t) (iblk m c 5 t) (iblk m c 6 t) (y 0) (y 1) := by
  rw [outsAt0_A m c t ht]
  dsimp only
  generalize iblk m c 0 t = x0, iblk m c 1 t = x1, iblk m c 2 t = x2, iblk m c 3 t = x3, iblk m c 4 t = x4, iblk m c 5 t = x5, iblk m c 6 t = x6
  frame_out
  canon_tiles x h
  all_goals
    open_payloads
    first
      | refine piece flag_iff (grid0.coords t 1) (k0_pay2 x0 x1) x2 x3 x4 x5 x6 y x _ _ _ _ _ _ _ _ _ _ _ _ _ (by decide) (by omega) h0 (by omega) (by omega) (by omega) ?_ (pay5_apply _ _ _) ?_ ?_ ?_ ?_ ?_ ?_ ?_ ?_ ?_
      | refine piece flag_iff (grid0.coords t 1) (k0_pay2 x0 x1) x2 x3 x4 x5 x6 y x 0 _ _ _ _ _ _ _ _ _ _ _ _ (by decide) (by omega) (by omega) (by omega) (by omega) (by omega) ?_ (pay5_apply _ _ _) ?_ ?_ ?_ ?_ ?_ ?_ ?_ ?_ ?_
    · rfl
    · rfl
    · rfl
    · exact fun r k => stored_rows _ _ _ _ _ r k _
    · exact fun r k => ld_rows _ _ _ r k _
    · exact fun r k => ld_rows _ _ _ r k _
    · exact fun r k => ld_rows _ _ _ r k _
    · exact one_eq
    · exact zero_eq
    · exact zero_eq

/-- The rows kept at the first point of a row block. -/
theorem hn_first (c : Dev nD) (t : Fin cfg0.N) (h0 : t.val % 9 = 0) (y : S1024x2048.Idx) :
    (outsAt0 m c t.val t.isLt).2 y = k0_pay2 (iblk m c 0 t) (iblk m c 1 t) y := by
  rw [outsAt0_A m c t h0]
  frame_out

/-- At a later point they are those of the point before. -/
theorem hn_next (c : Dev nD) (t : Fin cfg0.N) (h0 : ¬t.val % 9 = 0) (y : S1024x2048.Idx) :
    (outsAt0 m c t.val t.isLt).2 y
      = (outsAt0 m c (t.val - 1) (lt_of_le_of_lt (Nat.sub_le _ _) t.isLt)).2 y := by
  rw [outsAt0_B m c t h0]
  rfl

end Cert.Kernel4Ideal.Proj

end
-- ==== Proof.EvenRef.lean ====
module

public import proofs.«01_k».proof.Proof.Gen.Reference4Ideal.Read
public import proofs.«01_k».proof.Proof.ProjRef

@[expose] public section

set_option maxRecDepth 16384

noncomputable section

namespace Cert.Reference4Ideal.Proj

open Cert.Reference4Ideal Cert.Reference4Ideal.Read Idealize.ShloMosaic Idealize.ShloMosaic.TcCoe Idealize.SL.Sem
open Cert.Reference3Ideal.Proj (ang rot)
open Cert.KernelIdeal.Diff (cK)

variable (x0 : FVec Ideal S8192x2048 .f32) (x1 : FVec Ideal S1x2048 .f32) (x2 : FVec Ideal S2048x4608 .f32)

theorem ref_cos (p : Fin 8192) (i : Fin 16) : val_main_v17 (F := Ideal) (ix2 p i) = Ideal.cos (ang p i) :=
  Cert.Reference3Ideal.Proj.ref_cos p i

theorem ref_sin (p : Fin 8192) (i : Fin 16) : val_main_v18 (F := Ideal) (ix2 p i) = Ideal.sin (ang p i) :=
  Cert.Reference3Ideal.Proj.ref_sin p i

/-- The normalised rows at an index. -/
theorem ref_hn (r : Fin 8192) (k : Fin 2048) : val_main_v32 (F := Ideal) x0 x1 (ix2 r k)
    = x0 (ix2 r k) * Ideal.rsqrt (Ideal.div (∑ l : Fin 2048, x0 (ix2 r l) * x0 (ix2 r l))
      (Ideal.ofBits .f32 0x45000000#32) + Ideal.ofBits .f32 0x358637BD#32) * x1 (ix2 0 k) :=
  Cert.Reference3Ideal.Proj.ref_hn x0 x1 r k

/-- Their product with the weights at an index. -/
theorem ref_a (r : Fin 8192) (j : Fin 4608) : val_main_v33 (F := Ideal) x0 x1 x2 (ix2 r j)
    = ∑ k : Fin 2048, val_main_v32 (F := Ideal) x0 x1 (ix2 r k) * x2 (ix2 k j) := by
  pointwise [val_main_v33]

theorem ref_q (r : Fin 8192) (h : Fin 8) (d : Fin 128) : val_main_v59 (F := Ideal) x0 x1 x2 (ix3 r h d)
    = rot (fun j => val_main_v33 (F := Ideal) x0 x1 x2 (ix2 r j)) r (3072 + h.val * 128) (by omega) d := by
  unfold rot
  simp only [← ref_cos, ← ref_sin]
  pointwise [val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42]
  simp only [Nat.add_assoc]

theorem ref_k (r : Fin 8192) (h : Fin 2) (d : Fin 128) : val_main_v80 (F := Ideal) x0 x1 x2 (ix3 r h d)
    = rot (fun j => val_main_v33 (F := Ideal) x0 x1 x2 (ix2 r j)) r (4096 + h.val * 128) (by omega) d := by
  unfold rot
  simp only [← ref_cos, ← ref_sin]
  pointwise [val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63]
  simp only [Nat.add_assoc]

theorem ref_out (r : Fin 8192) (j : Fin 4608) : val_main_v84 (F := Ideal) x0 x1 x2 (ix2 r j)
    = if h : j.val < 1024 then val_main_v33 (F := Ideal) x0 x1 x2 (ix2 r ⟨j.val, by omega⟩) * cK
      else if h1 : j.val - 1024 < 2048 then val_main_v33 (F := Ideal) x0 x1 x2 (ix2 r ⟨1024 + (j.val - 1024), by omega⟩)
      else if h2 : j.val - 1024 - 2048 < 1024 then
        val_main_v59 (F := Ideal) x0 x1 x2 (ix3 r ⟨(j.val - 1024 - 2048) / 128, by omega⟩ ⟨(j.val - 1024 - 2048) % 128, by omega⟩) * cK
      else if h3 : j.val - 1024 - 2048 - 1024 < 256 then
        val_main_v80 (F := Ideal) x0 x1 x2 (ix3 r ⟨(j.val - 1024 - 2048 - 1024) / 128, by omega⟩ ⟨(j.val - 1024 - 2048 - 1024) % 128, by omega⟩)
      else val_main_v33 (F := Ideal) x0 x1 x2 (ix2 r ⟨4352 + (j.val - 1024 - 2048 - 1024 - 256), by omega⟩) := by
  unfold cK
  pointwise [val_main_v84, val_main_v83, val_main_v82, val_main_v81, val_main_v62, val_main_v61, val_main_v60, val_main_v41,
    val_main_v40, val_main_v39, val_main_v38, val_main_v37, val_main_v36, val_main_v35, val_main_v34, val_main_cst_7,
    val_main_cst_8, val_main_cst_9]

end Cert.Reference4Ideal.Proj

end
-- ==== Proof.EvenValue.lean ====
module

public import proofs.«01_k».proof.Defs
public import proofs.«01_k».proof.Proof.EvenBody
public import proofs.«01_k».proof.Proof.EvenRef
public import proofs.«01_k».proof.Proof.ProjValue
public import Idealize.ShloMosaic.Lib.Claim
public import Idealize.ShloMosaic.Lib.StableHlo.ReadAt

@[expose] public section

set_option maxRecDepth 16384

noncomputable section

namespace Cert.Kernel4Ideal.Proj

open Cert.Kernel4Ideal Cert.Kernel4Ideal.Gen Idealize.ShloMosaic Idealize.ShloMosaic.TcCoe Idealize.SL.Sem
open Cert.Reference3Ideal.Proj (ang rot tab1 tab2 tab3 rot_eq rot_congr cK_real)
open Cert.Kernel3Ideal.Proj (blkVal prod)
open Cert.KernelIdeal.Diff (cK)

variable (m : (ℓ : Loc nD τ sig) → Buf (Elt Ideal) ℓ)

/-- The arguments. -/
abbrev a0 (c : Dev nD) : FVec Ideal S8192x2048 .f32 := m ((c : Thread nD τ).loc main_arg0)
abbrev a1 (c : Dev nD) : FVec Ideal S1x2048 .f32 := m ((c : Thread nD τ).loc main_arg1)
abbrev a2 (c : Dev nD) : FVec Ideal S2048x4608 .f32 := m ((c : Thread nD τ).loc main_arg2)

/-! ## What the host prepares, at an index -/

/-- The columns' scale: that of both kinds of queries, 1 elsewhere. -/
def colScale (j : Fin 4608) : EReal := if 3072 ≤ j.val ∧ j.val < 4096 then cK else if j.val < 1024 then cK else 1

theorem host1 (c : Dev nD) (p : Fin 8192) (d : Fin 128) : (V m c main_v43 : FVec Ideal S8192x128 .f32) (ix2 p d) = tab1 p d := by
  unfold tab1 ang
  simp only [V, hostOps0, hostOps0_1, hostOps0_2, hostOps0_3, hostOps0_4, List.flatten_cons, List.flatten_nil, List.append_nil, List.cons_append, List.nil_append]
  after_reads_at
  after_reads_at

theorem host2 (c : Dev nD) (p : Fin 8192) (d : Fin 128) : (V m c main_v46 : FVec Ideal S8192x128 .f32) (ix2 p d) = tab2 p d := by
  unfold tab2 ang
  simp only [V, hostOps0, hostOps0_1, hostOps0_2, hostOps0_3, hostOps0_4, List.flatten_cons, List.flatten_nil, List.append_nil, List.cons_append, List.nil_append]
  after_reads_at

theorem host3 (c : Dev nD) (p : Fin 8192) (d : Fin 128) : (V m c main_v49 : FVec Ideal S8192x128 .f32) (ix2 p d) = tab3 p d := by
  unfold tab3 ang
  simp only [V, hostOps0, hostOps0_1, hostOps0_2, hostOps0_3, hostOps0_4, List.flatten_cons, List.flatten_nil, List.append_nil, List.cons_append, List.nil_append]
  after_reads_at
  after_reads_at

/-- The comparisons that pick the scaled columns. -/
theorem colFlag : ∀ j : Fin 4608, IntOp.andi (IntOp.cmpi .sge (BitVec.ofNat 32 j.val) 0#32) (IntOp.cmpi .slt (BitVec.ofNat 32 j.val) 1024#32)
    = if j.val < 1024 then 1#1 else 0#1 := by
  decide +kernel

theorem colFlag' : ∀ j : Fin 4608, IntOp.andi (IntOp.cmpi .sge (BitVec.ofNat 32 j.val) 3072#32) (IntOp.cmpi .slt (BitVec.ofNat 32 j.val) 4096#32)
    = if 3072 ≤ j.val ∧ j.val < 4096 then 1#1 else 0#1 := by
  decide +kernel

theorem host_cs (c : Dev nD) (j : Fin 4608) : (V m c main_v22 : FVec Ideal S1x4608 .f32) (ix2 0 j) = colScale j := by
  unfold colScale cK
  simp only [V, hostOps0, hostOps0_1, hostOps0_2, hostOps0_3, hostOps0_4, List.flatten_cons, List.flatten_nil, List.append_nil, List.cons_append, List.nil_append]
  after_reads_at
  rw [colFlag, colFlag']
  split
  · rfl
  · split <;> rfl

/-! ## The blocks at an index -/

theorem idx : ∀ t : Fin cfg0.N, win0_0.index t = ![t.val / 9, 0] ∧ win0_1.index t = ![0, 0]
    ∧ win0_2.index t = ![0, t.val % 9] ∧ win0_3.index t = ![0, t.val % 9] ∧ win0_4.index t = ![t.val / 9, 0]
    ∧ win0_5.index t = ![t.val / 9, 0] ∧ win0_6.index t = ![t.val / 9, 0] ∧ win0_7.index t = ![t.val / 9, t.val % 9]
    ∧ (grid0.coords t 1).val = t.val % 9 :=
  (by decide +kernel : ∀ t : Fin grid0.N, _)

/-- The array's row that row `r` of the block at point `n` is. -/
abbrev row (n : ℕ) (hn : n < cfg0.N) (r : Fin 1024) : Fin 8192 :=
  ⟨1024 * (n / 9) + r.val, by have : cfg0.N = 72 := N_0; omega⟩

/-- The array's column that column `j` of the block at point `n` is. -/
abbrev col (n : ℕ) (j : Fin 512) : Fin 4608 := ⟨n % 9 * 512 + j.val, by omega⟩

theorem blk_h (c : Dev nD) (t : Fin cfg0.N) (r : Fin 1024) (k : Fin 2048) :
    (iblk m c 0 t) (ix2 r k) = a0 m c (ix2 (row t.val t.isLt r) k) := by
  blk_ext [iblk, V, idx t]

theorem blk_g (c : Dev nD) (t : Fin cfg0.N) (k : Fin 2048) : (iblk m c 1 t) (ix2 0 k) = a1 m c (ix2 0 k) := by
  blk_ext [iblk, V, idx t]

theorem blk_w (c : Dev nD) (t : Fin cfg0.N) (k : Fin 2048) (j : Fin 512) :
    (iblk m c 2 t) (ix2 k j) = a2 m c (ix2 k (col t.val j)) := by
  blk_ext [iblk, V, idx t]

theorem blk_cs (c : Dev nD) (t : Fin cfg0.N) (j : Fin 512) : (iblk m c 3 t) (ix2 0 j) = colScale (col t.val j) := by
  refine Eq.trans ?_ (host_cs m c _)
  blk_ext [iblk, idx t]

theorem blk_1 (c : Dev nD) (t : Fin cfg0.N) (r : Fin 1024) (d : Fin 128) :
    (iblk m c 4 t) (ix2 r d) = tab1 (row t.val t.isLt r) d := by
  refine Eq.trans ?_ (host1 m c _ _)
  blk_ext [iblk, idx t]

theorem blk_2 (c : Dev nD) (t : Fin cfg0.N) (r : Fin 1024) (d : Fin 128) :
    (iblk m c 5 t) (ix2 r d) = tab2 (row t.val t.isLt r) d := by
  refine Eq.trans ?_ (host2 m c _ _)
  blk_ext [iblk, idx t]

theorem blk_3 (c : Dev nD) (t : Fin cfg0.N) (r : Fin 1024) (d : Fin 128) :
    (iblk m c 6 t) (ix2 r d) = tab3 (row t.val t.isLt r) d := by
  refine Eq.trans ?_ (host3 m c _ _)
  blk_ext [iblk, idx t]

/-- The normalised rows of a block, as stored. -/
theorem pay2_apply (x : FVec Ideal S1024x2048 .f32) (g : FVec Ideal S1x2048 .f32) (r : Fin 1024) (k : Fin 2048) :
    k0_pay2 (F := Ideal) x g (ix2 r k) = x (ix2 r k) * Ideal.rsqrt (Ideal.div (∑ l : Fin 2048, x (ix2 r l) * x (ix2 r l))
      (Ideal.ofBits .f32 0x45000000#32) + Ideal.ofBits .f32 0x358637BD#32) * g (ix2 0 k) :=
  Cert.Kernel3Ideal.Proj.pay2_apply x g r k

/-! ## The run -/

open Cert.Reference4Ideal.Read Cert.Reference4Ideal.Proj

/-- After any point the scratch holds the reference's normalised rows of the point's row block. -/
theorem hn_eq (c : Dev nD) : ∀ (n : ℕ) (hn : n < cfg0.N) (r : Fin 1024) (k : Fin 2048),
    (outsAt0 m c n hn).2 (ix2 r k) = val_main_v32 (F := Ideal) (a0 m c) (a1 m c) (ix2 (row n hn r) k) := by
  intro n
  induction n with
  | zero =>
    intro hn r k
    rw [hn_first m c ⟨0, hn⟩ rfl, pay2_apply, ref_hn]
    simp only [blk_h, blk_g]
  | succ n ih =>
    intro hn r k
    by_cases h0 : (n + 1) % 9 = 0
    · rw [hn_first m c ⟨n + 1, hn⟩ h0, pay2_apply, ref_hn]
      simp only [blk_h, blk_g]
    · rw [hn_next m c ⟨n + 1, hn⟩ h0]
      refine (ih (Nat.lt_of_succ_lt hn) r k).trans ?_
      have : row n (Nat.lt_of_succ_lt hn) r = row (n + 1) hn r := by
        apply Fin.ext; show 1024 * (n / 9) + r.val = 1024 * ((n + 1) / 9) + r.val; omega
      rw [this]

/-- The block a point stores, computed from the rows its scratch holds after it. -/
theorem out_eq (c : Dev nD) (t : Fin cfg0.N) (y : S1024x512.Idx) :
    (outsAt0 m c t.val t.isLt).1 y = blkVal 24 34 (grid0.coords t 1).val (outsAt0 m c t.val t.isLt).2 (iblk m c 2 t) (iblk m c 3 t)
      (iblk m c 4 t) (iblk m c 5 t) (iblk m c 6 t) (y 0) (y 1) := by
  by_cases h : t.val % 9 = 0
  · rw [out_first m c t h y]
    have e : (outsAt0 m c t.val t.isLt).2 = k0_pay2 (iblk m c 0 t) (iblk m c 1 t) := funext fun z => hn_first m c t h z
    rw [e]
  · rw [out_next m c t h y]
    have e : (outsAt0 m c t.val t.isLt).2 = (outsAt0 m c (t.val - 1) (lt_of_le_of_lt (Nat.sub_le _ _) t.isLt)).2 :=
      funext fun z => hn_next m c t h z
    rw [e]

/-- The reference's product of the normalised rows and the weights, one row. -/
abbrev A (c : Dev nD) (p : Fin 8192) (j : Fin 4608) : EReal :=
  val_main_v33 (F := Ideal) (a0 m c) (a1 m c) (a2 m c) (ix2 p j)

/-- The scaled product at a point is the reference's product times the column's scale. -/
theorem prod_eq (c : Dev nD) (t : Fin cfg0.N) (r : Fin 1024) (j : Fin 512) :
    prod (outsAt0 m c t.val t.isLt).2 (iblk m c 2 t) (iblk m c 3 t) r j
      = A m c (row t.val t.isLt r) (col t.val j) * colScale (col t.val j) := by
  unfold prod A
  rw [ref_a]
  simp only [hn_eq, blk_w, blk_cs]

/-- The block a point stores is the reference's result there. -/
theorem blkVal_eq (c : Dev nD) (t : Fin cfg0.N) (r : Fin 1024) (j : Fin 512) :
    blkVal 24 34 (grid0.coords t 1).val (outsAt0 m c t.val t.isLt).2 (iblk m c 2 t) (iblk m c 3 t)
      (iblk m c 4 t) (iblk m c 5 t) (iblk m c 6 t) r j
      = val_main_v84 (F := Ideal) (a0 m c) (a1 m c) (a2 m c) (ix2 (row t.val t.isLt r) (col t.val j)) := by
  have hn : (grid0.coords t 1).val = t.val % 9 := (idx t).2.2.2.2.2.2.2.2
  unfold blkVal
  rw [hn, ref_out]
  simp only [prod_eq, blk_1, blk_2, blk_3]
  generalize row t.val t.isLt r = p
  have hj := j.isLt
  have hc : ∀ (s : ℕ) (x : Fin 512), x.val = j.val / 128 * 128 + s →
      ∃ h, col t.val x = ⟨t.val % 9 * 512 + j.val / 128 * 128 + s, h⟩ := fun s x hx =>
    ⟨by have := x.isLt; omega, Fin.ext (by show t.val % 9 * 512 + x.val = t.val % 9 * 512 + j.val / 128 * 128 + s; omega)⟩
  obtain ⟨g0, e0⟩ := hc (j.val % 128) j (by omega)
  obtain ⟨g1, e1⟩ := hc ((j.val % 128 + 128 - 112) % 128) ⟨j.val / 128 * 128 + (j.val % 128 + 128 - 112) % 128, by omega⟩ rfl
  obtain ⟨g2, e2⟩ := hc ((j.val % 128 + 128 - 16) % 128) ⟨j.val / 128 * 128 + (j.val % 128 + 128 - 16) % 128, by omega⟩ rfl
  have ho : t.val % 9 * 512 + j.val / 128 * 128 + 128 ≤ 4608 := by omega
  have hcol : (col t.val j).val = t.val % 9 * 512 + j.val := rfl
  have hs : ∀ s h, colScale ⟨t.val % 9 * 512 + j.val / 128 * 128 + s, h⟩
      = if 3072 ≤ t.val % 9 * 512 + j.val / 128 * 128 + s ∧ t.val % 9 * 512 + j.val / 128 * 128 + s < 4096 then cK
        else if t.val % 9 * 512 + j.val / 128 * 128 + s < 1024 then cK else 1 := fun _ _ => rfl
  have hcs : colScale (col t.val j) = if 3072 ≤ (col t.val j).val ∧ (col t.val j).val < 4096 then cK
      else if (col t.val j).val < 1024 then cK else 1 := rfl
  by_cases h1 : (col t.val j).val < 1024
  · rw [if_neg (by omega), dif_pos h1, hcs, if_neg (by omega), if_pos h1]
  by_cases h2 : (col t.val j).val - 1024 < 2048
  · have e : (⟨1024 + ((col t.val j).val - 1024), by have := (col t.val j).isLt; omega⟩ : Fin 4608) = col t.val j :=
      Fin.ext (by show 1024 + ((col t.val j).val - 1024) = (col t.val j).val; omega)
    rw [if_neg (by omega), dif_neg h1, dif_pos h2, e, hcs, if_neg (by omega), if_neg h1, mul_one]
  by_cases h3 : (col t.val j).val - 1024 - 2048 < 1024
  · rw [if_pos (by omega), dif_neg h1, dif_neg h2, dif_pos h3, ref_q]
    refine Eq.trans ?_ ((rot_eq (A m c p) p _ ho ⟨j.val % 128, by omega⟩ cK cK_real).trans ?_)
    · rw [e0, e1, e2, hs, hs, hs, if_pos (by omega), if_pos (by omega), if_pos (by omega)]
    · refine congrArg (· * cK) (rot_congr (A m c p) p ho _ ?_ (Fin.ext ?_))
      · show t.val % 9 * 512 + j.val / 128 * 128 = 3072 + (t.val % 9 * 512 + j.val - 1024 - 2048) / 128 * 128
        omega
      · show j.val % 128 = (t.val % 9 * 512 + j.val - 1024 - 2048) % 128
        omega
  by_cases h4 : (col t.val j).val - 1024 - 2048 - 1024 < 256
  · rw [if_pos (by omega), dif_neg h1, dif_neg h2, dif_neg h3, dif_pos h4, ref_k]
    refine Eq.trans ?_ ((rot_eq (A m c p) p _ ho ⟨j.val % 128, by omega⟩ 1 ⟨1, zero_le_one, EReal.coe_one.symm⟩).trans ?_)
    · rw [e0, e1, e2, hs, hs, hs, if_neg (by omega), if_neg (by omega), if_neg (by omega), if_neg (by omega), if_neg (by omega), if_neg (by omega)]
    · rw [mul_one]
      refine rot_congr (A m c p) p ho _ ?_ (Fin.ext ?_)
      · show t.val % 9 * 512 + j.val / 128 * 128 = 4096 + (t.val % 9 * 512 + j.val - 1024 - 2048 - 1024) / 128 * 128
        omega
      · show j.val % 128 = (t.val % 9 * 512 + j.val - 1024 - 2048 - 1024) % 128
        omega
  · have e : (⟨4352 + ((col t.val j).val - 1024 - 2048 - 1024 - 256), by have := (col t.val j).isLt; omega⟩ : Fin 4608) = col t.val j :=
      Fin.ext (by show 4352 + ((col t.val j).val - 1024 - 2048 - 1024 - 256) = (col t.val j).val; omega)
    rw [if_neg (by omega), dif_neg h1, dif_neg h2, dif_neg h3, dif_neg h4, e, hcs, if_neg (by omega), if_neg h1, mul_one]

/-- After the run the result array holds the reference's result. -/
theorem final (c : Dev nD) : (dats m 0 c).arrAt 7 cfg0.N = val_main_v84 (F := Ideal) (a0 m c) (a1 m c) (a2 m c) := by
  refine (dats m 0 c).arrAt_eq_of_covers 7 _ (by decide +kernel) fun t hf y => ?_
  blk_simp
  rw [after0_7]
  refine (out_eq m c t _).trans ?_
  have hy : ∃ (r : Fin 1024) (j : Fin 512), y = ix2 r j := ⟨y 0, y 1, eq_ix2 y⟩
  obtain ⟨r, j, rfl⟩ := hy
  have e : (((cfg0.win 7).blk t).view.emb (ix2 r j)) = ix2 (row t.val t.isLt r) (col t.val j) := by
    blk_ext [idx t]
  rw [e]
  exact blkVal_eq m c t r j

/-- The kernel's program and the reference's leave the same result, and the arguments as they were. -/
theorem algebraic : Cert.algebraic_Kernel4Ideal_Reference4Ideal := by
  intro m g m' g' _ hagree
  refine ⟨fun c => val_main_v84 (F := Ideal) (a0 m c) (a1 m c) (a2 m c),
    (θ_run defs _ _).mono (fun r h c => ?_) (Value.run_blocks m g),
    (θ_run Cert.Reference4Ideal.defs _ _).mono (fun r h c => ?_) (Cert.Reference4Ideal.Value.run m' g')⟩
  · have hc := h c
    exact ⟨hc.1.trans (final m c), hc.2⟩
  · have hc := h c
    refine ⟨hc.1.trans ?_, hc.2⟩
    rw [Cert.Reference4Ideal.Read.val_main_v84_eq]
    have ha := hagree c
    rw [ha.1, ha.2.1, ha.2.2]

end Cert.Kernel4Ideal.Proj

end
-- ==== Proof.PostMath.lean ====
module

public import proofs.«01_k».proof.Proof.DiffMath

@[expose] public section

noncomputable section

namespace Cert.KernelIdeal.Diff

open Idealize.ShloMosaic

/-! ## Real elements -/

/-- An element is a real number. -/
def Fin1 (x : EReal) : Prop := ∃ r : ℝ, x = (r : EReal)

theorem Fin1.mul {x y : EReal} (hx : Fin1 x) (hy : Fin1 y) : Fin1 (x * y) := by
  obtain ⟨a, rfl⟩ := hx
  obtain ⟨b, rfl⟩ := hy
  exact ⟨a * b, (EReal.coe_mul a b).symm⟩

theorem Fin1.sum {ι : Type} (S : Finset ι) (f : ι → EReal) (h : ∀ i, Fin1 (f i)) : Fin1 (∑ i ∈ S, f i) := by
  choose g hg using h
  exact ⟨∑ i ∈ S, g i, by rw [coe_sum]; exact Finset.sum_congr rfl fun i _ => hg i⟩

/-- A normalised row is real, whatever the row holds: a row with an infinite element normalises to zeros there and
    everywhere else. -/
theorem norm_real {n : ℕ} (o : Fin n → EReal) {d e : ℝ} (hd : 0 < d) (he : 0 < e) (k : Fin n) : Fin1 (o k * norm o d e) := by
  by_cases h : ∀ l, Fin1 (o l)
  · obtain ⟨s, hs⟩ := Fin1.sum Finset.univ (fun l => o l * o l) fun l => (h l).mul (h l)
    have hs0 : 0 ≤ s := by
      choose g hg using h
      have : ((∑ l, g l * g l : ℝ) : EReal) = (s : EReal) := by
        rw [← hs, coe_sum]; exact Finset.sum_congr rfl fun l _ => by rw [hg l, EReal.coe_mul]
      rw [← EReal.coe_eq_coe_iff.mp this]
      exact Finset.sum_nonneg fun l _ => mul_self_nonneg _
    refine (h k).mul ?_
    unfold norm
    rw [hs, div_real hd.ne', ← EReal.coe_add, Ideal.rsqrt_coe]
    have hp : 0 < s / d + e := by positivity
    rw [if_neg (not_lt.mpr hp.le), if_neg hp.ne']
    exact ⟨_, rfl⟩
  · obtain ⟨l, hl⟩ := not_forall.mp h
    have hpos : ∀ l, 0 ≤ o l * o l := fun l => by
      generalize o l = x
      induction x with
      | bot => simp
      | top => simp
      | coe r => rw [← EReal.coe_mul]; exact_mod_cast mul_self_nonneg r
    have hl' : o l * o l = ⊤ := by
      revert hl
      generalize o l = x
      induction x with
      | bot => intro _; simp
      | top => intro _; simp
      | coe r => intro hl; exact absurd ⟨r, rfl⟩ hl
    have hs : ∑ l, o l * o l = ⊤ := top_le_iff.mp (hl' ▸ Finset.single_le_sum (fun l _ => hpos l) (Finset.mem_univ l))
    unfold norm
    rw [hs, Ideal.div_coe hd.ne', EReal.top_mul_coe_of_pos (by positivity), EReal.top_add_coe]
    exact ⟨0, by show o k * 0 = _; rw [mul_zero, EReal.coe_zero]⟩

/-- The factor that normalises a row of 2048 elements. -/
def nf (o : Fin 2048 → EReal) : EReal :=
  Ideal.rsqrt (Ideal.div (∑ l : Fin 2048, o l * o l) (Ideal.ofBits .f32 0x45000000#32) + Ideal.ofBits .f32 0x358637BD#32)

/-! ## Weighted means under finite scores -/

/-- A positive real factor moves into a sum of any terms. -/
theorem real_mul_sum {ι : Type} (S : Finset ι) {r : ℝ} (hr : 0 ≤ r) (f : ι → EReal) : (r : EReal) * ∑ i ∈ S, f i = ∑ i ∈ S, (r : EReal) * f i := by
  classical
  induction S using Finset.induction_on with
  | empty => simp
  | insert a S ha ih =>
    rw [Finset.sum_insert ha, Finset.sum_insert ha, EReal.left_distrib_of_nonneg_of_ne_top (by exact_mod_cast hr) (EReal.coe_ne_top r), ih]

/-- The greatest of finitely many elements, where one of them is known to be greatest. -/
theorem fold_max_eq {n : ℕ} (f : Fin n → EReal) (k : Fin n) (h : ∀ i, f i ≤ f k) :
    (Finset.univ : Finset (Fin n)).fold max ⊥ f = f k :=
  le_antisymm (Finset.sup_le fun i _ => h i) (Finset.le_sup (f := f) (Finset.mem_univ k))

/-- Dividing the weighted sum by the sum of the weights is weighing by the quotients, when the scores are finite: the
    kernel's powers of two under scores `a`, the reference's exponentials under the scores `a log 2`. -/
theorem mean_eq {n : ℕ} [NeZero n] (a : Fin n → ℝ) (v : Fin n → EReal) (s s' : Fin n → EReal) (hs : ∀ i, s i = (a i : EReal))
    (hs' : ∀ i, s' i = ((Real.log 2 * a i : ℝ) : EReal)) (b : EReal) (hb : b = ⊥) :
    Ideal.div (∑ i, Ideal.exp2 (s i - (Finset.univ : Finset (Fin n)).fold max b s) * v i)
        (∑ i, Ideal.exp2 (s i - (Finset.univ : Finset (Fin n)).fold max b s))
      = ∑ i, v i * Ideal.div (Ideal.exp (s' i - max b ((Finset.univ : Finset (Fin n)).fold max b s')))
          (∑ i, Ideal.exp (s' i - max b ((Finset.univ : Finset (Fin n)).fold max b s'))) := by
  subst hb
  have hL : (0 : ℝ) < Real.log 2 := Real.log_pos (by norm_num)
  obtain ⟨k, hk⟩ := Finite.exists_max a
  rw [fold_max_eq s k fun i => by rw [hs, hs]; exact_mod_cast hk i,
    fold_max_eq s' k fun i => by rw [hs', hs']; exact_mod_cast mul_le_mul_of_nonneg_left (hk i) hL.le, max_eq_right bot_le]
  have hw : ∀ i, Ideal.exp2 (s i - s k) = (((2 : ℝ) ^ (a i - a k) : ℝ) : EReal) := fun i => by
    rw [hs, hs, ← EReal.coe_sub, Ideal.exp2_coe]; rfl
  have hw' : ∀ i, Ideal.exp (s' i - s' k) = (((2 : ℝ) ^ (a i - a k) : ℝ) : EReal) := fun i => by
    rw [← hw, hs, hs, ← exp_sub, hs', hs', EReal.coe_mul, EReal.coe_mul]
  simp only [hw, hw']
  rw [← coe_sum]
  have hp : 0 < ∑ i, (2 : ℝ) ^ (a i - a k) :=
    Finset.sum_pos (fun i _ => Real.rpow_pos_of_pos (by norm_num) _) Finset.univ_nonempty
  rw [Ideal.div_coe hp.ne', mul_comm, real_mul_sum _ (by positivity)]
  refine Finset.sum_congr rfl fun i _ => ?_
  rw [Ideal.div_coe hp.ne', mul_comm _ (v i), ← mul_assoc, mul_comm _ (v i), mul_assoc, mul_comm (((1 : ℝ) / _ : ℝ) : EReal)]

end Cert.KernelIdeal.Diff

end
-- ==== Proof.PostBody.lean ====
module

public import proofs.«01_k».proof.Proof.Gen.Kernel5Ideal.Value
public import proofs.«01_k».proof.Proof.PostMath
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

namespace Cert.Kernel5Ideal.Post

open Cert.Kernel5Ideal Cert.Kernel5Ideal.Gen Idealize.ShloMosaic Idealize.ShloMosaic.TcCoe Idealize.SL.Sem
open Cert.KernelIdeal.Diff (nf)

/-! ## The stages of the body, at an index -/

/-- The output projection of a block of rows. -/
def proj (y : FVec Ideal S512x2048 .bf16) (w : FVec Ideal S2048x2048 .bf16) (r : Fin 512) (k : Fin 2048) : EReal :=
  ∑ l : Fin 2048, y (ix2 r l) * w (ix2 l k)

/-- The rows after the layer's mixing. -/
theorem pay2_apply (y : FVec Ideal S512x2048 .bf16) (w : FVec Ideal S2048x2048 .bf16) (h : FVec Ideal S512x2048 .f32)
    (g : FVec Ideal S1x2048 .f32) (r : Fin 512) (k : Fin 2048) : k0_pay2 (F := Ideal) y w h g (ix2 r k)
      = h (ix2 r k) + proj y w r k * nf (proj y w r) * g (ix2 0 k) := by
  pointwise [k0_pay2, proj, nf]

/-- The queries. -/
theorem pay3_apply (y : FVec Ideal S512x2048 .bf16) (w : FVec Ideal S2048x2048 .bf16) (h : FVec Ideal S512x2048 .f32)
    (g g' : FVec Ideal S1x2048 .f32) (wq : FVec Ideal S2048x512 .bf16) (r : Fin 512) (j : Fin 512) :
    k0_pay3 (F := Ideal) y w h g g' wq (ix2 r j)
      = ∑ k : Fin 2048, k0_pay2 (F := Ideal) y w h g (ix2 r k) * nf (fun l => k0_pay2 (F := Ideal) y w h g (ix2 r l))
          * g' (ix2 0 k) * wq (ix2 k j) := by
  unfold k0_pay3
  generalize k0_pay2 (F := Ideal) y w h g = x
  pointwise [nf]

/-- One head of the memory attention: the queries' columns from `o` on against the keys, each row's powers of two under
    its greatest score, the values under them over their sum. -/
def head (o : ℕ) (q : FVec Ideal S512x512 .bf16) (kk vv : FVec Ideal S256x128 .bf16) (hs : S512x512.Slices ![0, o] S512x128) :
    FVec Ideal S512x128 .bf16 :=
  have s : FVec Ideal S512x256 .f32 := matmul dot_S512x128_S256x128_S512x256_1_1_0_0_n_n none (extractStridedSlice S512x128 ![0, o] q hs)
    (shapeCast S256x128 kk shapeCasts_S256x128_S256x128) (constant S512x256 .f32 0x00000000#32)
  have e : FVec Ideal S512x256 .f32 := exp2 (subf s (broadcastTo S512x256 (shapeCast S512x1
    (multiReduction .maximumf [1] S512 s 0xFF800000#32 reduces_S512x256_S512 (.inl rfl) rfl) shapeCasts_S512_S512x1) broadcasts_S512x1_S512x256))
  truncf .bf16 (divf (matmul dot_S512x256_S256x128_S512x128_1_0_0_1_n_n none (truncf .bf16 e bitsLt_bf16_f32 : FVec Ideal S512x256 .bf16)
      (shapeCast S256x128 vv shapeCasts_S256x128_S256x128) (constant S512x128 .f32 0x00000000#32))
    (broadcastTo S512x128 (shapeCast S512x1 (multiReduction .add [1] S512 e 0x00000000#32 reduces_S512x256_S512 (.inl rfl) rfl)
      shapeCasts_S512_S512x1) broadcasts_S512x1_S512x128)) bitsLt_bf16_f32

/-- A score of that head. -/
def score (o : ℕ) (ho : o ≤ 384) (q : FVec Ideal S512x512 .bf16) (kk : FVec Ideal S256x128 .bf16) (r : Fin 512) (i : Fin 256) : EReal :=
  ∑ d : Fin 128, q (ix2 r ⟨o + d.val, by omega⟩) * kk (ix2 i d)

/-- A power of two under the greatest score. -/
def pow (o : ℕ) (ho : o ≤ 384) (q : FVec Ideal S512x512 .bf16) (kk : FVec Ideal S256x128 .bf16) (r : Fin 512) (i : Fin 256) : EReal :=
  Ideal.exp2 (score o ho q kk r i - (Finset.univ : Finset (Fin 256)).fold max (Ideal.ofBits .f32 0xFF800000#32) (score o ho q kk r))

theorem head_apply (o : ℕ) (ho : o ≤ 384) (q : FVec Ideal S512x512 .bf16) (kk vv : FVec Ideal S256x128 .bf16)
    (hs : S512x512.Slices ![0, o] S512x128) (r : Fin 512) (e : Fin 128) : head o q kk vv hs (ix2 r e)
      = Ideal.div (∑ i : Fin 256, pow o ho q kk r i * vv (ix2 i e)) (∑ i : Fin 256, pow o ho q kk r i) := by
  pointwise [head, pow, score]
  rfl

/-- The four heads side by side. -/
def heads (c0 c1 c2 c3 : FVec Ideal S512x128 .bf16) : FVec Ideal S512x512 .bf16 :=
  concatenate S512x512 1 [⟨S512x128, c0⟩, ⟨S512x128, c1⟩, ⟨S512x128, c2⟩, ⟨S512x128, c3⟩]
    concatenates_S512x128_S512x128_S512x128_S512x128_S512x512_d1

theorem pay6_eq (a b : FVec Ideal S512x512 .f32) (kk vv : FVec Ideal S256x128 .bf16) :
    k0_pay6 (F := Ideal) a b kk vv = head 0 (k0_pay5 a b) kk vv slices_S512x512_o0_0_S512x128 := rfl
theorem pay7_eq (a b : FVec Ideal S512x512 .f32) (kk vv : FVec Ideal S256x128 .bf16) :
    k0_pay7 (F := Ideal) a b kk vv = head 128 (k0_pay5 a b) kk vv slices_S512x512_o0_128_S512x128 := rfl

/-- The memory attention's output projection. -/
theorem pay9_apply (q : FVec Ideal S512x512 .bf16) (c0 c1 : FVec Ideal S512x128 .bf16) (k2 v2 k3 v3 : FVec Ideal S256x128 .bf16)
    (wo : FVec Ideal S512x2048 .bf16) (r : Fin 512) (k : Fin 2048) : k0_pay9 (F := Ideal) q c0 c1 (k0_pay8 k2) v2 k3 v3 wo (ix2 r k)
      = ∑ j : Fin 512, heads c0 c1 (head 256 q k2 v2 slices_S512x512_o0_256_S512x128) (head 384 q k3 v3 slices_S512x512_o0_384_S512x128)
          (ix2 r j) * wo (ix2 j k) := by
  have e : k0_pay9 (F := Ideal) q c0 c1 (k0_pay8 k2) v2 k3 v3 wo
      = matmul dot_S512x512_S512x2048_S512x2048_1_0_0_1_n_n none
        (heads c0 c1 (head 256 q k2 v2 slices_S512x512_o0_256_S512x128) (head 384 q k3 v3 slices_S512x512_o0_384_S512x128))
        (shapeCast S512x2048 wo shapeCasts_S512x2048_S512x2048) (constant S512x2048 .f32 0x00000000#32) := rfl
  rw [e]
  generalize heads c0 c1 _ _ = x
  pointwise

/-- The scaled queries. -/
theorem pay5_apply (a : FVec Ideal S512x512 .f32) (r j : Fin 512) : k0_pay5 (F := Ideal) a k0_pay4 (ix2 r j)
    = a (ix2 r j) * (((Real.sqrt 128 * Real.log 2)⁻¹ : ℝ) : EReal) := by
  have e : Named.named (F := Ideal) κ "qk_scale" (φ := .f32) 0x3E0293EE#32 = (((Real.sqrt 128 * Real.log 2)⁻¹ : ℝ) : EReal) :=
    IdealRules.named_const.ideal_named_scalar _ _ _ _ rfl
  rw [← e]
  pointwise [k0_pay5, k0_pay4]

/-- The result block. -/
theorem pay1_apply (x a : FVec Ideal S512x2048 .f32) (g : FVec Ideal S1x2048 .f32) (n : FVec Ideal S512x1 .f32) (r : Fin 512) (k : Fin 2048) :
    k0_pay1 (F := Ideal) x a g n (ix2 r k) = x (ix2 r k) + a (ix2 r k) * Ideal.rsqrt (Ideal.div (n (ix2 r 0))
      (Ideal.ofBits .f32 0x45000000#32) + Ideal.ofBits .f32 0x358637BD#32) * g (ix2 0 k) := by
  pointwise [k0_pay1]

/-- The row sums of squares. -/
theorem pay10_apply (q : FVec Ideal S512x512 .bf16) (c0 c1 : FVec Ideal S512x128 .bf16) (k2 v2 k3 v3 : FVec Ideal S256x128 .bf16)
    (wo : FVec Ideal S512x2048 .bf16) (r : Fin 512) : k0_pay10 (F := Ideal) q c0 c1 k2 v2 k3 v3 wo (ix2 r 0)
      = ∑ l : Fin 2048, k0_pay9 (F := Ideal) q c0 c1 k2 v2 k3 v3 wo (ix2 r l) * k0_pay9 (F := Ideal) q c0 c1 k2 v2 k3 v3 wo (ix2 r l) := by
  unfold k0_pay10
  generalize k0_pay9 (F := Ideal) q c0 c1 k2 v2 k3 v3 wo = x
  pointwise

/-- The heads side by side at an index: column `h * 128 + e` is head `h`'s column `e`. -/
theorem heads_apply (c : Fin 4 → FVec Ideal S512x128 .bf16) (r : Fin 512) (h : Fin 4) (e : Fin 128) :
    heads (c 0) (c 1) (c 2) (c 3) (ix2 r ⟨h.val * 128 + e.val, by omega⟩) = c h (ix2 r e) := by
  fin_cases h
  · pointwise [heads]
  · pointwise [heads]
  · pointwise [heads]
    rw [dif_neg (by omega), dif_neg (by omega), dif_pos (by omega)]
    exact congrArg (fun x => c 2 (ix2 r x)) (Fin.ext (by show 256 + e.val - 128 - 128 = e.val; omega))
  · pointwise [heads]
    rw [dif_neg (by omega), dif_neg (by omega), dif_neg (by omega)]
    exact congrArg (fun x => c 3 (ix2 r x)) (Fin.ext (by show 384 + e.val - 128 - 128 - 128 = e.val; omega))

end Cert.Kernel5Ideal.Post

end
-- ==== Proof.PostRef.lean ====
module

public import proofs.«01_k».proof.Proof.Gen.Reference5Ideal.Read
public import proofs.«01_k».proof.Proof.PostMath
public import Idealize.ShloMosaic.Lib.Pipeline.ValueKit
public import Idealize.ShloMosaic.Lib.Pointwise

@[expose] public section

set_option maxRecDepth 16384

noncomputable section

namespace Cert.Reference5Ideal.Post

open Cert.Reference5Ideal Cert.Reference5Ideal.Gen Cert.Reference5Ideal.Read Idealize.ShloMosaic Idealize.ShloMosaic.TcCoe Idealize.SL.Sem

open Cert.KernelIdeal.Diff (nf)

variable (x0 x1 : FVec Ideal S8192x2048 .f32) (x2 x3 : FVec Ideal S1x2048 .f32) (x4 : FVec Ideal S2048x2048 .f32)
  (x5 : FVec Ideal S2048x512 .f32) (x6 : FVec Ideal S256x1024 .f32) (x7 : FVec Ideal S512x2048 .f32) (x8 : FVec Ideal S1x2048 .f32)

/-- The output projection. -/
theorem y_apply (p : Fin 8192) (k : Fin 2048) : val_main_v0 (F := Ideal) x0 x4 (ix2 p k)
    = ∑ l : Fin 2048, x0 (ix2 p l) * x4 (ix2 l k) := by
  pointwise [val_main_v0]

/-- The rows after the layer's mixing. -/
theorem h_apply (p : Fin 8192) (k : Fin 2048) : val_main_v15 (F := Ideal) x0 x1 x2 x4 (ix2 p k)
    = x1 (ix2 p k) + val_main_v0 (F := Ideal) x0 x4 (ix2 p k) * nf (fun l => val_main_v0 (F := Ideal) x0 x4 (ix2 p l)) * x2 (ix2 0 k) := by
  pointwise [val_main_v15, val_main_v14, val_main_v13, val_main_v12, val_main_v11, val_main_v10, val_main_v9, val_main_v8,
    val_main_v7, val_main_v6, val_main_v5, val_main_v4, val_main_v3, val_main_v2, val_main_v1, val_main_cst, val_main_cst_0,
    val_main_cst_1, nf]

/-- The queries. -/
theorem q_apply (p : Fin 8192) (j : Fin 512) : val_main_v30 (F := Ideal) x0 x1 x2 x3 x4 x5 (ix2 p j)
    = ∑ k : Fin 2048, val_main_v15 (F := Ideal) x0 x1 x2 x4 (ix2 p k)
        * nf (fun l => val_main_v15 (F := Ideal) x0 x1 x2 x4 (ix2 p l)) * x3 (ix2 0 k) * x5 (ix2 k j) := by
  unfold val_main_v30 val_main_v29 val_main_v26 val_main_v25 val_main_v24 val_main_v23 val_main_v21 val_main_v19 val_main_v18 val_main_v17
  generalize val_main_v15 (F := Ideal) x0 x1 x2 x4 = x
  pointwise [val_main_v28, val_main_v27, val_main_v22, val_main_v20, val_main_v16, val_main_cst_2, val_main_cst_3, val_main_cst_4, nf]

/-- The queries, head by head. -/
theorem qh_apply (p : Fin 8192) (h : Fin 4) (d : Fin 128) : val_main_v31 (F := Ideal) x0 x1 x2 x3 x4 x5 (ix3 p h d)
    = val_main_v30 (F := Ideal) x0 x1 x2 x3 x4 x5 (ix2 p ⟨h.val * 128 + d.val, by omega⟩) := by
  unfold val_main_v31
  generalize val_main_v30 (F := Ideal) x0 x1 x2 x3 x4 x5 = q
  pointwise

/-- The keys, head by head. -/
theorem kh_apply (i : Fin 256) (h : Fin 4) (d : Fin 128) : val_main_v33 (F := Ideal) x6 (ix3 i h d)
    = x6 (ix2 i ⟨h.val * 128 + d.val, by omega⟩) := by
  pointwise [val_main_v33, val_main_v32]

/-- The scores. -/
theorem s_apply (h : Fin 4) (p : Fin 8192) (i : Fin 256) : val_main_v40 (F := Ideal) x0 x1 x2 x3 x4 x5 x6 (ix3 h p i)
    = (∑ d : Fin 128, val_main_v30 (F := Ideal) x0 x1 x2 x3 x4 x5 (ix2 p ⟨h.val * 128 + d.val, by omega⟩)
        * x6 (ix2 i ⟨h.val * 128 + d.val, by omega⟩))
      * Ideal.div (Ideal.ofBits .f32 0x3F800000#32) (Ideal.sqrt (Ideal.ofBits .f32 0x43000000#32)) := by
  simp only [← qh_apply, ← kh_apply]
  unfold val_main_v40 val_main_v36
  generalize val_main_v31 (F := Ideal) x0 x1 x2 x3 x4 x5 = q
  generalize val_main_v33 (F := Ideal) x6 = k
  pointwise [val_main_v39, val_main_v38, val_main_v37, val_main_cst_5, val_main_cst_6]

/-- Each query's greatest score. -/
theorem t_apply (h : Fin 4) (p : Fin 8192) : val_main_v41 (F := Ideal) x0 x1 x2 x3 x4 x5 x6 (ix2 h p)
    = (Finset.univ : Finset (Fin 256)).fold max (Ideal.ofBits .f32 0xFF800000#32)
        fun i => val_main_v40 (F := Ideal) x0 x1 x2 x3 x4 x5 x6 (ix3 h p i) := by
  unfold val_main_v41 val_main_cst_7
  generalize val_main_v40 (F := Ideal) x0 x1 x2 x3 x4 x5 x6 = s
  pointwise

/-- The same, no less than minus infinity. -/
theorem m_apply (h : Fin 4) (p : Fin 8192) : val_main_v43 (F := Ideal) x0 x1 x2 x3 x4 x5 x6 (ix2 h p)
    = max (Ideal.ofBits .f32 0xFF800000#32) (val_main_v41 (F := Ideal) x0 x1 x2 x3 x4 x5 x6 (ix2 h p)) := by
  rw [val_main_v43_apply, val_main_v42_apply, val_main_cst_8_apply]
  generalize val_main_v41 (F := Ideal) x0 x1 x2 x3 x4 x5 x6 (ix2 h p) = s
  rw [Ideal.maximumf_def, Ideal.ofBits_def]

/-- The exponentials. -/
theorem e_apply (h : Fin 4) (p : Fin 8192) (i : Fin 256) : val_main_v47 (F := Ideal) x0 x1 x2 x3 x4 x5 x6 (ix3 h p i)
    = Ideal.exp (val_main_v40 (F := Ideal) x0 x1 x2 x3 x4 x5 x6 (ix3 h p i)
      - max (Ideal.ofBits .f32 0xFF800000#32) ((Finset.univ : Finset (Fin 256)).fold max (Ideal.ofBits .f32 0xFF800000#32)
          fun i => val_main_v40 (F := Ideal) x0 x1 x2 x3 x4 x5 x6 (ix3 h p i))) := by
  rw [← t_apply, ← m_apply]
  unfold val_main_v47 val_main_v46 val_main_v45 val_main_v44
  generalize val_main_v40 (F := Ideal) x0 x1 x2 x3 x4 x5 x6 = s
  generalize val_main_v43 (F := Ideal) x0 x1 x2 x3 x4 x5 x6 = mx
  pointwise

/-- The memory's values under the weights. -/
theorem o_apply (p : Fin 8192) (h : Fin 4) (e : Fin 128) :
    val_main_v54 (F := Ideal) x0 x1 x2 x3 x4 x5 x6 (ix2 p ⟨h.val * 128 + e.val, by omega⟩)
    = ∑ i : Fin 256, x6 (ix2 i ⟨512 + (h.val * 128 + e.val), by omega⟩)
        * Ideal.div (val_main_v47 (F := Ideal) x0 x1 x2 x3 x4 x5 x6 (ix3 h p i))
          (∑ i : Fin 256, val_main_v47 (F := Ideal) x0 x1 x2 x3 x4 x5 x6 (ix3 h p i)) := by
  unfold val_main_v54 val_main_v53 val_main_v52 val_main_v51 val_main_v50 val_main_v49 val_main_v48
  generalize val_main_v47 (F := Ideal) x0 x1 x2 x3 x4 x5 x6 = s
  pointwise [val_main_v35, val_main_v34, val_main_cst_9]

/-- Its output projection. -/
theorem c_apply (p : Fin 8192) (k : Fin 2048) : val_main_v55 (F := Ideal) x0 x1 x2 x3 x4 x5 x6 x7 (ix2 p k)
    = ∑ j : Fin 512, val_main_v54 (F := Ideal) x0 x1 x2 x3 x4 x5 x6 (ix2 p j) * x7 (ix2 j k) := by
  unfold val_main_v55
  generalize val_main_v54 (F := Ideal) x0 x1 x2 x3 x4 x5 x6 = s
  pointwise

/-- The result. -/
theorem out_apply (p : Fin 8192) (k : Fin 2048) : val_main_v70 (F := Ideal) x0 x1 x2 x3 x4 x5 x6 x7 x8 (ix2 p k)
    = val_main_v15 (F := Ideal) x0 x1 x2 x4 (ix2 p k) + val_main_v55 (F := Ideal) x0 x1 x2 x3 x4 x5 x6 x7 (ix2 p k)
        * nf (fun l => val_main_v55 (F := Ideal) x0 x1 x2 x3 x4 x5 x6 x7 (ix2 p l)) * x8 (ix2 0 k) := by
  unfold val_main_v70 val_main_v69 val_main_v66 val_main_v65 val_main_v64 val_main_v63 val_main_v61 val_main_v59 val_main_v58 val_main_v57
  generalize val_main_v55 (F := Ideal) x0 x1 x2 x3 x4 x5 x6 x7 = a
  generalize val_main_v15 (F := Ideal) x0 x1 x2 x4 = x
  pointwise [val_main_v68, val_main_v67, val_main_v62, val_main_v60, val_main_v56, val_main_cst_10, val_main_cst_11, val_main_cst_12, nf]

end Cert.Reference5Ideal.Post

end
-- ==== Proof.PostBlock.lean ====
module

public import proofs.«01_k».proof.Proof.PostBody
public import proofs.«01_k».proof.Proof.PostRef
public import proofs.«01_k».proof.Proof.DiffState

@[expose] public section

set_option maxRecDepth 16384

noncomputable section

namespace Cert.Kernel5Ideal.Post

open Cert.Kernel5Ideal Cert.Kernel5Ideal.Gen Idealize.ShloMosaic Idealize.ShloMosaic.TcCoe Idealize.SL.Sem
open Cert.Reference5Ideal.Read Cert.Reference5Ideal.Post
open Cert.KernelIdeal.Diff (nf Fin1 norm_real mean_eq coe_sum div_real bits_bot bits_128 bits_eps)

/-! ## Constants -/

theorem bits_2048 : Ideal.ofBits .f32 0x45000000#32 = ((2048 : ℝ) : EReal) := by
  simp [Ideal.ofBits, Ideal.ieee, ← EReal.coe_mul]
  norm_num

theorem eps_pos : ∃ e : ℝ, 0 < e ∧ Ideal.ofBits .f32 0x358637BD#32 = (e : EReal) := by
  obtain ⟨e, he⟩ := bits_eps
  refine ⟨e, ?_, he⟩
  rw [← EReal.coe_pos, ← he]
  simp [Ideal.ofBits, Ideal.ieee, ← EReal.coe_mul]

theorem rsqrt_128 : Ideal.div (Ideal.ofBits .f32 0x3F800000#32) (Ideal.sqrt (Ideal.ofBits .f32 0x43000000#32))
    = ((1 / Real.sqrt 128 : ℝ) : EReal) := by
  have hs : (0 : ℝ) < Real.sqrt 128 := Real.sqrt_pos.mpr (by norm_num)
  rw [bits_128, Ideal.sqrt_coe, if_neg (by norm_num : ¬(128 : ℝ) < 0), Ideal.ofBits_one_f32, ← EReal.coe_one, div_real hs.ne']

/-- A row's normalised elements are real. -/
theorem nf_real (o : Fin 2048 → EReal) (k : Fin 2048) : Fin1 (o k * nf o) := by
  obtain ⟨e, he, h⟩ := eps_pos
  have := norm_real o (d := 2048) (e := e) (by norm_num) he k
  unfold Cert.KernelIdeal.Diff.norm at this
  unfold nf
  rwa [bits_2048, h]

/-- A load of 128 columns, at an index. -/
theorem ld_cols (X : Vec Ideal S256x1024 .bf16) (o : ℕ) (inb : ∀ a, ![0, o] a + S256x128.size a ≤ S256x1024.size a) (i : Fin 256)
    (d : Fin 128) (j : Fin 1024) (h : j.val = o + d.val) : View.ld X (Rect.unit (s := S256x1024) ![0, o] S256x128.size inb) (ix2 i d)
      = X (ix2 i j) := by
  refine View.ld_unit_apply_of (S := S256x1024) X ![0, o] S256x128.size inb (ix2 i d) _ fun a => ?_
  fin_cases a
  · exact (Nat.zero_add _).symm
  · exact h

variable (x0 x1 : FVec Ideal S8192x2048 .f32) (x2 x3 : FVec Ideal S1x2048 .f32) (x4 : FVec Ideal S2048x2048 .f32)
  (x5 : FVec Ideal S2048x512 .f32) (x6 : FVec Ideal S256x1024 .f32) (x7 : FVec Ideal S512x2048 .f32) (x8 : FVec Ideal S1x2048 .f32)

/-! ## Under the precondition -/

/-- The queries are real when the scale vector and the projection are: the rows they are taken from are normalised. -/
theorem q_real (hg : ∀ k : Fin 2048, Fin1 (x3 (ix2 0 k))) (hw : ∀ (k : Fin 2048) (j : Fin 512), Fin1 (x5 (ix2 k j))) (p : Fin 8192) (j : Fin 512) :
    Fin1 (val_main_v30 (F := Ideal) x0 x1 x2 x3 x4 x5 (ix2 p j)) := by
  rw [q_apply]
  exact Fin1.sum _ _ fun k => ((nf_real (fun l => val_main_v15 (F := Ideal) x0 x1 x2 x4 (ix2 p l)) k).mul (hg k)).mul (hw k j)

/-- A head of the kernel is the reference's. -/
theorem head_val (p : Fin 8192) (r : Fin 512) (q : FVec Ideal S512x512 .bf16)
    (hq : ∀ j, q (ix2 r j) = val_main_v30 (F := Ideal) x0 x1 x2 x3 x4 x5 (ix2 p j) * (((Real.sqrt 128 * Real.log 2)⁻¹ : ℝ) : EReal))
    (hQ : ∀ j, Fin1 (val_main_v30 (F := Ideal) x0 x1 x2 x3 x4 x5 (ix2 p j)))
    (hK : ∀ (i : Fin 256) (j : Fin 512), Fin1 (x6 (ix2 i ⟨j.val, by omega⟩))) (h : Fin 4) (o : ℕ) (ho : o = h.val * 128)
    (kk vv : FVec Ideal S256x128 .bf16) (hk : ∀ (i : Fin 256) (d : Fin 128), kk (ix2 i d) = x6 (ix2 i ⟨h.val * 128 + d.val, by omega⟩))
    (hv : ∀ (i : Fin 256) (d : Fin 128), vv (ix2 i d) = x6 (ix2 i ⟨512 + (h.val * 128 + d.val), by omega⟩))
    (hs : S512x512.Slices ![0, o] S512x128) (e : Fin 128) : head o q kk vv hs (ix2 r e)
      = val_main_v54 (F := Ideal) x0 x1 x2 x3 x4 x5 x6 (ix2 p ⟨h.val * 128 + e.val, by omega⟩) := by
  subst ho
  have hs0 : (0 : ℝ) < Real.sqrt 128 := Real.sqrt_pos.mpr (by norm_num)
  have hL : (0 : ℝ) < Real.log 2 := Real.log_pos (by norm_num)
  rw [head_apply _ (by omega), o_apply]
  choose a ha using hQ
  choose b hb using hK
  have hb' : ∀ (i : Fin 256) (d : Fin 128), x6 (ix2 i ⟨h.val * 128 + d.val, by omega⟩) = (b i ⟨h.val * 128 + d.val, by omega⟩ : EReal) :=
    fun i d => hb i ⟨h.val * 128 + d.val, by omega⟩
  have hsc : ∀ i, score (h.val * 128) (by omega) q kk r i
      = ((∑ d : Fin 128, a ⟨h.val * 128 + d.val, by omega⟩ * (Real.sqrt 128 * Real.log 2)⁻¹ * b i ⟨h.val * 128 + d.val, by omega⟩ : ℝ) : EReal) := fun i => by
    unfold score
    rw [coe_sum]
    exact Finset.sum_congr rfl fun d _ => by rw [hq, hk, ha, hb', EReal.coe_mul, EReal.coe_mul]
  have hsc' : ∀ i, val_main_v40 (F := Ideal) x0 x1 x2 x3 x4 x5 x6 (ix3 h p i)
      = ((Real.log 2 * ∑ d : Fin 128, a ⟨h.val * 128 + d.val, by omega⟩ * (Real.sqrt 128 * Real.log 2)⁻¹ * b i ⟨h.val * 128 + d.val, by omega⟩ : ℝ) : EReal) := fun i => by
    rw [s_apply, rsqrt_128]
    simp only [ha, hb', ← EReal.coe_mul]
    rw [← coe_sum, ← EReal.coe_mul, Finset.sum_mul, Finset.mul_sum]
    congr 1
    refine Finset.sum_congr rfl fun d _ => ?_
    field_simp
  simp only [e_apply, hv]
  unfold pow
  exact mean_eq _ (fun i => x6 (ix2 i ⟨512 + (h.val * 128 + e.val), by omega⟩)) (score (h.val * 128) (by omega) q kk r)
    (fun i => val_main_v40 (F := Ideal) x0 x1 x2 x3 x4 x5 x6 (ix3 h p i)) hsc hsc' _ bits_bot

/-- The four heads side by side are the reference's, when the keys' and values' block holds the reference's. -/
theorem cat_val (p : Fin 8192) (r : Fin 512) (q : FVec Ideal S512x512 .bf16)
    (hq : ∀ j, q (ix2 r j) = val_main_v30 (F := Ideal) x0 x1 x2 x3 x4 x5 (ix2 p j) * (((Real.sqrt 128 * Real.log 2)⁻¹ : ℝ) : EReal))
    (hg : ∀ k : Fin 2048, Fin1 (x3 (ix2 0 k))) (hw : ∀ (k : Fin 2048) (j : Fin 512), Fin1 (x5 (ix2 k j)))
    (hK : ∀ (i : Fin 256) (j : Fin 512), Fin1 (x6 (ix2 i ⟨j.val, by omega⟩))) (b6 : Vec Ideal S256x1024 .bf16)
    (h6 : ∀ k l, b6 (ix2 k l) = x6 (ix2 k l)) (j : Fin 512) :
    heads (head 0 q (View.ld b6 r0_4) (View.ld b6 r0_5) slices_S512x512_o0_0_S512x128)
      (head 128 q (View.ld b6 r0_6) (View.ld b6 r0_7) slices_S512x512_o0_128_S512x128)
      (head 256 q (View.ld b6 r0_8) (View.ld b6 r0_9) slices_S512x512_o0_256_S512x128)
      (head 384 q (View.ld b6 r0_10) (View.ld b6 r0_11) slices_S512x512_o0_384_S512x128) (ix2 r j)
      = val_main_v54 (F := Ideal) x0 x1 x2 x3 x4 x5 x6 (ix2 p j) := by
  have hd := fun (h : Fin 4) (o : ℕ) (ho : o = h.val * 128) => head_val x0 x1 x2 x3 x4 x5 x6 p r q hq (q_real x0 x1 x2 x3 x4 x5 hg hw p) hK h o ho
  obtain ⟨h, e, rfl⟩ : ∃ (h : Fin 4) (e : Fin 128), j = ⟨h.val * 128 + e.val, by omega⟩ :=
    ⟨⟨j.val / 128, by omega⟩, ⟨j.val % 128, by omega⟩, Fin.ext (by show j.val = j.val / 128 * 128 + j.val % 128; omega)⟩
  refine (heads_apply ![_, _, _, _] r h e).trans ?_
  fin_cases h
  · exact hd 0 0 rfl _ _ (fun i d => (ld_cols b6 0 _ i d _ (by show 0 * 128 + d.val = 0 + d.val; omega)).trans (h6 _ _)) (fun i d => (ld_cols b6 512 _ i d _ (by show 512 + (0 * 128 + d.val) = 512 + d.val; omega)).trans (h6 _ _)) _ e
  · exact hd 1 128 rfl _ _ (fun i d => (ld_cols b6 128 _ i d _ (by show 1 * 128 + d.val = 128 + d.val; omega)).trans (h6 _ _)) (fun i d => (ld_cols b6 640 _ i d _ (by show 512 + (1 * 128 + d.val) = 640 + d.val; omega)).trans (h6 _ _)) _ e
  · exact hd 2 256 rfl _ _ (fun i d => (ld_cols b6 256 _ i d _ (by show 2 * 128 + d.val = 256 + d.val; omega)).trans (h6 _ _)) (fun i d => (ld_cols b6 768 _ i d _ (by show 512 + (2 * 128 + d.val) = 768 + d.val; omega)).trans (h6 _ _)) _ e
  · exact hd 3 384 rfl _ _ (fun i d => (ld_cols b6 384 _ i d _ (by show 3 * 128 + d.val = 384 + d.val; omega)).trans (h6 _ _)) (fun i d => (ld_cols b6 896 _ i d _ (by show 512 + (3 * 128 + d.val) = 896 + d.val; omega)).trans (h6 _ _)) _ e

/-! ## The block -/

/-- What a point leaves in the result's block, from the operands' blocks. -/
theorem out_eq (b0 : Vec Ideal S512x2048 .bf16) (b1 : Vec Ideal S2048x2048 .bf16) (b2 : Vec Ideal S512x2048 .f32) (b3 b4 : Vec Ideal S1x2048 .f32)
    (b5 : Vec Ideal S2048x512 .bf16) (b6 : Vec Ideal S256x1024 .bf16) (b7 : Vec Ideal S512x2048 .bf16) (b8 : Vec Ideal S1x2048 .f32) :
    out0_9 (F := Ideal) b0 b1 b2 b3 b4 b5 b6 b7 b8 =
      have q := k0_pay5 (k0_pay3 b0 b1 b2 b3 b4 b5) k0_pay4
      have c0 := head 0 q (View.ld b6 r0_4) (View.ld b6 r0_5) slices_S512x512_o0_0_S512x128
      have c1 := head 128 q (View.ld b6 r0_6) (View.ld b6 r0_7) slices_S512x512_o0_128_S512x128
      k0_pay1 (k0_pay2 b0 b1 b2 b3) (k0_pay9 q c0 c1 (k0_pay8 (View.ld b6 r0_8)) (View.ld b6 r0_9) (View.ld b6 r0_10) (View.ld b6 r0_11) b7) b8
        (k0_pay10 q c0 c1 (k0_pay8 (View.ld b6 r0_8)) (View.ld b6 r0_9) (View.ld b6 r0_10) (View.ld b6 r0_11) b7) := by
  have z : ∀ a : Fin 2, (![0, 0] : Fin 2 → ℕ) a = 0 := by decide
  unfold_out out0_9
  rw [View.canon_cons_unit_lit _ _ _ z]
  rw [show View.ld b0 r0_0 = b0 from View.ld_unit_lit _ _ z, show View.ld b1 r0_1 = b1 from View.ld_unit_lit _ _ z,
    show View.ld b2 r0_0 = b2 from View.ld_unit_lit _ _ z, show View.ld b3 r0_2 = b3 from View.ld_unit_lit _ _ z,
    show View.ld b4 r0_2 = b4 from View.ld_unit_lit _ _ z, show View.ld b5 r0_3 = b5 from View.ld_unit_lit _ _ z,
    show View.ld b7 r0_0 = b7 from View.ld_unit_lit _ _ z, show View.ld b8 r0_2 = b8 from View.ld_unit_lit _ _ z, pay6_eq, pay7_eq]

/-- A row of that block is the reference's row, when the operands' blocks hold the reference's operands. -/
theorem out_val (p : Fin 8192) (r : Fin 512) (b0 : Vec Ideal S512x2048 .bf16) (b1 : Vec Ideal S2048x2048 .bf16) (b2 : Vec Ideal S512x2048 .f32)
    (b3 b4 : Vec Ideal S1x2048 .f32) (b5 : Vec Ideal S2048x512 .bf16) (b6 : Vec Ideal S256x1024 .bf16) (b7 : Vec Ideal S512x2048 .bf16)
    (b8 : Vec Ideal S1x2048 .f32) (h0 : ∀ k, b0 (ix2 r k) = x0 (ix2 p k)) (h1 : ∀ k l, b1 (ix2 k l) = x4 (ix2 k l))
    (h2 : ∀ k, b2 (ix2 r k) = x1 (ix2 p k)) (h3 : ∀ k, b3 (ix2 0 k) = x2 (ix2 0 k)) (h4 : ∀ k, b4 (ix2 0 k) = x3 (ix2 0 k))
    (h5 : ∀ k l, b5 (ix2 k l) = x5 (ix2 k l)) (h6 : ∀ k l, b6 (ix2 k l) = x6 (ix2 k l)) (h7 : ∀ k l, b7 (ix2 k l) = x7 (ix2 k l))
    (h8 : ∀ k, b8 (ix2 0 k) = x8 (ix2 0 k)) (hg : ∀ k : Fin 2048, Fin1 (x3 (ix2 0 k))) (hw : ∀ (k : Fin 2048) (j : Fin 512), Fin1 (x5 (ix2 k j)))
    (hK : ∀ (i : Fin 256) (j : Fin 512), Fin1 (x6 (ix2 i ⟨j.val, by omega⟩))) (k : Fin 2048) :
    out0_9 (F := Ideal) b0 b1 b2 b3 b4 b5 b6 b7 b8 (ix2 r k) = val_main_v70 (F := Ideal) x0 x1 x2 x3 x4 x5 x6 x7 x8 (ix2 p k) := by
  have e1 : proj b0 b1 r = fun l => val_main_v0 (F := Ideal) x0 x4 (ix2 p l) := funext fun l => by
    unfold proj
    rw [y_apply]
    exact Finset.sum_congr rfl fun i _ => by rw [h0, h1]
  have e2 : ∀ k, k0_pay2 (F := Ideal) b0 b1 b2 b3 (ix2 r k) = val_main_v15 (F := Ideal) x0 x1 x2 x4 (ix2 p k) := fun k => by
    rw [pay2_apply, h_apply, e1, h2, h3]
  have e3 : ∀ j, k0_pay3 (F := Ideal) b0 b1 b2 b3 b4 b5 (ix2 r j) = val_main_v30 (F := Ideal) x0 x1 x2 x3 x4 x5 (ix2 p j) := fun j => by
    rw [pay3_apply, q_apply]
    simp only [e2, h4, h5]
  have e5 : ∀ j, k0_pay5 (F := Ideal) (k0_pay3 b0 b1 b2 b3 b4 b5) k0_pay4 (ix2 r j)
      = val_main_v30 (F := Ideal) x0 x1 x2 x3 x4 x5 (ix2 p j) * (((Real.sqrt 128 * Real.log 2)⁻¹ : ℝ) : EReal) := fun j => by
    rw [pay5_apply, e3]
  rw [out_eq]
  generalize k0_pay5 (F := Ideal) (k0_pay3 b0 b1 b2 b3 b4 b5) k0_pay4 = q at e5 ⊢
  dsimp only
  have e9 : ∀ k, k0_pay9 (F := Ideal) q (head 0 q (View.ld b6 r0_4) (View.ld b6 r0_5) slices_S512x512_o0_0_S512x128)
      (head 128 q (View.ld b6 r0_6) (View.ld b6 r0_7) slices_S512x512_o0_128_S512x128) (k0_pay8 (View.ld b6 r0_8)) (View.ld b6 r0_9)
      (View.ld b6 r0_10) (View.ld b6 r0_11) b7 (ix2 r k) = val_main_v55 (F := Ideal) x0 x1 x2 x3 x4 x5 x6 x7 (ix2 p k) := fun k => by
    rw [pay9_apply, c_apply]
    exact Finset.sum_congr rfl fun j _ => by rw [h7, cat_val x0 x1 x2 x3 x4 x5 x6 p r q e5 hg hw hK b6 h6]
  rw [pay1_apply, pay10_apply, out_apply]
  unfold nf
  simp only [e2, e9, h8]

end Cert.Kernel5Ideal.Post

end
-- ==== Proof.PostValue.lean ====
module

public import proofs.«01_k».proof.Defs
public import proofs.«01_k».proof.Proof.PostBlock
public import proofs.«01_k».proof.Proof.DiffValue
public import Idealize.ShloMosaic.Lib.Claim
public import Idealize.ShloMosaic.Lib.StableHlo.ReadAt

@[expose] public section

set_option maxRecDepth 16384

noncomputable section

namespace Cert.Kernel5Ideal.Post

open Cert.Kernel5Ideal Cert.Kernel5Ideal.Gen Idealize.ShloMosaic Idealize.ShloMosaic.TcCoe Idealize.SL.Sem
open Cert.Reference5Ideal.Read
open Cert.KernelIdeal.Diff (Fin1 real_of_lt)

variable (m : (ℓ : Loc nD τ sig) → Buf (Elt Ideal) ℓ)

/-- The arguments. -/
abbrev a0 (c : Dev nD) : FVec Ideal S8192x2048 .f32 := m ((c : Thread nD τ).loc main_arg0)
abbrev a1 (c : Dev nD) : FVec Ideal S8192x2048 .f32 := m ((c : Thread nD τ).loc main_arg1)
abbrev a2 (c : Dev nD) : FVec Ideal S1x2048 .f32 := m ((c : Thread nD τ).loc main_arg2)
abbrev a3 (c : Dev nD) : FVec Ideal S1x2048 .f32 := m ((c : Thread nD τ).loc main_arg3)
abbrev a4 (c : Dev nD) : FVec Ideal S2048x2048 .f32 := m ((c : Thread nD τ).loc main_arg4)
abbrev a5 (c : Dev nD) : FVec Ideal S2048x512 .f32 := m ((c : Thread nD τ).loc main_arg5)
abbrev a6 (c : Dev nD) : FVec Ideal S256x1024 .f32 := m ((c : Thread nD τ).loc main_arg6)
abbrev a7 (c : Dev nD) : FVec Ideal S512x2048 .f32 := m ((c : Thread nD τ).loc main_arg7)
abbrev a8 (c : Dev nD) : FVec Ideal S1x2048 .f32 := m ((c : Thread nD τ).loc main_arg8)

/-! ## The blocks at an index -/

/-- Where each operand's block lies at a point: the rows go with the point, everything else is whole. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

/-- The array's row that row `r` of the block at point `n` is. -/
abbrev row (n : ℕ) (hn : n < cfg0.N) (r : Fin 512) : Fin 8192 :=
  ⟨512 * n + r.val, by have : cfg0.N = 16 := N_0; omega⟩

theorem blk0 (c : Dev nD) (t : Fin cfg0.N) (r : Fin 512) (k : Fin 2048) : (iblk m c 0 t) (ix2 r k) = a0 m c (ix2 (row t.val t.isLt r) k) := by
  blk_ext [iblk, V, idx t]
theorem blk1 (c : Dev nD) (t : Fin cfg0.N) (k l : Fin 2048) : (iblk m c 1 t) (ix2 k l) = a4 m c (ix2 k l) := by
  blk_ext [iblk, V, idx t]
theorem blk2 (c : Dev nD) (t : Fin cfg0.N) (r : Fin 512) (k : Fin 2048) : (iblk m c 2 t) (ix2 r k) = a1 m c (ix2 (row t.val t.isLt r) k) := by
  blk_ext [iblk, V, idx t]
theorem blk3 (c : Dev nD) (t : Fin cfg0.N) (k : Fin 2048) : (iblk m c 3 t) (ix2 0 k) = a2 m c (ix2 0 k) := by
  blk_ext [iblk, V, idx t]
theorem blk4 (c : Dev nD) (t : Fin cfg0.N) (k : Fin 2048) : (iblk m c 4 t) (ix2 0 k) = a3 m c (ix2 0 k) := by
  blk_ext [iblk, V, idx t]
theorem blk5 (c : Dev nD) (t : Fin cfg0.N) (k : Fin 2048) (l : Fin 512) : (iblk m c 5 t) (ix2 k l) = a5 m c (ix2 k l) := by
  blk_ext [iblk, V, idx t]
theorem blk6 (c : Dev nD) (t : Fin cfg0.N) (k : Fin 256) (l : Fin 1024) : (iblk m c 6 t) (ix2 k l) = a6 m c (ix2 k l) := by
  blk_ext [iblk, V, idx t]
theorem blk7 (c : Dev nD) (t : Fin cfg0.N) (k : Fin 512) (l : Fin 2048) : (iblk m c 7 t) (ix2 k l) = a7 m c (ix2 k l) := by
  blk_ext [iblk, V, idx t]
theorem blk8 (c : Dev nD) (t : Fin cfg0.N) (k : Fin 2048) : (iblk m c 8 t) (ix2 0 k) = a8 m c (ix2 0 k) := by
  blk_ext [iblk, V, idx t]

/-! ## The run -/

/-- What the precondition gives: the scale vector before the queries, their projection, and the keys are real. -/
structure Fin3 (c : Dev nD) : Prop where
  g : ∀ k : Fin 2048, Fin1 (a3 m c (ix2 0 k))
  w : ∀ (k : Fin 2048) (j : Fin 512), Fin1 (a5 m c (ix2 k j))
  k : ∀ (i : Fin 256) (j : Fin 512), Fin1 (a6 m c (ix2 i ⟨j.val, by omega⟩))

theorem fin3 [hPre : Cert.Pre_finite_scores.Facts] (h : Cert.Pre_Kernel5Ideal_finite_scores m) (c : Dev nD) : Fin3 m c := by
  obtain ⟨h0, h1, h2⟩ := h c
  refine ⟨fun k => real_of_lt ?_, fun k j => real_of_lt ?_, fun i j => real_of_lt ?_⟩
  · exact congrFun h0 (ix2 0 k)
  · exact congrFun h1 (ix2 k j)
  · refine Eq.trans ?_ (congrFun h2 (ix2 i j))
    pointwise [Cert.Pre_finite_scores.fn, Ideal.cmpf_def]
    rfl

/-- After the run the result array holds the reference's result. -/
theorem final (c : Dev nD) (hf : Fin3 m c) : (dats m 0 c).arrAt 9 cfg0.N
    = val_main_v70 (F := Ideal) (a0 m c) (a1 m c) (a2 m c) (a3 m c) (a4 m c) (a5 m c) (a6 m c) (a7 m c) (a8 m c) := by
  refine (dats m 0 c).arrAt_eq_of_covers 9 _ (by decide +kernel) fun t _ y => ?_
  blk_simp
  rw [after0_9]
  have hy : ∃ (r : Fin 512) (k : Fin 2048), y = ix2 r k := ⟨y 0, y 1, eq_ix2 y⟩
  obtain ⟨r, k, rfl⟩ := hy
  have e : (((cfg0.win 9).blk t).view.emb (ix2 r k)) = ix2 (row t.val t.isLt r) k := by
    blk_ext [idx t]
  rw [e]
  exact out_val _ _ _ _ _ _ _ _ _ (row t.val t.isLt r) r _ _ _ _ _ _ _ _ _ (blk0 m c t r) (blk1 m c t) (blk2 m c t r) (blk3 m c t)
    (blk4 m c t) (blk5 m c t) (blk6 m c t) (blk7 m c t) (blk8 m c t) hf.g hf.w hf.k k

/-- The kernel's program and the reference's leave the same result, and the arguments as they were. -/
theorem algebraic [hPre : Cert.Pre_finite_scores.Facts] : Cert.algebraic_Kernel5Ideal_Reference5Ideal_pre_finite_scores := by
  intro m g m' g' hpre hagree
  refine ⟨fun c => val_main_v70 (F := Ideal) (a0 m c) (a1 m c) (a2 m c) (a3 m c) (a4 m c) (a5 m c) (a6 m c) (a7 m c) (a8 m c),
    (θ_run defs _ _).mono (fun r h c => ?_) (Value.run_blocks m g),
    (θ_run Cert.Reference5Ideal.defs _ _).mono (fun r h c => ?_) (Cert.Reference5Ideal.Value.run m' g')⟩
  · have hc := h c
    exact ⟨hc.1.trans (final m c (fin3 m hpre c)), hc.2⟩
  · have hc := h c
    refine ⟨hc.1.trans ?_, hc.2⟩
    rw [val_main_v70_eq]
    obtain ⟨h0, h1, h2, h3, h4, h5, h6, h7, h8⟩ := hagree c
    rw [h0, h1, h2, h3, h4, h5, h6, h7, h8]

end Cert.Kernel5Ideal.Post

end
-- ==== Proof.Post0Body.lean ====
module

public import proofs.«01_k».proof.Proof.Gen.Kernel6Ideal.Value
public import proofs.«01_k».proof.Proof.Gen.Reference6Ideal.Read
public import proofs.«01_k».proof.Proof.PostBody
public import proofs.«01_k».proof.Proof.PostRef

@[expose] public section

set_option maxRecDepth 16384

noncomputable section

namespace Cert.Kernel6Ideal.Post

open Cert.Kernel6Ideal Cert.Kernel6Ideal.Gen Idealize.ShloMosaic Idealize.ShloMosaic.TcCoe Idealize.SL.Sem
open Cert.KernelIdeal.Diff (nf)
open Cert.Kernel5Ideal.Post (head heads)

/-! ## The stages of the body, at an index -/

/-- The output projection of a block of rows: the two attentions' rows, each against its half of the weights. -/
def proj (ya : FVec Ideal S512x1024 .bf16) (wa : FVec Ideal S1024x2048 .bf16) (yb : FVec Ideal S512x1024 .bf16)
    (wb : FVec Ideal S1024x2048 .bf16) (r : Fin 512) (k : Fin 2048) : EReal :=
  (∑ l : Fin 1024, ya (ix2 r l) * wa (ix2 l k)) + ∑ l : Fin 1024, yb (ix2 r l) * wb (ix2 l k)

section
variable (ya : FVec Ideal S512x1024 .bf16) (wa : FVec Ideal S1024x2048 .bf16) (yb : FVec Ideal S512x1024 .bf16)
  (wb : FVec Ideal S1024x2048 .bf16) (h : FVec Ideal S512x2048 .f32) (g : FVec Ideal S1x2048 .f32)

/-- The rows after the layer's mixing. -/
theorem pay2_apply (r : Fin 512) (k : Fin 2048) : k0_pay2 (F := Ideal) ya wa yb wb h g (ix2 r k)
      = h (ix2 r k) + proj ya wa yb wb r k * nf (proj ya wa yb wb r) * g (ix2 0 k) := by
  pointwise [k0_pay2, proj, nf]

/-- Those rows normalised. -/
theorem pay3_apply (r : Fin 512) (k : Fin 2048) : k0_pay3 (F := Ideal) ya wa yb wb h g (ix2 r k)
      = k0_pay2 (F := Ideal) ya wa yb wb h g (ix2 r k) * nf (fun l => k0_pay2 (F := Ideal) ya wa yb wb h g (ix2 r l)) := by
  unfold k0_pay3
  generalize k0_pay2 (F := Ideal) ya wa yb wb h g = x
  pointwise [nf]

end

/-- The scaled queries. -/
theorem pay4_apply (g : FVec Ideal S1x2048 .f32) (n : FVec Ideal S512x2048 .f32) (wq : FVec Ideal S2048x512 .bf16) (r j : Fin 512) :
    k0_pay4 (F := Ideal) g n wq (ix2 r j)
      = (∑ k : Fin 2048, n (ix2 r k) * g (ix2 0 k) * wq (ix2 k j)) * (((Real.sqrt 128 * Real.log 2)⁻¹ : ℝ) : EReal) := by
  have e : Named.named (F := Ideal) κ "qk_scale" (φ := .f32) 0x3E0293EE#32 = (((Real.sqrt 128 * Real.log 2)⁻¹ : ℝ) : EReal) :=
    IdealRules.named_const.ideal_named_scalar _ _ _ _ rfl
  rw [← e]
  pointwise [k0_pay4]

/-- The memory attention's heads side by side. -/
theorem pay10_eq (g : FVec Ideal S1x2048 .f32) (n : FVec Ideal S512x2048 .f32) (wq : FVec Ideal S2048x512 .bf16)
    (k0 v0 k1 v1 k2 v2 k3 v3 : FVec Ideal S256x128 .bf16) :
    k0_pay10 (F := Ideal) (k0_pay4 g n wq) (k0_pay5 g n wq k0 v0) (k0_pay6 v1) (k0_pay8 g n wq k1) (k0_pay9 g n wq k1) k2 v2 k3 v3
      = heads (head 0 (k0_pay4 g n wq) k0 v0 slices_S512x512_o0_0_S512x128) (head 128 (k0_pay4 g n wq) k1 v1 slices_S512x512_o0_128_S512x128)
        (head 256 (k0_pay4 g n wq) k2 v2 slices_S512x512_o0_256_S512x128) (head 384 (k0_pay4 g n wq) k3 v3 slices_S512x512_o0_384_S512x128) := rfl

/-- The memory attention's output projection. -/
def out (o : FVec Ideal S512x512 .bf16) (wo : FVec Ideal S512x2048 .bf16) (r : Fin 512) (k : Fin 2048) : EReal :=
  ∑ j : Fin 512, o (ix2 r j) * wo (ix2 j k)

/-- The result block. -/
theorem pay1_apply (x : FVec Ideal S512x2048 .f32) (o : FVec Ideal S512x512 .bf16) (wo : FVec Ideal S512x2048 .bf16)
    (g : FVec Ideal S1x2048 .f32) (r : Fin 512) (k : Fin 2048) :
    k0_pay1 (F := Ideal) x o wo g (ix2 r k) = x (ix2 r k) + out o wo r k * nf (out o wo r) * g (ix2 0 k) := by
  pointwise [k0_pay1, out, nf]

/-! ## The reference's two halves -/

/-- The reference is the odd layer's on the two attentions' columns side by side. -/
theorem ref_eq (xa xb : FVec Ideal S8192x1024 .f32) (x2 : FVec Ideal S8192x2048 .f32) (x3 x4 : FVec Ideal S1x2048 .f32)
    (x5 : FVec Ideal S2048x2048 .f32) (x6 : FVec Ideal S2048x512 .f32) (x7 : FVec Ideal S256x1024 .f32) (x8 : FVec Ideal S512x2048 .f32)
    (x9 : FVec Ideal S1x2048 .f32) : Cert.Reference6Ideal.Read.val_main_v71 (F := Ideal) xa xb x2 x3 x4 x5 x6 x7 x8 x9
      = Cert.Reference5Ideal.Read.val_main_v70 (F := Ideal) (Cert.Reference6Ideal.Read.val_main_v0 xa xb) x2 x3 x4 x5 x6 x7 x8 x9 := rfl

theorem cat_left (xa xb : FVec Ideal S8192x1024 .f32) (p : Fin 8192) (l : Fin 1024) :
    Cert.Reference6Ideal.Read.val_main_v0 (F := Ideal) xa xb (ix2 p ⟨l.val, by omega⟩) = xa (ix2 p l) := by
  pointwise [Cert.Reference6Ideal.Read.val_main_v0]

theorem cat_right (xa xb : FVec Ideal S8192x1024 .f32) (p : Fin 8192) (l : Fin 1024) :
    Cert.Reference6Ideal.Read.val_main_v0 (F := Ideal) xa xb (ix2 p ⟨1024 + l.val, by omega⟩) = xb (ix2 p l) := by
  pointwise [Cert.Reference6Ideal.Read.val_main_v0]

/-- A sum over the columns is the sum over each half. -/
theorem sum_halves (f : Fin 2048 → EReal) : ∑ l, f l = (∑ l : Fin 1024, f ⟨l.val, by omega⟩) + ∑ l : Fin 1024, f ⟨1024 + l.val, by omega⟩ :=
  Fin.sum_univ_add (a := 1024) (b := 1024) f

end Cert.Kernel6Ideal.Post

end
-- ==== Proof.Post0Value.lean ====
module

public import proofs.«01_k».proof.Defs
public import proofs.«01_k».proof.Proof.Post0Body
public import proofs.«01_k».proof.Proof.PostBlock
public import proofs.«01_k».proof.Proof.Gen.Reference6Ideal.Run
public import proofs.«01_k».proof.Proof.DiffValue
public import Idealize.ShloMosaic.Lib.Claim
public import Idealize.ShloMosaic.Lib.StableHlo.ReadAt

@[expose] public section

set_option maxRecDepth 16384

noncomputable section

namespace Cert.Kernel6Ideal.Post

open Cert.Kernel6Ideal Cert.Kernel6Ideal.Gen Idealize.ShloMosaic Idealize.ShloMosaic.TcCoe Idealize.SL.Sem
open Cert.Reference5Ideal.Read Cert.Reference5Ideal.Post
open Cert.KernelIdeal.Diff (nf Fin1 real_of_lt)
open Cert.Kernel5Ideal.Post (head heads cat_val)

/-! ## The block -/

/-- What a point leaves in the result's block, from the operands' blocks. -/
theorem out_eq (b0 b1 : Vec Ideal S512x1024 .bf16) (b2 : Vec Ideal S2048x2048 .bf16) (b3 : Vec Ideal S512x2048 .f32) (b4 b5 : Vec Ideal S1x2048 .f32)
    (b6 : Vec Ideal S2048x512 .bf16) (b7 : Vec Ideal S256x1024 .bf16) (b8 : Vec Ideal S512x2048 .bf16) (b9 : Vec Ideal S1x2048 .f32) :
    out0_10 (F := Ideal) b0 b1 b2 b3 b4 b5 b6 b7 b8 b9 =
      have q := k0_pay4 b5 (k0_pay3 b0 (View.ld b2 r0_1) b1 (View.ld b2 r0_2) b3 b4) b6
      k0_pay1 (k0_pay2 b0 (View.ld b2 r0_1) b1 (View.ld b2 r0_2) b3 b4)
        (heads (head 0 q (View.ld b7 r0_6) (View.ld b7 r0_7) slices_S512x512_o0_0_S512x128)
          (head 128 q (View.ld b7 r0_8) (View.ld b7 r0_9) slices_S512x512_o0_128_S512x128)
          (head 256 q (View.ld b7 r0_10) (View.ld b7 r0_11) slices_S512x512_o0_256_S512x128)
          (head 384 q (View.ld b7 r0_12) (View.ld b7 r0_13) slices_S512x512_o0_384_S512x128)) b8 b9 := by
  have z : ∀ a : Fin 2, (![0, 0] : Fin 2 → ℕ) a = 0 := by decide
  unfold_out out0_10
  rw [View.canon_cons_unit_lit _ _ _ z]
  rw [show View.ld b0 r0_0 = b0 from View.ld_unit_lit _ _ z, show View.ld b1 r0_0 = b1 from View.ld_unit_lit _ _ z,
    show View.ld b3 r0_3 = b3 from View.ld_unit_lit _ _ z, show View.ld b4 r0_4 = b4 from View.ld_unit_lit _ _ z,
    show View.ld b5 r0_4 = b5 from View.ld_unit_lit _ _ z, show View.ld b6 r0_5 = b6 from View.ld_unit_lit _ _ z,
    show View.ld b8 r0_3 = b8 from View.ld_unit_lit _ _ z, show View.ld b9 r0_4 = b9 from View.ld_unit_lit _ _ z, pay10_eq]

/-- A load of 1024 of the weights' rows, at an index. -/
theorem ld_rows (X : Vec Ideal S2048x2048 .bf16) (o : ℕ) (inb : ∀ a, ![o, 0] a + S1024x2048.size a ≤ S2048x2048.size a) (l : Fin 1024)
    (k : Fin 2048) (j : Fin 2048) (h : j.val = o + l.val) : View.ld X (Rect.unit (s := S2048x2048) ![o, 0] S1024x2048.size inb) (ix2 l k)
      = X (ix2 j k) := by
  refine View.ld_unit_apply_of (S := S2048x2048) X ![o, 0] S1024x2048.size inb (ix2 l k) _ fun a => ?_
  fin_cases a
  · exact h
  · exact (Nat.zero_add _).symm

/-- A row of that block is the reference's row, when the operands' blocks hold the reference's operands. -/
theorem out_val (xa xb : FVec Ideal S8192x1024 .f32) (x1 : FVec Ideal S8192x2048 .f32) (x2 x3 : FVec Ideal S1x2048 .f32)
    (x4 : FVec Ideal S2048x2048 .f32) (x5 : FVec Ideal S2048x512 .f32) (x6 : FVec Ideal S256x1024 .f32) (x7 : FVec Ideal S512x2048 .f32)
    (x8 : FVec Ideal S1x2048 .f32) (p : Fin 8192) (r : Fin 512) (b0 b1 : Vec Ideal S512x1024 .bf16) (b2 : Vec Ideal S2048x2048 .bf16)
    (b3 : Vec Ideal S512x2048 .f32) (b4 b5 : Vec Ideal S1x2048 .f32) (b6 : Vec Ideal S2048x512 .bf16) (b7 : Vec Ideal S256x1024 .bf16)
    (b8 : Vec Ideal S512x2048 .bf16) (b9 : Vec Ideal S1x2048 .f32) (h0 : ∀ k, b0 (ix2 r k) = xa (ix2 p k)) (h1 : ∀ k, b1 (ix2 r k) = xb (ix2 p k))
    (h2 : ∀ k l, b2 (ix2 k l) = x4 (ix2 k l)) (h3 : ∀ k, b3 (ix2 r k) = x1 (ix2 p k)) (h4 : ∀ k, b4 (ix2 0 k) = x2 (ix2 0 k))
    (h5 : ∀ k, b5 (ix2 0 k) = x3 (ix2 0 k)) (h6 : ∀ k l, b6 (ix2 k l) = x5 (ix2 k l)) (h7 : ∀ k l, b7 (ix2 k l) = x6 (ix2 k l))
    (h8 : ∀ k l, b8 (ix2 k l) = x7 (ix2 k l)) (h9 : ∀ k, b9 (ix2 0 k) = x8 (ix2 0 k)) (hg : ∀ k : Fin 2048, Fin1 (x3 (ix2 0 k)))
    (hw : ∀ (k : Fin 2048) (j : Fin 512), Fin1 (x5 (ix2 k j))) (hK : ∀ (i : Fin 256) (j : Fin 512), Fin1 (x6 (ix2 i ⟨j.val, by omega⟩)))
    (k : Fin 2048) : out0_10 (F := Ideal) b0 b1 b2 b3 b4 b5 b6 b7 b8 b9 (ix2 r k)
      = Cert.Reference6Ideal.Read.val_main_v71 (F := Ideal) xa xb x1 x2 x3 x4 x5 x6 x7 x8 (ix2 p k) := by
  rw [ref_eq]
  have hl := cat_left xa xb p
  have hr := cat_right xa xb p
  generalize Cert.Reference6Ideal.Read.val_main_v0 (F := Ideal) xa xb = x0 at hl hr ⊢
  have e1 : proj b0 (View.ld b2 r0_1) b1 (View.ld b2 r0_2) r = fun l => val_main_v0 (F := Ideal) x0 x4 (ix2 p l) := funext fun j => by
    unfold proj
    rw [y_apply, sum_halves]
    refine congrArg₂ (· + ·) (Finset.sum_congr rfl fun l _ => ?_) (Finset.sum_congr rfl fun l _ => ?_)
    · rw [h0, hl]
      exact congrArg (xa (ix2 p l) * ·) ((ld_rows b2 0 _ l j _ (Nat.zero_add _).symm).trans (h2 _ _))
    · rw [h1, hr]
      exact congrArg (xb (ix2 p l) * ·) ((ld_rows b2 1024 _ l j _ rfl).trans (h2 _ _))
  have e2 : ∀ k, k0_pay2 (F := Ideal) b0 (View.ld b2 r0_1) b1 (View.ld b2 r0_2) b3 b4 (ix2 r k)
      = val_main_v15 (F := Ideal) x0 x1 x2 x4 (ix2 p k) := fun k => by
    rw [pay2_apply, h_apply, e1, h3, h4]
  have e4 : ∀ j, k0_pay4 (F := Ideal) b5 (k0_pay3 b0 (View.ld b2 r0_1) b1 (View.ld b2 r0_2) b3 b4) b6 (ix2 r j)
      = val_main_v30 (F := Ideal) x0 x1 x2 x3 x4 x5 (ix2 p j) * (((Real.sqrt 128 * Real.log 2)⁻¹ : ℝ) : EReal) := fun j => by
    rw [pay4_apply, q_apply]
    simp only [pay3_apply, e2, h5, h6]
  rw [out_eq]
  generalize k0_pay4 (F := Ideal) b5 (k0_pay3 b0 (View.ld b2 r0_1) b1 (View.ld b2 r0_2) b3 b4) b6 = q at e4 ⊢
  dsimp only
  have e10 := cat_val x0 x1 x2 x3 x4 x5 x6 p r q e4 hg hw hK b7 h7
  rw [pay1_apply, out_apply, e2, h9]
  have eo : ∀ o : FVec Ideal S512x512 .bf16, (∀ j, o (ix2 r j) = val_main_v54 (F := Ideal) x0 x1 x2 x3 x4 x5 x6 (ix2 p j)) →
      out o b8 r = fun l => val_main_v55 (F := Ideal) x0 x1 x2 x3 x4 x5 x6 x7 (ix2 p l) := fun o ho => funext fun l => by
    unfold out
    rw [c_apply]
    exact Finset.sum_congr rfl fun j _ => by rw [ho, h8]
  rw [eo _ e10]

variable (m : (ℓ : Loc nD τ sig) → Buf (Elt Ideal) ℓ)

/-- The arguments. -/
abbrev a0 (c : Dev nD) : FVec Ideal S8192x1024 .f32 := m ((c : Thread nD τ).loc main_arg0)
abbrev a1 (c : Dev nD) : FVec Ideal S8192x1024 .f32 := m ((c : Thread nD τ).loc main_arg1)
abbrev a2 (c : Dev nD) : FVec Ideal S8192x2048 .f32 := m ((c : Thread nD τ).loc main_arg2)
abbrev a3 (c : Dev nD) : FVec Ideal S1x2048 .f32 := m ((c : Thread nD τ).loc main_arg3)
abbrev a4 (c : Dev nD) : FVec Ideal S1x2048 .f32 := m ((c : Thread nD τ).loc main_arg4)
abbrev a5 (c : Dev nD) : FVec Ideal S2048x2048 .f32 := m ((c : Thread nD τ).loc main_arg5)
abbrev a6 (c : Dev nD) : FVec Ideal S2048x512 .f32 := m ((c : Thread nD τ).loc main_arg6)
abbrev a7 (c : Dev nD) : FVec Ideal S256x1024 .f32 := m ((c : Thread nD τ).loc main_arg7)
abbrev a8 (c : Dev nD) : FVec Ideal S512x2048 .f32 := m ((c : Thread nD τ).loc main_arg8)
abbrev a9 (c : Dev nD) : FVec Ideal S1x2048 .f32 := m ((c : Thread nD τ).loc main_arg9)

/-! ## The blocks at an index -/

/-- Where each operand's block lies at a point: the rows go with the point, everything else is whole. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

/-- The array's row that row `r` of the block at point `n` is. -/
abbrev row (n : ℕ) (hn : n < cfg0.N) (r : Fin 512) : Fin 8192 :=
  ⟨512 * n + r.val, by have : cfg0.N = 16 := N_0; omega⟩

theorem blk0 (c : Dev nD) (t : Fin cfg0.N) (r : Fin 512) (k : Fin 1024) : (iblk m c 0 t) (ix2 r k) = a0 m c (ix2 (row t.val t.isLt r) k) := by
  blk_ext [iblk, V, idx t]
theorem blk1 (c : Dev nD) (t : Fin cfg0.N) (r : Fin 512) (k : Fin 1024) : (iblk m c 1 t) (ix2 r k) = a1 m c (ix2 (row t.val t.isLt r) k) := by
  blk_ext [iblk, V, idx t]
theorem blk2 (c : Dev nD) (t : Fin cfg0.N) (k l : Fin 2048) : (iblk m c 2 t) (ix2 k l) = a5 m c (ix2 k l) := by
  blk_ext [iblk, V, idx t]
theorem blk3 (c : Dev nD) (t : Fin cfg0.N) (r : Fin 512) (k : Fin 2048) : (iblk m c 3 t) (ix2 r k) = a2 m c (ix2 (row t.val t.isLt r) k) := by
  blk_ext [iblk, V, idx t]
theorem blk4 (c : Dev nD) (t : Fin cfg0.N) (k : Fin 2048) : (iblk m c 4 t) (ix2 0 k) = a3 m c (ix2 0 k) := by
  blk_ext [iblk, V, idx t]
theorem blk5 (c : Dev nD) (t : Fin cfg0.N) (k : Fin 2048) : (iblk m c 5 t) (ix2 0 k) = a4 m c (ix2 0 k) := by
  blk_ext [iblk, V, idx t]
theorem blk6 (c : Dev nD) (t : Fin cfg0.N) (k : Fin 2048) (l : Fin 512) : (iblk m c 6 t) (ix2 k l) = a6 m c (ix2 k l) := by
  blk_ext [iblk, V, idx t]
theorem blk7 (c : Dev nD) (t : Fin cfg0.N) (k : Fin 256) (l : Fin 1024) : (iblk m c 7 t) (ix2 k l) = a7 m c (ix2 k l) := by
  blk_ext [iblk, V, idx t]
theorem blk8 (c : Dev nD) (t : Fin cfg0.N) (k : Fin 512) (l : Fin 2048) : (iblk m c 8 t) (ix2 k l) = a8 m c (ix2 k l) := by
  blk_ext [iblk, V, idx t]
theorem blk9 (c : Dev nD) (t : Fin cfg0.N) (k : Fin 2048) : (iblk m c 9 t) (ix2 0 k) = a9 m c (ix2 0 k) := by
  blk_ext [iblk, V, idx t]

/-! ## The run -/

/-- What the precondition gives: the scale vector before the queries, their projection, and the keys are real. -/
structure Fin3 (c : Dev nD) : Prop where
  g : ∀ k : Fin 2048, Fin1 (a4 m c (ix2 0 k))
  w : ∀ (k : Fin 2048) (j : Fin 512), Fin1 (a6 m c (ix2 k j))
  k : ∀ (i : Fin 256) (j : Fin 512), Fin1 (a7 m c (ix2 i ⟨j.val, by omega⟩))

theorem fin3 [hPre : Cert.Pre_finite_scores6.Facts] (h : Cert.Pre_Kernel6Ideal_finite_scores6 m) (c : Dev nD) : Fin3 m c := by
  obtain ⟨h0, h1, h2⟩ := h c
  refine ⟨fun k => real_of_lt ?_, fun k j => real_of_lt ?_, fun i j => real_of_lt ?_⟩
  · exact congrFun h0 (ix2 0 k)
  · exact congrFun h1 (ix2 k j)
  · refine Eq.trans ?_ (congrFun h2 (ix2 i j))
    pointwise [Cert.Pre_finite_scores6.fn, Ideal.cmpf_def]
    rfl

/-- The reference's result on the arguments. -/
abbrev res (c : Dev nD) : FVec Ideal S8192x2048 .f32 :=
  Cert.Reference6Ideal.Read.val_main_v71 (F := Ideal) (a0 m c) (a1 m c) (a2 m c) (a3 m c) (a4 m c) (a5 m c) (a6 m c) (a7 m c) (a8 m c) (a9 m c)

/-- After the run the result array holds the reference's result. -/
theorem final (c : Dev nD) (hf : Fin3 m c) : (dats m 0 c).arrAt 10 cfg0.N = res m c := by
  refine (dats m 0 c).arrAt_eq_of_covers 10 _ (by decide +kernel) fun t _ y => ?_
  blk_simp
  rw [after0_10]
  have hy : ∃ (r : Fin 512) (k : Fin 2048), y = ix2 r k := ⟨y 0, y 1, eq_ix2 y⟩
  obtain ⟨r, k, rfl⟩ := hy
  have e : (((cfg0.win 10).blk t).view.emb (ix2 r k)) = ix2 (row t.val t.isLt r) k := by
    blk_ext [idx t]
  rw [e]
  exact out_val _ _ _ _ _ _ _ _ _ _ (row t.val t.isLt r) r _ _ _ _ _ _ _ _ _ _ (blk0 m c t r) (blk1 m c t r) (blk2 m c t) (blk3 m c t r)
    (blk4 m c t) (blk5 m c t) (blk6 m c t) (blk7 m c t) (blk8 m c t) (blk9 m c t) hf.g hf.w hf.k k

/-- The kernel's program and the reference's leave the same result, and the arguments as they were. -/
theorem algebraic [hPre : Cert.Pre_finite_scores6.Facts] : Cert.algebraic_Kernel6Ideal_Reference6Ideal_pre_finite_scores6 := by
  intro m g m' g' hpre hagree
  refine ⟨fun c => res m c, (θ_run defs _ _).mono (fun r h c => ?_) (Value.run_blocks m g),
    (θ_run Cert.Reference6Ideal.defs _ _).mono (fun r h c => ?_) (Cert.Reference6Ideal.Value.run m' g')⟩
  · have hc := h c
    exact ⟨hc.1.trans (final m c (fin3 m hpre c)), hc.2⟩
  · have hc := h c
    refine ⟨hc.1.trans ?_, hc.2⟩
    rw [Cert.Reference6Ideal.Read.val_main_v71_eq]
    obtain ⟨h0, h1, h2, h3, h4, h5, h6, h7, h8, h9⟩ := hagree c
    rw [h0, h1, h2, h3, h4, h5, h6, h7, h8, h9]

end Cert.Kernel6Ideal.Post

end
-- ==== Proof.KvValue.lean ====
module

public import proofs.«01_k».proof.Defs
public import proofs.«01_k».proof.Proof.ProjBody
public import proofs.«01_k».proof.Proof.Gen.Kernel7Ideal.Value
public import proofs.«01_k».proof.Proof.Gen.Reference7Ideal.Run
public import proofs.«01_k».proof.Proof.Gen.Reference7Ideal.Read
public import Idealize.ShloMosaic.Lib.Claim
public import Idealize.ShloMosaic.Lib.Pipeline.ValueKit
public import Idealize.ShloMosaic.Lib.Pipeline.ReadBack
public import Idealize.ShloMosaic.Lib.Pointwise
public import Idealize.ShloMosaic.Lib.Tactic
public import Idealize.ShloMosaic.Lib.StableHlo.ReadAt

@[expose] public section

set_option maxRecDepth 16384

noncomputable section

namespace Cert.Kernel7Ideal.Kv

open Cert.Kernel7Ideal Cert.Kernel7Ideal.Gen Idealize.ShloMosaic Idealize.ShloMosaic.TcCoe Idealize.SL.Sem
open Cert.Kernel3Ideal.Proj (ld_rows stored_rows)
open Cert.Reference7Ideal.Read

/-! ## The body -/

/-- One entry of the scaled product of the rows and the weights. -/
def prod {n : ℕ} (h : FVec Ideal ⟨2, ![n, 2048]⟩ .bf16) (w : FVec Ideal S2048x512 .bf16) (cs : FVec Ideal S1x512 .f32)
    (r : Fin n) (j : Fin 512) : EReal :=
  (∑ k : Fin 2048, h (ix2 r k) * w (ix2 k j)) * cs (ix2 0 j)

/-- One row group's scaled product at an index. -/
theorem pay7_apply (w : FVec Ideal S2048x512 .bf16) (cs : FVec Ideal S1x512 .f32) (h : FVec Ideal S128x2048 .bf16)
    (r : Fin 128) (j : Fin 512) : k0_pay7 (F := Ideal) w cs h (ix2 r j) = prod h w cs r j := by
  pointwise [k0_pay7, k0_pay6, k0_pay5, prod]

/-- The normalised rows, as stored. -/
theorem pay4_apply (x : FVec Ideal S256x2048 .f32) (g : FVec Ideal S1x2048 .f32) (r : Fin 256) (k : Fin 2048) :
    k0_pay4 (F := Ideal) x g (ix2 r k) = x (ix2 r k) * Ideal.rsqrt (Ideal.div (∑ l : Fin 2048, x (ix2 r l) * x (ix2 r l))
      (Ideal.ofBits .f32 0x45000000#32) + Ideal.ofBits .f32 0x358637BD#32) * g (ix2 0 k) := by
  pointwise [k0_pay4]

/-- One head's 128 columns of a row group. -/
def chunk (o : ℕ) (a : FVec Ideal S128x512 .f32) (hs : S128x512.Slices ![0, o] S128x128) : FVec Ideal S128x128 .bf16 :=
  truncf .bf16 (extractStridedSlice S128x128 ![0, o] a hs) bitsLt_bf16_f32

/-- One stored block of columns is the output block's at its place. -/
theorem piece (H : FVec Ideal S256x2048 .bf16) (w : FVec Ideal S2048x512 .bf16) (cs : FVec Ideal S1x512 .f32)
    (y : S256x512.Idx) (x : S128x128.Idx) (g o : ℕ) (a : FVec Ideal S128x512 .f32) (h : FVec Ideal S128x2048 .bf16)
    (hs : S128x512.Slices ![0, o] S128x128) (hg : g ≤ 128) (h0 : (y 0).val = g + (x 0).val) (h1 : (y 1).val = o + (x 1).val)
    (ho : o ≤ 384) (ha : ∀ r j, a (ix2 r j) = prod h w cs r j)
    (hh : ∀ (r : Fin 128) (k : Fin 2048), h (ix2 r k) = H (ix2 ⟨g + r.val, by omega⟩ k)) :
    chunk o a hs x = prod H w cs (y 0) (y 1) := by
  obtain ⟨r, l, rfl⟩ : ∃ r l : Fin 128, x = ix2 r l := ⟨x 0, x 1, eq_ix2 x⟩
  obtain ⟨R, J, rfl⟩ : ∃ (R : Fin 256) (J : Fin 512), y = ix2 R J := ⟨y 0, y 1, eq_ix2 y⟩
  have hR : R = ⟨g + r.val, by omega⟩ := Fin.ext h0
  have hJ : J = ⟨o + l.val, by omega⟩ := Fin.ext h1
  have e : chunk o a hs (ix2 r l) = a (ix2 r ⟨o + l.val, by omega⟩) := by
    pointwise [chunk]
  rw [e, ha, ← hJ]
  show prod h w cs r J = prod H w cs R J
  unfold prod
  simp only [hh, ← hR]

variable (m : (ℓ : Loc nD τ sig) → Buf (Elt Ideal) ℓ)

/-- At the second point, the block is computed from the rows normalised before. -/
theorem out_next (c : Dev nD) (t : Fin cfg0.N) (ht : ¬t.val % 2 = 0) (y : S256x512.Idx) :
    (outsAt0 m c t.val t.isLt).1 y = prod
      (outsAt0 m c (t.val - 1) (Nat.lt_of_le_of_lt (Nat.sub_le _ _) t.isLt)).2 (iblk m c 2 t) (iblk m c 3 t) (y 0) (y 1) := by
  rw [outsAt0_B m c t ht]
  generalize (outsAt0 m c (t.val - 1) (Nat.lt_of_le_of_lt (Nat.sub_le _ _) t.isLt)).2 = xs
  dsimp only
  generalize iblk m c 0 t = x0, iblk m c 1 t = x1, iblk m c 2 t = x2, iblk m c 3 t = x3
  frame_out
  simp only [read_unread_whole]
  canon_tiles x h
  all_goals
    open_payloads
    first
      | refine piece xs x2 x3 y x _ _ _ _ _ (by decide) h0 (by omega) (by omega) (pay7_apply _ _ _) ?_
      | refine piece xs x2 x3 y x 0 _ _ _ _ (by decide) (by omega) (by omega) (by omega) (pay7_apply _ _ _) ?_
    exact fun r k => ld_rows _ _ _ r k _

/-- At the first point, it is computed from the rows normalised there. -/
theorem out_first (c : Dev nD) (t : Fin cfg0.N) (ht : t.val % 2 = 0) (y : S256x512.Idx) :
    (outsAt0 m c t.val t.isLt).1 y = prod
      (k0_pay4 (iblk m c 0 t) (iblk m c 1 t)) (iblk m c 2 t) (iblk m c 3 t) (y 0) (y 1) := by
  rw [outsAt0_A m c t ht]
  dsimp only
  generalize iblk m c 0 t = x0, iblk m c 1 t = x1, iblk m c 2 t = x2, iblk m c 3 t = x3
  frame_out
  canon_tiles x h
  all_goals
    open_payloads
    first
      | refine piece (k0_pay4 x0 x1) x2 x3 y x _ _ _ _ _ (by decide) h0 (by omega) (by omega) (pay7_apply _ _ _) ?_
      | refine piece (k0_pay4 x0 x1) x2 x3 y x 0 _ _ _ _ (by decide) (by omega) (by omega) (by omega) (pay7_apply _ _ _) ?_
    exact fun r k => stored_rows _ _ _ _ _ r k _

/-- The rows kept at the first point. -/
theorem hn_first (c : Dev nD) (t : Fin cfg0.N) (h0 : t.val % 2 = 0) (y : S256x2048.Idx) :
    (outsAt0 m c t.val t.isLt).2 y = k0_pay4 (iblk m c 0 t) (iblk m c 1 t) y := by
  rw [outsAt0_A m c t h0]
  frame_out

/-- The arguments. -/
abbrev a0 (c : Dev nD) : FVec Ideal S256x2048 .f32 := m ((c : Thread nD τ).loc main_arg0)
abbrev a1 (c : Dev nD) : FVec Ideal S1x2048 .f32 := m ((c : Thread nD τ).loc main_arg1)
abbrev a2 (c : Dev nD) : FVec Ideal S2048x512 .f32 := m ((c : Thread nD τ).loc main_arg2)
abbrev a3 (c : Dev nD) : FVec Ideal S2048x512 .f32 := m ((c : Thread nD τ).loc main_arg3)

/-! ## The reference, at an index -/

section
variable (x0 : FVec Ideal S256x2048 .f32) (x1 : FVec Ideal S1x2048 .f32) (x2 x3 : FVec Ideal S2048x512 .f32)

theorem ref_hn (r : Fin 256) (k : Fin 2048) : val_main_v13 (F := Ideal) x0 x1 (ix2 r k)
    = x0 (ix2 r k) * Ideal.rsqrt (Ideal.div (∑ l : Fin 2048, x0 (ix2 r l) * x0 (ix2 r l))
      (Ideal.ofBits .f32 0x45000000#32) + Ideal.ofBits .f32 0x358637BD#32) * x1 (ix2 0 k) := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- The keys are the first 512 columns. -/
theorem ref_k (r : Fin 256) (j : Fin 512) : val_main_v17 (F := Ideal) x0 x1 x2 x3 (ix2 r ⟨j.val, by omega⟩)
    = ∑ k : Fin 2048, val_main_v13 (F := Ideal) x0 x1 (ix2 r k) * x2 (ix2 k j) := by
  unfold val_main_v17 val_main_v16 val_main_v15 val_main_v14
  generalize val_main_v13 (F := Ideal) x0 x1 = h
  pointwise

/-- The values are the rest. -/
theorem ref_v (r : Fin 256) (j : Fin 512) : val_main_v17 (F := Ideal) x0 x1 x2 x3 (ix2 r ⟨512 + j.val, by omega⟩)
    = ∑ k : Fin 2048, val_main_v13 (F := Ideal) x0 x1 (ix2 r k) * x3 (ix2 k j) := by
  unfold val_main_v17 val_main_v16 val_main_v15 val_main_v14
  generalize val_main_v13 (F := Ideal) x0 x1 = h
  pointwise

end

/-! ## What the host prepares, at an index -/

theorem host_k (c : Dev nD) (k : Fin 2048) (j : Fin 512) :
    (V m c main_v1 : FVec Ideal S2048x1024 .bf16) (ix2 k ⟨j.val, by omega⟩) = a2 m c (ix2 k j) := by
  simp only [V, hostOps0]
  after_reads_at
  rfl

theorem host_v (c : Dev nD) (k : Fin 2048) (j : Fin 512) :
    (V m c main_v1 : FVec Ideal S2048x1024 .bf16) (ix2 k ⟨512 + j.val, by omega⟩) = a3 m c (ix2 k j) := by
  simp only [V, hostOps0]
  after_reads_at
  rfl

theorem host_cs (c : Dev nD) (j : Fin 1024) : (V m c main_v2 : FVec Ideal S1x1024 .f32) (ix2 0 j) = (1 : EReal) := by
  simp only [V, hostOps0]
  after_reads_at

/-! ## The blocks at an index -/

theorem idx : ∀ t : Fin cfg0.N, win0_0.index t = ![0, 0] ∧ win0_1.index t = ![0, 0]
    ∧ win0_2.index t = ![0, t.val] ∧ win0_3.index t = ![0, t.val] ∧ win0_4.index t = ![0, t.val] :=
  (by decide +kernel : ∀ t : Fin grid0.N, _)

/-- The array's column that column `j` of the block at point `t` is. -/
abbrev col (t : Fin cfg0.N) (j : Fin 512) : Fin 1024 :=
  ⟨t.val * 512 + j.val, by have : cfg0.N = 2 := N_0; omega⟩

theorem blk_h (c : Dev nD) (t : Fin cfg0.N) (r : Fin 256) (k : Fin 2048) : (iblk m c 0 t) (ix2 r k) = a0 m c (ix2 r k) := by
  blk_ext [iblk, V, idx t]

theorem blk_g (c : Dev nD) (t : Fin cfg0.N) (k : Fin 2048) : (iblk m c 1 t) (ix2 0 k) = a1 m c (ix2 0 k) := by
  blk_ext [iblk, V, idx t]

theorem blk_w (c : Dev nD) (t : Fin cfg0.N) (k : Fin 2048) (j : Fin 512) :
    (iblk m c 2 t) (ix2 k j) = (V m c main_v1 : FVec Ideal S2048x1024 .bf16) (ix2 k (col t j)) := by
  blk_ext [iblk, idx t]

theorem blk_cs (c : Dev nD) (t : Fin cfg0.N) (j : Fin 512) : (iblk m c 3 t) (ix2 0 j) = (1 : EReal) := by
  refine Eq.trans ?_ (host_cs m c (col t j))
  blk_ext [iblk, idx t]

/-! ## The run -/

/-- The rows kept at the first point are the reference's normalised rows. -/
theorem hn_eq (c : Dev nD) (t : Fin cfg0.N) (r : Fin 256) (k : Fin 2048) :
    k0_pay4 (F := Ideal) (iblk m c 0 t) (iblk m c 1 t) (ix2 r k) = val_main_v13 (F := Ideal) (a0 m c) (a1 m c) (ix2 r k) := by
  rw [pay4_apply, ref_hn]
  simp only [blk_h, blk_g]

/-- The block a point stores: the reference's normalised rows against the point's half of the weights. -/
theorem out_eq (c : Dev nD) (t : Fin cfg0.N) (r : Fin 256) (j : Fin 512) : (outsAt0 m c t.val t.isLt).1 (ix2 r j)
    = ∑ k : Fin 2048, val_main_v13 (F := Ideal) (a0 m c) (a1 m c) (ix2 r k)
        * (V m c main_v1 : FVec Ideal S2048x1024 .bf16) (ix2 k (col t j)) := by
  have hp : ∀ H : FVec Ideal S256x2048 .bf16, (∀ k, H (ix2 r k) = val_main_v13 (F := Ideal) (a0 m c) (a1 m c) (ix2 r k)) →
      prod H (iblk m c 2 t) (iblk m c 3 t) r j = ∑ k : Fin 2048, val_main_v13 (F := Ideal) (a0 m c) (a1 m c) (ix2 r k)
        * (V m c main_v1 : FVec Ideal S2048x1024 .bf16) (ix2 k (col t j)) := fun H hH => by
    unfold prod
    rw [blk_cs, mul_one]
    exact Finset.sum_congr rfl fun k _ => by rw [hH, blk_w]
  by_cases h : t.val % 2 = 0
  · rw [out_first m c t h]
    exact hp _ (hn_eq m c t r)
  · have hN : cfg0.N = 2 := N_0
    have ht := t.isLt
    rw [out_next m c t h]
    exact hp _ fun k => (hn_first m c ⟨t.val - 1, by omega⟩ (by show (t.val - 1) % 2 = 0; omega) _).trans (hn_eq m c _ r k)

/-- After the run the result array holds the reference's result. -/
theorem final (c : Dev nD) : (dats m 0 c).arrAt 4 cfg0.N = val_main_v17 (F := Ideal) (a0 m c) (a1 m c) (a2 m c) (a3 m c) := by
  refine (dats m 0 c).arrAt_eq_of_covers 4 _ (by decide +kernel) fun t hf y => ?_
  blk_simp
  rw [after0_4]
  have hy : ∃ (r : Fin 256) (j : Fin 512), y = ix2 r j := ⟨y 0, y 1, eq_ix2 y⟩
  obtain ⟨r, j, rfl⟩ := hy
  have e : (((cfg0.win 4).blk t).view.emb (ix2 r j)) = ix2 r (col t j) := by
    blk_ext [idx t]
  rw [e]
  refine (out_eq m c t r j).trans ?_
  have ht : t.val < 2 := lt_of_lt_of_eq t.isLt N_0
  obtain h | h : t.val = 0 ∨ t.val = 1 := by omega
  · have ec : col t j = ⟨j.val, by omega⟩ := Fin.ext (by show t.val * 512 + j.val = j.val; omega)
    rw [ec, ref_k]
    exact Finset.sum_congr rfl fun k _ => congrArg _ (host_k m c k j)
  · have ec : col t j = ⟨512 + j.val, by omega⟩ := Fin.ext (by show t.val * 512 + j.val = 512 + j.val; omega)
    rw [ec, ref_v]
    exact Finset.sum_congr rfl fun k _ => congrArg _ (host_v m c k j)

/-- The kernel's program and the reference's leave the same result, and the arguments as they were. -/
theorem algebraic : Cert.algebraic_Kernel7Ideal_Reference7Ideal := by
  intro m g m' g' _ hagree
  refine ⟨fun c => val_main_v17 (F := Ideal) (a0 m c) (a1 m c) (a2 m c) (a3 m c),
    (θ_run defs _ _).mono (fun r h c => ?_) (Value.run_blocks m g),
    (θ_run Cert.Reference7Ideal.defs _ _).mono (fun r h c => ?_) (Cert.Reference7Ideal.Value.run m' g')⟩
  · have hc := h c
    exact ⟨hc.1.trans (final m c), hc.2⟩
  · have hc := h c
    refine ⟨hc.1.trans ?_, hc.2⟩
    rw [val_main_v17_eq]
    obtain ⟨h0, h1, h2, h3⟩ := hagree c
    rw [h0, h1, h2, h3]

end Cert.Kernel7Ideal.Kv

end
-- ==== Proof.lean ====
/-
  The certificate's assembly. The differential attention: `DiffBody`, `DiffRun`, `DiffFrame` (the run of the kernel, for
  any float values), `DiffRead`, `DiffState` (what it computes over the extended reals), `DiffRef` (what the reference
  does), `DiffMath` (weights and rows of extended reals), `DiffValue` (that the two agree). The multi-layer perceptron: `MlpBody`,
  `MlpValue`. The input projection with its rotary embedding: `ProjBody` (what the kernel's body stores), `ProjRef` (what the
  reference does), `ProjValue` (that the two agree), and the same three of the even layer's: `EvenBody`, `EvenRef`,
  `EvenValue`. The odd layer's mixing with its memory attention: `PostMath` (weighted means of extended reals), `PostBody`
  (what the kernel's body stores), `PostRef` (what the reference does), `PostBlock` (that one point's block agrees),
  `PostValue` (that the runs agree). The even layer's: `Post0Body`, `Post0Value`, on the odd layer's heads and reference.
  The memory's keys and values: `KvValue`.
-/
module

public import proofs.«01_k».proof.Defs
public import proofs.«01_k».proof.Proof.DiffValue
public import proofs.«01_k».proof.Proof.MlpValue
public import proofs.«01_k».proof.Proof.ProjValue
public import proofs.«01_k».proof.Proof.EvenValue
public import proofs.«01_k».proof.Proof.PostValue
public import proofs.«01_k».proof.Proof.Post0Value
public import proofs.«01_k».proof.Proof.KvValue
public import proofs.«01_k».proof.Proof.Gen.Kernel
public import proofs.«01_k».proof.Proof.Gen.Kernel2.Frame
public import proofs.«01_k».proof.Proof.Gen.Kernel2Ideal.Frame
public import proofs.«01_k».proof.Proof.Gen.ReferenceIdeal.Run
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import Idealize.ShloMosaic.Lib.Quiescent
public import Idealize.ShloMosaic.Adequacy
public import Idealize.ShloMosaic.Init

@[expose] public section

noncomputable section

namespace Cert.Proof

open Idealize.ShloMosaic Idealize.SL.Sem

set_option maxRecDepth 100000 in
/-- The two programs' tables of kernel bodies are the same table. -/
theorem body_eq : Cert.Kernel.defs₀ (F := Bits) = Cert.KernelIdeal.defs₀ (F := Bits) := by
  unfold Cert.Kernel.defs₀ Cert.KernelIdeal.defs₀
  congr 1
  funext l x
  match l, x with
  | 0, (t, s) => rfl
  | ⟨_ + 1, h⟩, _ => exact absurd h (Nat.not_lt.2 (Nat.le_add_left _ _))

set_option maxRecDepth 100000 in
/-- So are the tables that include the pipelines. -/
theorem defs_eq : Cert.Kernel.defs (F := Bits) = Cert.KernelIdeal.defs (F := Bits) := by
  unfold Cert.Kernel.defs Cert.KernelIdeal.defs
  exact congrArg (Pipeline.defs Cert.KernelIdeal.pcfgs) body_eq

set_option maxRecDepth 100000 in
/-- The attention kernel over bit patterns runs, changes no argument and leaves every counter at zero: its text is that
    of the program read over the extended reals, whose run is proved for any float values. -/
theorem frame_kernel : Cert.quiescent_Kernel := fun m ρ _ => by
  rw [defs_eq]
  exact (θ_run Cert.KernelIdeal.defs _ _).mono (fun _ h => h) (Cert.KernelIdeal.Diff.frame (F := Bits) m ρ)

/-- The same of the program read over the extended reals. -/
theorem frame_kernelIdeal : Cert.quiescent_KernelIdeal := fun m ρ _ => Cert.KernelIdeal.Diff.frame m ρ

/-- The attention's reference runs, changes no argument and leaves every counter at zero. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

/-- The perceptron's reference runs, changes no argument and leaves every counter at zero. -/
theorem frame_reference2 : Cert.quiescent_Reference2Ideal := fun m ρ _ =>
  (θ_run Cert.Reference2Ideal.defs _ _).mono (fun r h => ⟨fun c => (h c).2, sem_eq_zero_of_no_sems rfl r.2⟩)
    (Cert.Reference2Ideal.Value.run m ρ)

/-- The perceptron kernel over bit patterns runs, changes no argument and leaves every counter at zero. -/
theorem frame_kernel2 : Cert.quiescent_Kernel2 := fun m ρ _ => Cert.Kernel2.Gen.frame m ρ

/-- The same of the program read over the extended reals. -/
theorem frame_kernel2Ideal : Cert.quiescent_Kernel2Ideal := fun m ρ _ => Cert.Kernel2Ideal.Gen.frame m ρ

/-- The projection kernel over bit patterns runs, changes no argument and leaves every counter at zero. -/
theorem frame_kernel3 : Cert.quiescent_Kernel3 := fun m ρ _ => Cert.Kernel3.Gen.frame m ρ

/-- The same of the program read over the extended reals. -/
theorem frame_kernel3Ideal : Cert.quiescent_Kernel3Ideal := fun m ρ _ => Cert.Kernel3Ideal.Gen.frame m ρ

/-- The projection's reference runs, changes no argument and leaves every counter at zero. -/
theorem frame_reference3 : Cert.quiescent_Reference3Ideal := fun m ρ _ =>
  (θ_run Cert.Reference3Ideal.defs _ _).mono (fun r h => ⟨fun c => (h c).2, sem_eq_zero_of_no_sems rfl r.2⟩)
    (Cert.Reference3Ideal.Value.run m ρ)

/-- The even layer's projection kernel over bit patterns runs, changes no argument and leaves every counter at zero. -/
theorem frame_kernel4 : Cert.quiescent_Kernel4 := fun m ρ _ => Cert.Kernel4.Gen.frame m ρ

/-- The same of the program read over the extended reals. -/
theorem frame_kernel4Ideal : Cert.quiescent_Kernel4Ideal := fun m ρ _ => Cert.Kernel4Ideal.Gen.frame m ρ

/-- The even layer's projection's reference runs, changes no argument and leaves every counter at zero. -/
theorem frame_reference4 : Cert.quiescent_Reference4Ideal := fun m ρ _ =>
  (θ_run Cert.Reference4Ideal.defs _ _).mono (fun r h => ⟨fun c => (h c).2, sem_eq_zero_of_no_sems rfl r.2⟩)
    (Cert.Reference4Ideal.Value.run m ρ)

/-- The mixing kernel over bit patterns runs, changes no argument and leaves every counter at zero. -/
theorem frame_kernel5 : Cert.quiescent_Kernel5 := fun m ρ _ => Cert.Kernel5.Gen.frame m ρ

/-- The same of the program read over the extended reals. -/
theorem frame_kernel5Ideal : Cert.quiescent_Kernel5Ideal := fun m ρ _ => Cert.Kernel5Ideal.Gen.frame m ρ

/-- The mixing's reference runs, changes no argument and leaves every counter at zero. -/
theorem frame_reference5 : Cert.quiescent_Reference5Ideal := fun m ρ _ =>
  (θ_run Cert.Reference5Ideal.defs _ _).mono (fun r h => ⟨fun c => (h c).2, sem_eq_zero_of_no_sems rfl r.2⟩)
    (Cert.Reference5Ideal.Value.run m ρ)

/-- The named constant of the mixing kernel is the scale it stands for. -/
theorem preserves5 : Cert.preserves_Kernel5_Kernel5Ideal :=
  IdealRules.named_const.statement Cert.Kernel5Ideal.κ "qk_scale" .f32 0x3E0293EE#32 ((((Real.sqrt 128) * (Real.log 2))⁻¹ : ℝ) : EReal) rfl

/-- The even layer's mixing kernel over bit patterns runs, changes no argument and leaves every counter at zero. -/
theorem frame_kernel6 : Cert.quiescent_Kernel6 := fun m ρ _ => Cert.Kernel6.Gen.frame m ρ

/-- The same of the program read over the extended reals. -/
theorem frame_kernel6Ideal : Cert.quiescent_Kernel6Ideal := fun m ρ _ => Cert.Kernel6Ideal.Gen.frame m ρ

/-- The even layer's mixing's reference runs, changes no argument and leaves every counter at zero. -/
theorem frame_reference6 : Cert.quiescent_Reference6Ideal := fun m ρ _ =>
  (θ_run Cert.Reference6Ideal.defs _ _).mono (fun r h => ⟨fun c => (h c).2, sem_eq_zero_of_no_sems rfl r.2⟩)
    (Cert.Reference6Ideal.Value.run m ρ)

/-- The named constant of the even layer's mixing kernel is the scale it stands for. -/
theorem preserves6 : Cert.preserves_Kernel6_Kernel6Ideal :=
  IdealRules.named_const.statement Cert.Kernel6Ideal.κ "qk_scale" .f32 0x3E0293EE#32 ((((Real.sqrt 128) * (Real.log 2))⁻¹ : ℝ) : EReal) rfl

/-- The kernel of the memory's keys and values over bit patterns runs, changes no argument and leaves every counter at zero. -/
theorem frame_kernel7 : Cert.quiescent_Kernel7 := fun m ρ _ => Cert.Kernel7.Gen.frame m ρ

/-- The same of the program read over the extended reals. -/
theorem frame_kernel7Ideal : Cert.quiescent_Kernel7Ideal := fun m ρ _ => Cert.Kernel7Ideal.Gen.frame m ρ

/-- Its reference runs, changes no argument and leaves every counter at zero. -/
theorem frame_reference7 : Cert.quiescent_Reference7Ideal := fun m ρ _ =>
  (θ_run Cert.Reference7Ideal.defs _ _).mono (fun r h => ⟨fun c => (h c).2, sem_eq_zero_of_no_sems rfl r.2⟩)
    (Cert.Reference7Ideal.Value.run m ρ)

/-- The shape relations of the attention's precondition. -/
theorem facts_finite : Cert.Pre_finite.Facts := ⟨by decide, by decide, by decide⟩

/-- The shape relations of the mixing's precondition. -/
theorem facts_finite_scores : Cert.Pre_finite_scores.Facts := ⟨by decide, by decide, by decide, by decide⟩

/-- The same for the even layer. -/
theorem facts_finite_scores6 : Cert.Pre_finite_scores6.Facts := ⟨by decide, by decide, by decide, by decide⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, facts_finite, facts_finite_scores, facts_finite_scores6,
  frame_kernel, frame_kernelIdeal, fun m ρ _ => frame_kernelIdeal m ρ trivial, frame_reference,
  fun m ρ _ => frame_reference m ρ trivial, frame_kernel2, frame_kernel2Ideal, frame_reference2,
  frame_kernel3, frame_kernel3Ideal, frame_reference3, frame_kernel4, frame_kernel4Ideal, frame_reference4,
  frame_kernel5, frame_kernel5Ideal, fun m ρ _ => frame_kernel5Ideal m ρ trivial, frame_reference5,
  fun m ρ _ => frame_reference5 m ρ trivial,
  frame_kernel6, frame_kernel6Ideal, fun m ρ _ => frame_kernel6Ideal m ρ trivial, frame_reference6,
  fun m ρ _ => frame_reference6 m ρ trivial, frame_kernel7, frame_kernel7Ideal, frame_reference7, trivial,
  Cert.KernelIdeal.Diff.algebraic (hPre := facts_finite), trivial, Cert.Kernel2Ideal.Mlp.algebraic, trivial,
  Cert.Kernel3Ideal.Proj.algebraic, trivial, Cert.Kernel4Ideal.Proj.algebraic, preserves5,
  Cert.Kernel5Ideal.Post.algebraic (hPre := facts_finite_scores), preserves6,
  Cert.Kernel6Ideal.Post.algebraic (hPre := facts_finite_scores6), trivial, Cert.Kernel7Ideal.Kv.algebraic⟩

end Cert.Proof

end
